-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_v105) = v3 c
          ∧ r.2.mem ((c.tc : Thread Cert.ReferenceIdeal.nD Cert.ReferenceIdeal.τ).loc Cert.ReferenceIdeal.main_v165) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v5) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)) (v2 : (c : Dev Cert.Kernel15Ideal.nD) → Buf (Elt Ideal) ((c.tc : Thread Cert.Kernel15Ideal.nD Cert.Kernel15Ideal.τ).loc Cert.Kernel15Ideal.main_v4_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_v4_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v24) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v26) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v26) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v4_0)) (v1 : (c : Dev Cert.Kernel24Ideal.nD) → Buf (Elt Ideal) ((c.tc : Thread Cert.Kernel24Ideal.nD Cert.Kernel24Ideal.τ).loc Cert.Kernel24Ideal.main_v4_1)) (v2 : (c : Dev Cert.Kernel24Ideal.nD) → Buf (Elt Ideal) ((c.tc : Thread Cert.Kernel24Ideal.nD Cert.Kernel24Ideal.τ).loc Cert.Kernel24Ideal.main_v4_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v4_0) = v0 c
          ∧ r.2.mem ((c.tc : Thread Cert.Kernel24Ideal.nD Cert.Kernel24Ideal.τ).loc Cert.Kernel24Ideal.main_v4_1) = v1 c
          ∧ r.2.mem ((c.tc : Thread Cert.Kernel24Ideal.nD Cert.Kernel24Ideal.τ).loc Cert.Kernel24Ideal.main_v4_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v26) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)) (v2 : (c : Dev Cert.Kernel25Ideal.nD) → Buf (Elt Ideal) ((c.tc : Thread Cert.Kernel25Ideal.nD Cert.Kernel25Ideal.τ).loc Cert.Kernel25Ideal.main_v4_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_v4_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v26) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v6) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v1_0)) (v1 : (c : Dev Cert.Kernel29Ideal.nD) → Buf (Elt Ideal) ((c.tc : Thread Cert.Kernel29Ideal.nD Cert.Kernel29Ideal.τ).loc Cert.Kernel29Ideal.main_v1_1)) (v2 : (c : Dev Cert.Kernel29Ideal.nD) → Buf (Elt Ideal) ((c.tc : Thread Cert.Kernel29Ideal.nD Cert.Kernel29Ideal.τ).loc Cert.Kernel29Ideal.main_v1_2)) (v3 : (c : Dev Cert.Kernel29Ideal.nD) → Buf (Elt Ideal) ((c.tc : Thread Cert.Kernel29Ideal.nD Cert.Kernel29Ideal.τ).loc Cert.Kernel29Ideal.main_v1_3)) (v4 : (c : Dev Cert.Kernel29Ideal.nD) → Buf (Elt Ideal) ((c.tc : Thread Cert.Kernel29Ideal.nD Cert.Kernel29Ideal.τ).loc Cert.Kernel29Ideal.main_v1_4)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1_0) = v0 c
          ∧ r.2.mem ((c.tc : Thread Cert.Kernel29Ideal.nD Cert.Kernel29Ideal.τ).loc Cert.Kernel29Ideal.main_v1_1) = v1 c
          ∧ r.2.mem ((c.tc : Thread Cert.Kernel29Ideal.nD Cert.Kernel29Ideal.τ).loc Cert.Kernel29Ideal.main_v1_2) = v2 c
          ∧ r.2.mem ((c.tc : Thread Cert.Kernel29Ideal.nD Cert.Kernel29Ideal.τ).loc Cert.Kernel29Ideal.main_v1_3) = v3 c
          ∧ r.2.mem ((c.tc : Thread Cert.Kernel29Ideal.nD Cert.Kernel29Ideal.τ).loc Cert.Kernel29Ideal.main_v1_4) = v4 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v58) = v0 c
          ∧ r.2.mem ((c.tc : Thread Cert.Reference29Ideal.nD Cert.Reference29Ideal.τ).loc Cert.Reference29Ideal.main_v50) = v1 c
          ∧ r.2.mem ((c.tc : Thread Cert.Reference29Ideal.nD Cert.Reference29Ideal.τ).loc Cert.Reference29Ideal.main_v59) = v2 c
          ∧ r.2.mem ((c.tc : Thread Cert.Reference29Ideal.nD Cert.Reference29Ideal.τ).loc Cert.Reference29Ideal.main_v60) = v3 c
          ∧ r.2.mem ((c.tc : Thread Cert.Reference29Ideal.nD Cert.Reference29Ideal.τ).loc Cert.Reference29Ideal.main_v57) = v4 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v4) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v18) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v5) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)
      ∧ m' ((c.tc : Thread Cert.Reference34Ideal.nD Cert.Reference34Ideal.τ).loc Cert.Reference34Ideal.main_arg4) = m ((c.tc : Thread Cert.Kernel34Ideal.nD Cert.Kernel34Ideal.τ).loc Cert.Kernel34Ideal.main_arg4)) →
    ∃ (v0 : (c : Dev Cert.Kernel34Ideal.nD) → Buf (Elt Ideal) ((c.tc : Thread Cert.Kernel34Ideal.nD Cert.Kernel34Ideal.τ).loc Cert.Kernel34Ideal.main_v2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v2) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v68) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3)
          ∧ r.2.mem ((c.tc : Thread Cert.Reference34Ideal.nD Cert.Reference34Ideal.τ).loc Cert.Reference34Ideal.main_arg4) = m' ((c.tc : Thread Cert.Reference34Ideal.nD Cert.Reference34Ideal.τ).loc Cert.Reference34Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Kernel.lean ====
abbrev S4096x6144 : Shape := ⟨2, ![4096, 6144]⟩
abbrev S1x2048 : Shape := ⟨2, ![1, 2048]⟩
abbrev S16x128x128 : Shape := ⟨3, ![16, 128, 128]⟩
abbrev S16x128 : Shape := ⟨2, ![16, 128]⟩
abbrev S4096x2048 : Shape := ⟨2, ![4096, 2048]⟩
abbrev S128x16 : Shape := ⟨2, ![128, 16]⟩
abbrev S_ : Shape := ⟨0, ![]⟩
abbrev S128x128 : Shape := ⟨2, ![128, 128]⟩
abbrev S128x6144 : Shape := ⟨2, ![128, 6144]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩
abbrev S128x1920 : Shape := ⟨2, ![128, 1920]⟩
abbrev S15x128x128 : Shape := ⟨3, ![15, 128, 128]⟩
abbrev S128x1792 : Shape := ⟨2, ![128, 1792]⟩
abbrev S14x128x128 : Shape := ⟨3, ![14, 128, 128]⟩
abbrev S128x1664 : Shape := ⟨2, ![128, 1664]⟩
abbrev S128x256 : Shape := ⟨2, ![128, 256]⟩
abbrev S13x128x128 : Shape := ⟨3, ![13, 128, 128]⟩
abbrev S2x128x128 : Shape := ⟨3, ![2, 128, 128]⟩
abbrev S128x1536 : Shape := ⟨2, ![128, 1536]⟩
abbrev S128x384 : Shape := ⟨2, ![128, 384]⟩
abbrev S12x128x128 : Shape := ⟨3, ![12, 128, 128]⟩
abbrev S3x128x128 : Shape := ⟨3, ![3, 128, 128]⟩
abbrev S128x1408 : Shape := ⟨2, ![128, 1408]⟩
abbrev S128x512 : Shape := ⟨2, ![128, 512]⟩
abbrev S11x128x128 : Shape := ⟨3, ![11, 128, 128]⟩
abbrev S4x128x128 : Shape := ⟨3, ![4, 128, 128]⟩
abbrev S128x1280 : Shape := ⟨2, ![128, 1280]⟩
abbrev S128x640 : Shape := ⟨2, ![128, 640]⟩
abbrev S10x128x128 : Shape := ⟨3, ![10, 128, 128]⟩
abbrev S5x128x128 : Shape := ⟨3, ![5, 128, 128]⟩
abbrev S128x1152 : Shape := ⟨2, ![128, 1152]⟩
abbrev S128x768 : Shape := ⟨2, ![128, 768]⟩
abbrev S9x128x128 : Shape := ⟨3, ![9, 128, 128]⟩
abbrev S6x128x128 : Shape := ⟨3, ![6, 128, 128]⟩
abbrev S128x1024 : Shape := ⟨2, ![128, 1024]⟩
abbrev S128x896 : Shape := ⟨2, ![128, 896]⟩
abbrev S8x128x128 : Shape := ⟨3, ![8, 128, 128]⟩
abbrev S7x128x128 : Shape := ⟨3, ![7, 128, 128]⟩
abbrev S2048 : Shape := ⟨1, ![2048]⟩
abbrev S128x4096 : Shape := ⟨2, ![128, 4096]⟩

abbrev nBuf : Space → Nat
  | .hbm => 15
  | .vmem => 14
  | .smem => 0
  | _ => 0

abbrev bufTy : (tb : Table) → Fin (tcTables nBuf tb) → BufTy
  | .hbm, ⟨0, _⟩ => ⟨S4096x6144, .f32⟩
  | .hbm, ⟨1, _⟩ => ⟨S1x2048, .f32⟩
  | .hbm, ⟨2, _⟩ => ⟨S1x2048, .f32⟩
  | .hbm, ⟨3, _⟩ => ⟨S16x128x128, .f32⟩
  | .hbm, ⟨4, _⟩ => ⟨S16x128, .f32⟩
  | .hbm, ⟨5, _⟩ => ⟨S4096x2048, .f32⟩
  | .hbm, ⟨6, _⟩ => ⟨S128x16, .f32⟩
  | .hbm, ⟨7, _⟩ => ⟨S_, .i32⟩
  | .hbm, ⟨8, _⟩ => ⟨S_, .f32⟩
  | .hbm, ⟨9, _⟩ => ⟨S128x128, .f32⟩
  | .hbm, ⟨10, _⟩ => ⟨S4096x6144, .bf16⟩
  | .hbm, ⟨11, _⟩ => ⟨S1x2048, .f32⟩
  | .hbm, ⟨12, _⟩ => ⟨S1x2048, .f32⟩
  | .hbm, ⟨13, _⟩ => ⟨S16x128x128, .f32⟩
  | .hbm, ⟨14, _⟩ => ⟨S128x128, .f32⟩
  | .local _ .vmem, ⟨0, _⟩ => ⟨S128x6144, .f32⟩
  | .local _ .vmem, ⟨1, _⟩ => ⟨S128x6144, .f32⟩
  | .local _ .vmem, ⟨2, _⟩ => ⟨S1x2048, .f32⟩
  | .local _ .vmem, ⟨3, _⟩ => ⟨S1x2048, .f32⟩
  | .local _ .vmem, ⟨4, _⟩ => ⟨S16x128x128, .f32⟩
  | .local _ .vmem, ⟨5, _⟩ => ⟨S128x128, .f32⟩
  | .local _ .vmem, ⟨6, _⟩ => ⟨S128x2048, .f32⟩
  | .local _ .vmem, ⟨7, _⟩ => ⟨S128x2048, .f32⟩
  | .local _ .vmem, ⟨8, _⟩ => ⟨S128x6144, .bf16⟩
  | .local _ .vmem, ⟨9, _⟩ => ⟨S128x6144, .bf16⟩
  | .local _ .vmem, ⟨10, _⟩ => ⟨S1x2048, .f32⟩
  | .local _ .vmem, ⟨11, _⟩ => ⟨S1x2048, .f32⟩
  | .local _ .vmem, ⟨12, _⟩ => ⟨S16x128x128, .f32⟩
  | .local _ .vmem, ⟨13, _⟩ => ⟨S128x128, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_173 : BitVec 32 := 0#32
  let v590 : BitVec 1 := Scalar.cmpi .eq arg0 c0_i32_173
  let v591 : BitVec 32 := Scalar.extui v590
  let c0_i32_174 : BitVec 32 := 0#32
  let v592 : BitVec 1 := Scalar.cmpi .ne v591 c0_i32_174
  v592

def k0_cond2 (i : grid0.Coords) : BitVec 1 :=
  let arg0 : BitVec 32 := BitVec.ofNat 32 (i 0).val
  let c0_i32_173 : BitVec 32 := 0#32
  let v590 : BitVec 1 := Scalar.cmpi .eq arg0 c0_i32_173
  let v_true : BitVec 1 := 1#1
  let v593 : BitVec 1 := Scalar.xori v590 v_true
  let v594 : BitVec 32 := Scalar.extui v593
  let c0_i32_175 : BitVec 32 := 0#32
  let v595 : BitVec 1 := Scalar.cmpi .ne v594 c0_i32_175
  v595

def k0_cond3 (i : grid0.Coords) : BitVec 1 :=
  let arg0 : BitVec 32 := BitVec.ofNat 32 (i 0).val
  let c0_i32_173 : BitVec 32 := 0#32
  let v590 : BitVec 1 := Scalar.cmpi .eq arg0 c0_i32_173
  let v596 : BitVec 32 := Scalar.extui v590
  let c0_i32_176 : BitVec 32 := 0#32
  let v597 : BitVec 1 := Scalar.cmpi .ne v596 c0_i32_176
  v597

def k0_cond4 (i : grid0.Coords) : BitVec 1 :=
  let arg0 : BitVec 32 := BitVec.ofNat 32 (i 0).val
  let c0_i32_173 : BitVec 32 := 0#32
  let v590 : BitVec 1 := Scalar.cmpi .eq arg0 c0_i32_173
  let true_177 : BitVec 1 := 1#1
  let v598 : BitVec 1 := Scalar.xori v590 true_177
  let v599 : BitVec 32 := Scalar.extui v598
  let c0_i32_178 : BitVec 32 := 0#32
  let v600 : BitVec 1 := Scalar.cmpi .ne v599 c0_i32_178
  v600

def k0_cond5 (i : grid0.Coords) : BitVec 1 :=
  let arg0 : BitVec 32 := BitVec.ofNat 32 (i 0).val
  let c0_i32_173 : BitVec 32 := 0#32
  let v590 : BitVec 1 := Scalar.cmpi .eq arg0 c0_i32_173
  let v601 : BitVec 32 := Scalar.extui v590
  let c0_i32_179 : BitVec 32 := 0#32
  let v602 : BitVec 1 := Scalar.cmpi .ne v601 c0_i32_179
  v602

def k0_cond6 (i : grid0.Coords) : BitVec 1 :=
  let arg0 : BitVec 32 := BitVec.ofNat 32 (i 0).val
  let c0_i32_173 : BitVec 32 := 0#32
  let v590 : BitVec 1 := Scalar.cmpi .eq arg0 c0_i32_173
  let true_180 : BitVec 1 := 1#1
  let v603 : BitVec 1 := Scalar.xori v590 true_180
  let v604 : BitVec 32 := Scalar.extui v603
  let c0_i32_181 : BitVec 32 := 0#32
  let v605 : BitVec 1 := Scalar.cmpi .ne v604 c0_i32_181
  v605

def k0_cond7 (i : grid0.Coords) : BitVec 1 :=
  let arg0 : BitVec 32 := BitVec.ofNat 32 (i 0).val
  let c0_i32_173 : BitVec 32 := 0#32
  let v590 : BitVec 1 := Scalar.cmpi .eq arg0 c0_i32_173
  let v606 : BitVec 32 := Scalar.extui v590
  let c0_i32_182 : BitVec 32 := 0#32
  let v607 : BitVec 1 := Scalar.cmpi .ne v606 c0_i32_182
  v607

def k0_cond8 (i : grid0.Coords) : BitVec 1 :=
  let arg0 : BitVec 32 := BitVec.ofNat 32 (i 0).val
  let c0_i32_173 : BitVec 32 := 0#32
  let v590 : BitVec 1 := Scalar.cmpi .eq arg0 c0_i32_173
  let true_183 : BitVec 1 := 1#1
  let v608 : BitVec 1 := Scalar.xori v590 true_183
  let v609 : BitVec 32 := Scalar.extui v608
  let c0_i32_184 : BitVec 32 := 0#32
  let v610 : BitVec 1 := Scalar.cmpi .ne v609 c0_i32_184
  v610

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x6144 : Shape := ⟨2, ![4096, 6144]⟩
abbrev S1x2048 : Shape := ⟨2, ![1, 2048]⟩
abbrev S16x128x128 : Shape := ⟨3, ![16, 128, 128]⟩
abbrev S16x128 : Shape := ⟨2, ![16, 128]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S32x128x16x128 : Shape := ⟨4, ![32, 128, 16, 128]⟩
abbrev S128x128 : Shape := ⟨2, ![128, 128]⟩
abbrev S1x128x128 : Shape := ⟨3, ![1, 128, 128]⟩
abbrev S16x32x128x128 : Shape := ⟨4, ![16, 32, 128, 128]⟩
abbrev S128x16 : Shape := ⟨2, ![128, 16]⟩
abbrev S128x16x1 : Shape := ⟨3, ![128, 16, 1]⟩
abbrev S1x128x16x1 : Shape := ⟨4, ![1, 128, 16, 1]⟩
abbrev S2048 : Shape := ⟨1, ![2048]⟩

abbrev nBuf : Space → Nat
  | .hbm => 243
  | .vmem => 0
  | .smem => 0
  | _ => 0

abbrev hbmTy0_0 (i : Nat) : BufTy := match i % 128 with
  | 0 => ⟨S4096x6144, .f32⟩
  | 1 => ⟨S1x2048, .f32⟩
  | 2 => ⟨S1x2048, .f32⟩
  | 3 => ⟨S16x128x128, .f32⟩
  | 4 => ⟨S16x128, .f32⟩
  | 5 => ⟨S4096x2048, .f32⟩
  | 6 => ⟨S4096x2048, .f32⟩
  | 7 => ⟨S4096x2048, .f32⟩
  | 8 => ⟨S4096x2048, .f32⟩
  | 9 => ⟨S4096x2048, .f32⟩
  | 10 => ⟨S4096x2048, .f32⟩
  | 11 => ⟨S4096x2048, .f32⟩
  | 12 => ⟨S_, .f32⟩
  | 13 => ⟨S4096x2048, .f32⟩
  | 14 => ⟨S4096x2048, .f32⟩
  | 15 => ⟨S_, .f32⟩
  | 16 => ⟨S4096x2048, .f32⟩
  | 17 => ⟨S4096x2048, .f32⟩
  | 18 => ⟨S4096x2048, .f32⟩
  | 19 => ⟨S_, .f32⟩
  | 20 => ⟨S4096x2048, .f32⟩
  | 21 => ⟨S4096x2048, .f32⟩
  | 22 => ⟨S4096x2048, .f32⟩
  | 23 => ⟨S_, .f32⟩
  | 24 => ⟨S4096x2048, .f32⟩
  | 25 => ⟨S4096x2048, .f32⟩
  | 26 => ⟨S_, .f32⟩
  | 27 => ⟨S4096x2048, .f32⟩
  | 28 => ⟨S4096x2048, .f32⟩
  | 29 => ⟨S4096x2048, .f32⟩
  | 30 => ⟨S_, .f32⟩
  | 31 => ⟨S4096x2048, .f32⟩
  | 32 => ⟨S4096x2048, .f32⟩
  | 33 => ⟨S_, .f32⟩
  | 34 => ⟨S4096x2048, .f32⟩
  | 35 => ⟨S4096x2048, .f32⟩
  | 36 => ⟨S4096x2048, .f32⟩
  | 37 => ⟨S4096x2048, .f32⟩
  | 38 => ⟨S4096x2048, .f32⟩
  | 39 => ⟨S4096x2048, .f32⟩
  | 40 => ⟨S_, .f32⟩
  | 41 => ⟨S4096x2048, .f32⟩
  | 42 => ⟨S4096x2048, .f32⟩
  | 43 => ⟨S_, .f32⟩
  | 44 => ⟨S4096x2048, .f32⟩
  | 45 => ⟨S4096x2048, .f32⟩
  | 46 => ⟨S4096x2048, .f32⟩
  | 47 => ⟨S_, .f32⟩
  | 48 => ⟨S4096x2048, .f32⟩
  | 49 => ⟨S4096x2048, .f32⟩
  | 50 => ⟨S4096x2048, .f32⟩
  | 51 => ⟨S_, .f32⟩
  | 52 => ⟨S4096x2048, .f32⟩
  | 53 => ⟨S4096x2048, .f32⟩
  | 54 => ⟨S_, .f32⟩
  | 55 => ⟨S4096x2048, .f32⟩
  | 56 => ⟨S4096x2048, .f32⟩
  | 57 => ⟨S4096x2048, .f32⟩
  | 58 => ⟨S_, .f32⟩
  | 59 => ⟨S4096x2048, .f32⟩
  | 60 => ⟨S4096x2048, .f32⟩
  | 61 => ⟨S_, .f32⟩
  | 62 => ⟨S4096x2048, .f32⟩
  | 63 => ⟨S4096x2048, .f32⟩
  | 64 => ⟨S4096x2048, .f32⟩
  | 65 => ⟨S_, .f32⟩
  | 66 => ⟨S4096, .f32⟩
  | 67 => ⟨S4096x1, .f32⟩
  | 68 => ⟨S_, .f32⟩
  | 69 => ⟨S4096x1, .f32⟩
  | 70 => ⟨S4096x1, .f32⟩
  | 71 => ⟨S4096x2048, .f32⟩
  | 72 => ⟨S4096x2048, .f32⟩
  | 73 => ⟨S4096x2048, .f32⟩
  | 74 => ⟨S_, .f32⟩
  | 75 => ⟨S4096x2048, .f32⟩
  | 76 => ⟨S4096x2048, .f32⟩
  | 77 => ⟨S_, .f32⟩
  | 78 => ⟨S4096, .f32⟩
  | 79 => ⟨S4096x1, .f32⟩
  | 80 => ⟨S_, .f32⟩
  | 81 => ⟨S4096x1, .f32⟩
  | 82 => ⟨S4096x1, .f32⟩
  | 83 => ⟨S4096x2048, .f32⟩
  | 84 => ⟨S4096x2048, .f32⟩
  | 85 => ⟨S_, .f32⟩
  | 86 => ⟨S4096x1, .f32⟩
  | 87 => ⟨S4096x1, .f32⟩
  | 88 => ⟨S4096x1, .f32⟩
  | 89 => ⟨S4096x1, .f32⟩
  | 90 => ⟨S_, .f32⟩
  | 91 => ⟨S4096x1, .f32⟩
  | 92 => ⟨S4096x1, .f32⟩
  | 93 => ⟨S4096x2048, .f32⟩
  | 94 => ⟨S4096x2048, .f32⟩
  | 95 => ⟨S4096x2048, .f32⟩
  | 96 => ⟨S4096x2048, .f32⟩
  | 97 => ⟨S4096x2048, .f32⟩
  | 98 => ⟨S4096x2048, .f32⟩
  | 99 => ⟨S32x128x16x128, .f32⟩
  | 100 => ⟨S_, .i1⟩
  | 101 => ⟨S128x128, .i1⟩
  | 102 => ⟨S128x128, .i32⟩
  | 103 => ⟨S_, .i32⟩
  | 104 => ⟨S128x128, .i32⟩
  | 105 => ⟨S128x128, .i32⟩
  | 106 => ⟨S128x128, .i32⟩
  | 107 => ⟨S128x128, .i1⟩
  | 108 => ⟨S_, .i1⟩
  | 109 => ⟨S128x128, .i1⟩
  | 110 => ⟨S128x128, .i1⟩
  | 111 => ⟨S1x128x128, .i1⟩
  | 112 => ⟨S_, .f32⟩
  | 113 => ⟨S16x128x128, .f32⟩
  | 114 => ⟨S16x128x128, .i1⟩
  | 115 => ⟨S16x128x128, .f32⟩
  | 116 => ⟨S_, .f32⟩
  | 117 => ⟨S16x128x128, .f32⟩
  | 118 => ⟨S16x32x128x128, .f32⟩
  | 119 => ⟨S32x128x16x128, .f32⟩
  | 120 => ⟨S128x16, .f32⟩
  | 121 => ⟨S128x16x1, .f32⟩
  | 122 => ⟨S1x128x16x1, .f32⟩
  | 123 => ⟨S32x128x16x128, .f32⟩
  | 124 => ⟨S32x128x16x128, .f32⟩
  | 125 => ⟨S4096x2048, .f32⟩
  | 126 => ⟨S4096x2048, .f32⟩
  | 127 => ⟨S4096x2048, .f32⟩
  | _ => ⟨S4096x6144, .f32⟩

abbrev hbmTy0_1 (i : Nat) : BufTy := match i % 128 with
  | 0 => ⟨S4096x2048, .f32⟩
  | 1 => ⟨S_, .f32⟩
  | 2 => ⟨S4096x2048, .f32⟩
  | 3 => ⟨S4096x2048, .f32⟩
  | 4 => ⟨S_, .f32⟩
  | 5 => ⟨S4096x2048, .f32⟩
  | 6 => ⟨S4096x2048, .f32⟩
  | 7 => ⟨S_, .f32⟩
  | 8 => ⟨S4096x2048, .f32⟩
  | 9 => ⟨S4096x2048, .f32⟩
  | 10 => ⟨S4096x2048, .f32⟩
  | 11 => ⟨S4096x2048, .f32⟩
  | 12 => ⟨S4096x2048, .f32⟩
  | 13 => ⟨S4096x2048, .f32⟩
  | 14 => ⟨S4096x2048, .f32⟩
  | 15 => ⟨S4096x2048, .f32⟩
  | 16 => ⟨S4096x2048, .f32⟩
  | 17 => ⟨S4096x2048, .f32⟩
  | 18 => ⟨S4096x2048, .f32⟩
  | 19 => ⟨S4096x2048, .f32⟩
  | 20 => ⟨S4096x2048, .f32⟩
  | 21 => ⟨S32x128x16x128, .f32⟩
  | 22 => ⟨S_, .f32⟩
  | 23 => ⟨S128x16, .f32⟩
  | 24 => ⟨S1x128x16x1, .f32⟩
  | 25 => ⟨S_, .f32⟩
  | 26 => ⟨S128x16, .f32⟩
  | 27 => ⟨S128x16x1, .f32⟩
  | 28 => ⟨S_, .f32⟩
  | 29 => ⟨S128x16, .f32⟩
  | 30 => ⟨S16x128, .f32⟩
  | 31 => ⟨S16x32x128x128, .f32⟩
  | 32 => ⟨S16x128x128, .f32⟩
  | 33 => ⟨S16x32x128x128, .f32⟩
  | 34 => ⟨S32x128x16x128, .f32⟩
  | 35 => ⟨S_, .f32⟩
  | 36 => ⟨S16x128x128, .f32⟩
  | 37 => ⟨S16x128x128, .f32⟩
  | 38 => ⟨S4096x2048, .f32⟩
  | 39 => ⟨S_, .f32⟩
  | 40 => ⟨S2048, .f32⟩
  | 41 => ⟨S1x2048, .f32⟩
  | 42 => ⟨S4096x2048, .f32⟩
  | 43 => ⟨S_, .f32⟩
  | 44 => ⟨S2048, .f32⟩
  | 45 => ⟨S1x2048, .f32⟩
  | 46 => ⟨S4096x2048, .f32⟩
  | 47 => ⟨S4096x2048, .f32⟩
  | 48 => ⟨S4096x2048, .f32⟩
  | 49 => ⟨S_, .f32⟩
  | 50 => ⟨S4096, .f32⟩
  | 51 => ⟨S4096x1, .f32⟩
  | 52 => ⟨S4096x2048, .f32⟩
  | 53 => ⟨S4096x2048, .f32⟩
  | 54 => ⟨S4096x1, .f32⟩
  | 55 => ⟨S4096x2048, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096, .f32⟩
  | 64 => ⟨S4096x2048, .f32⟩
  | 65 => ⟨S4096x2048, .f32⟩
  | 66 => ⟨S4096x2048, .f32⟩
  | 67 => ⟨S_, .f32⟩
  | 68 => ⟨S4096, .f32⟩
  | 69 => ⟨S4096x1, .f32⟩
  | 70 => ⟨S4096x2048, .f32⟩
  | 71 => ⟨S4096x1, .f32⟩
  | 72 => ⟨S_, .f32⟩
  | 73 => ⟨S4096x1, .f32⟩
  | 74 => ⟨S4096x1, .f32⟩
  | 75 => ⟨S_, .f32⟩
  | 76 => ⟨S4096, .f32⟩
  | 77 => ⟨S4096x2048, .f32⟩
  | 78 => ⟨S4096x2048, .f32⟩
  | 79 => ⟨S4096x2048, .f32⟩
  | 80 => ⟨S4096x2048, .f32⟩
  | 81 => ⟨S_, .f32⟩
  | 82 => ⟨S4096x2048, .f32⟩
  | 83 => ⟨S4096x2048, .f32⟩
  | 84 => ⟨S4096x2048, .f32⟩
  | 85 => ⟨S_, .f32⟩
  | 86 => ⟨S4096x2048, .f32⟩
  | 87 => ⟨S4096x2048, .f32⟩
  | 88 => ⟨S4096x2048, .f32⟩
  | 89 => ⟨S_, .f32⟩
  | 90 => ⟨S4096x2048, .f32⟩
  | 91 => ⟨S4096x2048, .f32⟩
  | 92 => ⟨S4096x2048, .f32⟩
  | 93 => ⟨S4096x2048, .f32⟩
  | 94 => ⟨S4096x2048, .f32⟩
  | 95 => ⟨S4096x2048, .f32⟩
  | 96 => ⟨S_, .f32⟩
  | 97 => ⟨S4096x2048, .f32⟩
  | 98 => ⟨S4096x2048, .f32⟩
  | 99 => ⟨S4096x2048, .f32⟩
  | 100 => ⟨S_, .f32⟩
  | 101 => ⟨S4096x2048, .f32⟩
  | 102 => ⟨S4096x2048, .f32⟩
  | 103 => ⟨S4096x2048, .f32⟩
  | 104 => ⟨S_, .f32⟩
  | 105 => ⟨S4096x2048, .f32⟩
  | 106 => ⟨S4096x2048, .f32⟩
  | 107 => ⟨S4096x2048, .f32⟩
  | 108 => ⟨S4096x2048, .f32⟩
  | 109 => ⟨S4096x6144, .f32⟩
  | 110 => ⟨S4096x6144, .bf16⟩
  | 111 => ⟨S128x16, .f32⟩
  | 112 => ⟨S_, .i32⟩
  | 113 => ⟨S_, .f32⟩
  | 114 => ⟨S128x128, .f32⟩
  | _ => ⟨S4096x6144, .f32⟩

abbrev hbmTy (i : Nat) : BufTy := match i / 128 with
  | 0 => hbmTy0_0 i
  | 1 => hbmTy0_1 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_18 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_19 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c : Ref sig .tc := ⟨.hbm, 100, rfl⟩
abbrev main_v73 : Ref sig .tc := ⟨.hbm, 101, rfl⟩
abbrev main_call0_v0 : Ref sig .tc := ⟨.hbm, 102, rfl⟩
abbrev main_call0_c : Ref sig .tc := ⟨.hbm, 103, rfl⟩
abbrev main_call0_v1 : Ref sig .tc := ⟨.hbm, 104, rfl⟩
abbrev main_call0_v2 : Ref sig .tc := ⟨.hbm, 105, rfl⟩
abbrev main_call0_v3 : Ref sig .tc := ⟨.hbm, 106, rfl⟩
abbrev main_call0_v4 : Ref sig .tc := ⟨.hbm, 107, rfl⟩
abbrev main_call0_c_0 : Ref sig .tc := ⟨.hbm, 108, rfl⟩
abbrev main_call0_v5 : Ref sig .tc := ⟨.hbm, 109, rfl⟩
abbrev main_v74 : Ref sig .tc := ⟨.hbm, 110, rfl⟩
abbrev main_v75 : Ref sig .tc := ⟨.hbm, 111, rfl⟩
abbrev main_cst_20 : Ref sig .tc := ⟨.hbm, 112, rfl⟩
abbrev main_v76 : Ref sig .tc := ⟨.hbm, 113, rfl⟩
abbrev main_v77_1 : Ref sig .tc := ⟨.hbm, 114, rfl⟩
abbrev main_v77_0 : Ref sig .tc := ⟨.hbm, 115, rfl⟩
abbrev main_call1_cst : Ref sig .tc := ⟨.hbm, 116, rfl⟩
abbrev main_v77_2 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_call2_v0 : Ref sig .tc := ⟨.hbm, 127, rfl⟩
abbrev main_call2_v1 : Ref sig .tc := ⟨.hbm, 128, rfl⟩
abbrev main_call2_cst : Ref sig .tc := ⟨.hbm, 129, rfl⟩
abbrev main_call2_v2 : Ref sig .tc := ⟨.hbm, 130, rfl⟩
abbrev main_call2_v3 : Ref sig .tc := ⟨.hbm, 131, rfl⟩
abbrev main_call2_cst_0 : Ref sig .tc := ⟨.hbm, 132, rfl⟩
abbrev main_call2_v4 : Ref sig .tc := ⟨.hbm, 133, rfl⟩
abbrev main_v87_2 : Ref sig .tc := ⟨.hbm, 134, rfl⟩
abbrev main_call2_cst_1 : Ref sig .tc := ⟨.hbm, 135, rfl⟩
abbrev main_call2_v6 : Ref sig .tc := ⟨.hbm, 136, rfl⟩
abbrev main_call2_v7 : Ref sig .tc := ⟨.hbm, 137, rfl⟩
abbrev main_v87_1 : Ref sig .tc := ⟨.hbm, 138, rfl⟩
abbrev main_v87_0 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_call3_v0 : Ref sig .tc := ⟨.hbm, 143, rfl⟩
abbrev main_call3_v1 : Ref sig .tc := ⟨.hbm, 144, rfl⟩
abbrev main_call3_v2 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_21 : Ref sig .tc := ⟨.hbm, 150, rfl⟩
abbrev main_v95 : Ref sig .tc := ⟨.hbm, 151, rfl⟩
abbrev main_v96 : Ref sig .tc := ⟨.hbm, 152, rfl⟩
abbrev main_cst_22 : Ref sig .tc := ⟨.hbm, 153, rfl⟩
abbrev main_v97 : Ref sig .tc := ⟨.hbm, 154, rfl⟩
abbrev main_v98 : Ref sig .tc := ⟨.hbm, 155, rfl⟩
abbrev main_cst_23 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_call4_cst : Ref sig .tc := ⟨.hbm, 163, rfl⟩
abbrev main_call4_v0 : Ref sig .tc := ⟨.hbm, 164, rfl⟩
abbrev main_v105 : Ref sig .tc := ⟨.hbm, 165, rfl⟩
abbrev main_v106 : Ref sig .tc := ⟨.hbm, 166, rfl⟩
abbrev main_cst_24 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_cst_25 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_cst_26 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_cst_27 : Ref sig .tc := ⟨.hbm, 184, rfl⟩
abbrev main_v121 : Ref sig .tc := ⟨.hbm, 185, rfl⟩
abbrev main_v122 : Ref sig .tc := ⟨.hbm, 186, rfl⟩
abbrev main_cst_28 : Ref sig .tc := ⟨.hbm, 187, rfl⟩
abbrev main_v123 : Ref sig .tc := ⟨.hbm, 188, rfl⟩
abbrev main_v124 : Ref sig .tc := ⟨.hbm, 189, rfl⟩
abbrev main_cst_29 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_cst_30 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_cst_31 : Ref sig .tc := ⟨.hbm, 200, rfl⟩
abbrev main_v133 : Ref sig .tc := ⟨.hbm, 201, rfl⟩
abbrev main_v134 : Ref sig .tc := ⟨.hbm, 202, rfl⟩
abbrev main_cst_32 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_cst_33 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_cst_34 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_cst_35 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_cst_36 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_cst_37 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_cst_38 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_c_39 : Ref sig .tc := ⟨.hbm, 240, rfl⟩
abbrev main_call5_v0 : Ref sig .tc := ⟨.hbm, 241, rfl⟩
abbrev main_v165 : Ref sig .tc := ⟨.hbm, 242, rfl⟩

abbrev nD : Nat := 1
abbrev τ : Topo := Topo.v7x

variable {F : FTy → Type} [FloatOps F]
-- ==== Kernel2.lean ====
abbrev S2048x2048 : Shape := ⟨2, ![2048, 2048]⟩
abbrev S4096x2048 : Shape := ⟨2, ![4096, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4096x2048 : Shape := ⟨2, ![4096, 2048]⟩
abbrev S2048x2048 : Shape := ⟨2, ![2048, 2048]⟩
abbrev S4096x1024 : Shape := ⟨2, ![4096, 1024]⟩
abbrev S4096x512 : Shape := ⟨2, ![4096, 512]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x2048 : Shape := ⟨2, ![4096, 2048]⟩
abbrev S4096x6144 : Shape := ⟨2, ![4096, 6144]⟩
abbrev S4x2048x1536 : Shape := ⟨3, ![4, 2048, 1536]⟩
abbrev S4096x1024 : Shape := ⟨2, ![4096, 1024]⟩
abbrev S4096x512 : Shape := ⟨2, ![4096, 512]⟩
abbrev S1x1024x512 : Shape := ⟨3, ![1, 1024, 512]⟩
abbrev S8x128 : Shape := ⟨2, ![8, 128]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4x2048x1536, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .f32⟩
  | .local _ .vmem, ⟨5, _⟩ => ⟨S1x1024x512, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩
abbrev S2048x1536 : Shape := ⟨2, ![2048, 1536]⟩
abbrev S1x2048x1536 : Shape := ⟨3, ![1, 2048, 1536]⟩
abbrev S4x2048x1536 : Shape := ⟨3, ![4, 2048, 1536]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S4096x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S2048x1536, .f32⟩
  | .hbm, ⟨10, _⟩ => ⟨S2048x1536, .f32⟩
  | .hbm, ⟨11, _⟩ => ⟨S2048x1536, .f32⟩
  | .hbm, ⟨12, _⟩ => ⟨S2048x1536, .f32⟩
  | .hbm, ⟨13, _⟩ => ⟨S1x2048x1536, .f32⟩
  | .hbm, ⟨14, _⟩ => ⟨S1x2048x1536, .f32⟩
  | .hbm, ⟨15, _⟩ => ⟨S1x2048x1536, .f32⟩
  | .hbm, ⟨16, _⟩ => ⟨S1x2048x1536, .f32⟩
  | .hbm, ⟨17, _⟩ => ⟨S4x2048x1536, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel5.lean ====
abbrev S4x2048x1536 : Shape := ⟨3, ![4, 2048, 1536]⟩
abbrev S4096x6144 : Shape := ⟨2, ![4096, 6144]⟩
abbrev S4x1536x2048 : Shape := ⟨3, ![4, 1536, 2048]⟩
abbrev S6144x2048 : Shape := ⟨2, ![6144, 2048]⟩
abbrev S4096x2048 : Shape := ⟨2, ![4096, 2048]⟩
abbrev S1024x3072 : Shape := ⟨2, ![1024, 3072]⟩
abbrev S3072x1024 : Shape := ⟨2, ![3072, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x1536, .bf16⟩
  | .hbm, ⟨1, _⟩ => ⟨S4096x6144, .bf16⟩
  | .hbm, ⟨2, _⟩ => ⟨S4x1536x2048, .bf16⟩
  | .hbm, ⟨3, _⟩ => ⟨S6144x2048, .bf16⟩
  | .hbm, ⟨4, _⟩ => ⟨S4096x2048, .f32⟩
  | .local _ .vmem, ⟨0, _⟩ => ⟨S1024x3072, .bf16⟩
  | .local _ .vmem, ⟨1, _⟩ => ⟨S1024x3072, .bf16⟩
  | .local _ .vmem, ⟨2, _⟩ => ⟨S3072x1024, .bf16⟩
  | .local _ .vmem, ⟨3, _⟩ => ⟨S3072x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4x2048x1536 : Shape := ⟨3, ![4, 2048, 1536]⟩
abbrev S4096x6144 : Shape := ⟨2, ![4096, 6144]⟩
abbrev S1x2048x1536 : Shape := ⟨3, ![1, 2048, 1536]⟩
abbrev S2048x1536 : Shape := ⟨2, ![2048, 1536]⟩
abbrev S2048x6144 : Shape := ⟨2, ![2048, 6144]⟩
abbrev S_ : Shape := ⟨0, ![]⟩
abbrev S4096x2048 : Shape := ⟨2, ![4096, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x1536, .bf16⟩
  | .hbm, ⟨1, _⟩ => ⟨S4096x6144, .bf16⟩
  | .hbm, ⟨2, _⟩ => ⟨S1x2048x1536, .bf16⟩
  | .hbm, ⟨3, _⟩ => ⟨S2048x1536, .bf16⟩
  | .hbm, ⟨4, _⟩ => ⟨S1x2048x1536, .bf16⟩
  | .hbm, ⟨5, _⟩ => ⟨S2048x1536, .bf16⟩
  | .hbm, ⟨6, _⟩ => ⟨S1x2048x1536, .bf16⟩
  | .hbm, ⟨7, _⟩ => ⟨S2048x1536, .bf16⟩
  | .hbm, ⟨8, _⟩ => ⟨S1x2048x1536, .bf16⟩
  | .hbm, ⟨9, _⟩ => ⟨S2048x1536, .bf16⟩
  | .hbm, ⟨10, _⟩ => ⟨S2048x6144, .bf16⟩
  | .hbm, ⟨11, _⟩ => ⟨S_, .f32⟩
  | .hbm, ⟨12, _⟩ => ⟨S4096x2048, .f32⟩
  | .hbm, ⟨13, _⟩ => ⟨S2048x6144, .f32⟩
  | .hbm, ⟨14, _⟩ => ⟨S4096x6144, .f32⟩
  | .hbm, ⟨15, _⟩ => ⟨S4096x6144, .f32⟩
  | .hbm, ⟨16, _⟩ => ⟨S4096x2048, .f32⟩
  | _, _ => ⟨S4x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel6.lean ====
abbrev S4096x2048 : Shape := ⟨2, ![4096, 2048]⟩
abbrev S4096x4608 : Shape := ⟨2, ![4096, 4608]⟩
abbrev S4x2048x1152 : Shape := ⟨3, ![4, 2048, 1152]⟩
abbrev S4096x1024 : Shape := ⟨2, ![4096, 1024]⟩
abbrev S4096x384 : Shape := ⟨2, ![4096, 384]⟩
abbrev S1x1024x384 : Shape := ⟨3, ![1, 1024, 384]⟩
abbrev S8x128 : Shape := ⟨2, ![8, 128]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4608, .bf16⟩
  | .hbm, ⟨2, _⟩ => ⟨S4x2048x1152, .f32⟩
  | .local _ .vmem, ⟨0, _⟩ => ⟨S4096x1024, .bf16⟩
  | .local _ .vmem, ⟨1, _⟩ => ⟨S4096x1024, .bf16⟩
  | .local _ .vmem, ⟨2, _⟩ => ⟨S4096x384, .bf16⟩
  | .local _ .vmem, ⟨3, _⟩ => ⟨S4096x384, .bf16⟩
  | .local _ .vmem, ⟨4, _⟩ => ⟨S1x1024x384, .f32⟩
  | .local _ .vmem, ⟨5, _⟩ => ⟨S1x1024x384, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S4096x4608 : Shape := ⟨2, ![4096, 4608]⟩
abbrev S_ : Shape := ⟨0, ![]⟩
abbrev S2048x4608 : Shape := ⟨2, ![2048, 4608]⟩
abbrev S4608x2048 : Shape := ⟨2, ![4608, 2048]⟩
abbrev S2048x1152 : Shape := ⟨2, ![2048, 1152]⟩
abbrev S1x2048x1152 : Shape := ⟨3, ![1, 2048, 1152]⟩
abbrev S4x2048x1152 : Shape := ⟨3, ![4, 2048, 1152]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4608, .bf16⟩
  | .hbm, ⟨2, _⟩ => ⟨S_, .f32⟩
  | .hbm, ⟨3, _⟩ => ⟨S2048x4608, .f32⟩
  | .hbm, ⟨4, _⟩ => ⟨S4096x2048, .f32⟩
  | .hbm, ⟨5, _⟩ => ⟨S4096x4608, .f32⟩
  | .hbm, ⟨6, _⟩ => ⟨S4096x4608, .f32⟩
  | .hbm, ⟨7, _⟩ => ⟨S4608x2048, .f32⟩
  | .hbm, ⟨8, _⟩ => ⟨S2048x4608, .f32⟩
  | .hbm, ⟨9, _⟩ => ⟨S2048x1152, .f32⟩
  | .hbm, ⟨10, _⟩ => ⟨S2048x1152, .f32⟩
  | .hbm, ⟨11, _⟩ => ⟨S2048x1152, .f32⟩
  | .hbm, ⟨12, _⟩ => ⟨S2048x1152, .f32⟩
  | .hbm, ⟨13, _⟩ => ⟨S1x2048x1152, .f32⟩
  | .hbm, ⟨14, _⟩ => ⟨S1x2048x1152, .f32⟩
  | .hbm, ⟨15, _⟩ => ⟨S1x2048x1152, .f32⟩
  | .hbm, ⟨16, _⟩ => ⟨S1x2048x1152, .f32⟩
  | .hbm, ⟨17, _⟩ => ⟨S4x2048x1152, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel7.lean ====
abbrev S4x2048x1152 : Shape := ⟨3, ![4, 2048, 1152]⟩
abbrev S4096x4608 : Shape := ⟨2, ![4096, 4608]⟩
abbrev S4x1152x2048 : Shape := ⟨3, ![4, 1152, 2048]⟩
abbrev S4608x2048 : Shape := ⟨2, ![4608, 2048]⟩
abbrev S4096x2048 : Shape := ⟨2, ![4096, 2048]⟩
abbrev S1024x2304 : Shape := ⟨2, ![1024, 2304]⟩
abbrev S2304x1024 : Shape := ⟨2, ![2304, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x1152, .bf16⟩
  | .hbm, ⟨1, _⟩ => ⟨S4096x4608, .bf16⟩
  | .hbm, ⟨2, _⟩ => ⟨S4x1152x2048, .bf16⟩
  | .hbm, ⟨3, _⟩ => ⟨S4608x2048, .bf16⟩
  | .hbm, ⟨4, _⟩ => ⟨S4096x2048, .f32⟩
  | .local _ .vmem, ⟨0, _⟩ => ⟨S1024x2304, .bf16⟩
  | .local _ .vmem, ⟨1, _⟩ => ⟨S1024x2304, .bf16⟩
  | .local _ .vmem, ⟨2, _⟩ => ⟨S2304x1024, .bf16⟩
  | .local _ .vmem, ⟨3, _⟩ => ⟨S2304x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4x2048x1152 : Shape := ⟨3, ![4, 2048, 1152]⟩
abbrev S4096x4608 : Shape := ⟨2, ![4096, 4608]⟩
abbrev S1x2048x1152 : Shape := ⟨3, ![1, 2048, 1152]⟩
abbrev S2048x1152 : Shape := ⟨2, ![2048, 1152]⟩
abbrev S2048x4608 : Shape := ⟨2, ![2048, 4608]⟩
abbrev S_ : Shape := ⟨0, ![]⟩
abbrev S4096x2048 : Shape := ⟨2, ![4096, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x1152, .bf16⟩
  | .hbm, ⟨1, _⟩ => ⟨S4096x4608, .bf16⟩
  | .hbm, ⟨2, _⟩ => ⟨S1x2048x1152, .bf16⟩
  | .hbm, ⟨3, _⟩ => ⟨S2048x1152, .bf16⟩
  | .hbm, ⟨4, _⟩ => ⟨S1x2048x1152, .bf16⟩
  | .hbm, ⟨5, _⟩ => ⟨S2048x1152, .bf16⟩
  | .hbm, ⟨6, _⟩ => ⟨S1x2048x1152, .bf16⟩
  | .hbm, ⟨7, _⟩ => ⟨S2048x1152, .bf16⟩
  | .hbm, ⟨8, _⟩ => ⟨S1x2048x1152, .bf16⟩
  | .hbm, ⟨9, _⟩ => ⟨S2048x1152, .bf16⟩
  | .hbm, ⟨10, _⟩ => ⟨S2048x4608, .bf16⟩
  | .hbm, ⟨11, _⟩ => ⟨S_, .f32⟩
  | .hbm, ⟨12, _⟩ => ⟨S4096x2048, .f32⟩
  | .hbm, ⟨13, _⟩ => ⟨S2048x4608, .f32⟩
  | .hbm, ⟨14, _⟩ => ⟨S4096x4608, .f32⟩
  | .hbm, ⟨15, _⟩ => ⟨S4096x4608, .f32⟩
  | .hbm, ⟨16, _⟩ => ⟨S4096x2048, .f32⟩
  | _, _ => ⟨S4x2048x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel8.lean ====
abbrev S4096x2048 : Shape := ⟨2, ![4096, 2048]⟩
abbrev S4096x8192 : Shape := ⟨2, ![4096, 8192]⟩
abbrev S2048x8192 : Shape := ⟨2, ![2048, 8192]⟩
abbrev S4096x1024 : Shape := ⟨2, ![4096, 1024]⟩
abbrev S4096x512 : Shape := ⟨2, ![4096, 512]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S2048x8192 : Shape := ⟨2, ![2048, 8192]⟩
abbrev S4096x8192 : Shape := ⟨2, ![4096, 8192]⟩
abbrev S4096x2048 : Shape := ⟨2, ![4096, 2048]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S4096x8192, .bf16⟩
  | .hbm, ⟨2, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x8192 : Shape := ⟨2, ![2048, 8192]⟩
abbrev S4096x8192 : Shape := ⟨2, ![4096, 8192]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S4096x8192, .bf16⟩
  | .hbm, ⟨2, _⟩ => ⟨S_, .f32⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S4096x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x2048 : Shape := ⟨2, ![4096, 2048]⟩
abbrev S4x2048x1536 : Shape := ⟨3, ![4, 2048, 1536]⟩
abbrev S4096x6144 : Shape := ⟨2, ![4096, 6144]⟩
abbrev S1024x2048 : Shape := ⟨2, ![1024, 2048]⟩
abbrev S1x2048x768 : Shape := ⟨3, ![1, 2048, 768]⟩
abbrev S1024x768 : Shape := ⟨2, ![1024, 768]⟩
abbrev S8x128 : Shape := ⟨2, ![8, 128]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .f32⟩
  | .local _ .vmem, ⟨5, _⟩ => ⟨S1024x768, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S4x2048x1536 : Shape := ⟨3, ![4, 2048, 1536]⟩
abbrev S1x2048x1536 : Shape := ⟨3, ![1, 2048, 1536]⟩
abbrev S2048x1536 : Shape := ⟨2, ![2048, 1536]⟩
abbrev S2048x6144 : Shape := ⟨2, ![2048, 6144]⟩
abbrev S4096x6144 : Shape := ⟨2, ![4096, 6144]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S1x2048x1536, .bf16⟩
  | .hbm, ⟨3, _⟩ => ⟨S2048x1536, .bf16⟩
  | .hbm, ⟨4, _⟩ => ⟨S1x2048x1536, .bf16⟩
  | .hbm, ⟨5, _⟩ => ⟨S2048x1536, .bf16⟩
  | .hbm, ⟨6, _⟩ => ⟨S1x2048x1536, .bf16⟩
  | .hbm, ⟨7, _⟩ => ⟨S2048x1536, .bf16⟩
  | .hbm, ⟨8, _⟩ => ⟨S1x2048x1536, .bf16⟩
  | .hbm, ⟨9, _⟩ => ⟨S2048x1536, .bf16⟩
  | .hbm, ⟨10, _⟩ => ⟨S2048x6144, .bf16⟩
  | .hbm, ⟨11, _⟩ => ⟨S4096x2048, .f32⟩
  | .hbm, ⟨12, _⟩ => ⟨S2048x6144, .f32⟩
  | .hbm, ⟨13, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S1x2048 : Shape := ⟨2, ![1, 2048]⟩
abbrev S1024x2048 : Shape := ⟨2, ![1024, 2048]⟩
abbrev S2048x512 : Shape := ⟨2, ![2048, 512]⟩
abbrev S1024x512 : Shape := ⟨2, ![1024, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S4096x2048 : Shape := ⟨2, ![4096, 2048]⟩
abbrev S2048x2048 : Shape := ⟨2, ![2048, 2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel12.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference12Ideal.lean ====
abbrev S4x2048 : Shape := ⟨2, ![4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S4x6144 : Shape := ⟨2, ![4, 6144]⟩

abbrev nBuf : Space → Nat
  | .hbm => 7
  | .vmem => 7
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference13Ideal.lean ====
abbrev S4x6144 : Shape := ⟨2, ![4, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S_, .f32⟩
  | .hbm, ⟨5, _⟩ => ⟨S4x6144, .f32⟩
  | .hbm, ⟨6, _⟩ => ⟨S4x6144, .f32⟩
  | .hbm, ⟨7, _⟩ => ⟨S_, .f32⟩
  | .hbm, ⟨8, _⟩ => ⟨S4x6144, .f32⟩
  | .hbm, ⟨9, _⟩ => ⟨S4x6144, .f32⟩
  | .hbm, ⟨10, _⟩ => ⟨S4x6144, .f32⟩
  | .hbm, ⟨11, _⟩ => ⟨S_, .f32⟩
  | .hbm, ⟨12, _⟩ => ⟨S4x6144, .f32⟩
  | .hbm, ⟨13, _⟩ => ⟨S4x6144, .f32⟩
  | .hbm, ⟨14, _⟩ => ⟨S4x6144, .f32⟩
  | .hbm, ⟨15, _⟩ => ⟨S_, .f32⟩
  | .hbm, ⟨16, _⟩ => ⟨S4x6144, .f32⟩
  | .hbm, ⟨17, _⟩ => ⟨S4x6144, .f32⟩
  | .hbm, ⟨18, _⟩ => ⟨S4x6144, .f32⟩
  | .hbm, ⟨19, _⟩ => ⟨S_, .f32⟩
  | .hbm, ⟨20, _⟩ => ⟨S4x6144, .f32⟩
  | .hbm, ⟨21, _⟩ => ⟨S4x6144, .f32⟩
  | .hbm, ⟨22, _⟩ => ⟨S_, .f32⟩
  | .hbm, ⟨23, _⟩ => ⟨S4x6144, .f32⟩
  | .hbm, ⟨24, _⟩ => ⟨S4x6144, .f32⟩
  | .hbm, ⟨25, _⟩ => ⟨S4x6144, .f32⟩
  | .hbm, ⟨26, _⟩ => ⟨S_, .f32⟩
  | .hbm, ⟨27, _⟩ => ⟨S4x6144, .f32⟩
  | .hbm, ⟨28, _⟩ => ⟨S4x6144, .f32⟩
  | .hbm, ⟨29, _⟩ => ⟨S4x6144, .f32⟩
  | .hbm, ⟨30, _⟩ => ⟨S_, .f32⟩
  | .hbm, ⟨31, _⟩ => ⟨S4x6144, .f32⟩
  | .hbm, ⟨32, _⟩ => ⟨S4x6144, .f32⟩
  | .hbm, ⟨33, _⟩ => ⟨S4x6144, .f32⟩
  | .hbm, ⟨34, _⟩ => ⟨S_, .f32⟩
  | .hbm, ⟨35, _⟩ => ⟨S4x6144, .f32⟩
  | .hbm, ⟨36, _⟩ => ⟨S4x6144, .f32⟩
  | _, _ => ⟨S4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S2048 : Shape := ⟨1, ![2048]⟩
abbrev S1x2048 : Shape := ⟨2, ![1, 2048]⟩

abbrev nBuf : Space → Nat
  | .hbm => 11
  | .vmem => 7
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S2048 : Shape := ⟨1, ![2048]⟩
abbrev S_ : Shape := ⟨0, ![]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S1x2048, .f32⟩
  | .hbm, ⟨38, _⟩ => ⟨S1x2048, .f32⟩
  | .hbm, ⟨39, _⟩ => ⟨S1x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel15.lean ====
abbrev S2x512x2048 : Shape := ⟨3, ![2, 512, 2048]⟩
abbrev S1024x2048 : Shape := ⟨2, ![1024, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S2x512x2048 : Shape := ⟨3, ![2, 512, 2048]⟩
abbrev S_ : Shape := ⟨0, ![]⟩
abbrev S1024x2048 : Shape := ⟨2, ![1024, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S_, .f32⟩
  | .hbm, ⟨5, _⟩ => ⟨S2x512x2048, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | .hbm, ⟨37, _⟩ => ⟨S1024x2048, .f32⟩
  | .hbm, ⟨38, _⟩ => ⟨S1024x2048, .f32⟩
  | .hbm, ⟨39, _⟩ => ⟨S1024x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel16.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S2x16x128x128 : Shape := ⟨4, ![2, 16, 128, 128]⟩
abbrev S4096x128 : Shape := ⟨2, ![4096, 128]⟩
abbrev S2048x128 : Shape := ⟨2, ![2048, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x16x128x128, .f32⟩
  | .hbm, ⟨1, _⟩ => ⟨S2x16x128x128, .f32⟩
  | .hbm, ⟨2, _⟩ => ⟨S2x16x128x128, .f32⟩
  | .hbm, ⟨3, _⟩ => ⟨S2x16x128x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S2x16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S2x16x128x128 : Shape := ⟨4, ![2, 16, 128, 128]⟩
abbrev S_ : Shape := ⟨0, ![]⟩
abbrev S4096x128 : Shape := ⟨2, ![4096, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x16x128x128, .f32⟩
  | .hbm, ⟨1, _⟩ => ⟨S2x16x128x128, .f32⟩
  | .hbm, ⟨2, _⟩ => ⟨S2x16x128x128, .f32⟩
  | .hbm, ⟨3, _⟩ => ⟨S2x16x128x128, .f32⟩
  | .hbm, ⟨4, _⟩ => ⟨S_, .f32⟩
  | .hbm, ⟨5, _⟩ => ⟨S2x16x128x128, .f32⟩
  | .hbm, ⟨6, _⟩ => ⟨S2x16x128x128, .f32⟩
  | .hbm, ⟨7, _⟩ => ⟨S_, .f32⟩
  | .hbm, ⟨8, _⟩ => ⟨S2x16x128x128, .f32⟩
  | .hbm, ⟨9, _⟩ => ⟨S2x16x128x128, .f32⟩
  | .hbm, ⟨10, _⟩ => ⟨S2x16x128x128, .f32⟩
  | .hbm, ⟨11, _⟩ => ⟨S_, .f32⟩
  | .hbm, ⟨12, _⟩ => ⟨S2x16x128x128, .f32⟩
  | .hbm, ⟨13, _⟩ => ⟨S2x16x128x128, .f32⟩
  | .hbm, ⟨14, _⟩ => ⟨S2x16x128x128, .f32⟩
  | .hbm, ⟨15, _⟩ => ⟨S_, .f32⟩
  | .hbm, ⟨16, _⟩ => ⟨S2x16x128x128, .f32⟩
  | .hbm, ⟨17, _⟩ => ⟨S2x16x128x128, .f32⟩
  | .hbm, ⟨18, _⟩ => ⟨S2x16x128x128, .f32⟩
  | .hbm, ⟨19, _⟩ => ⟨S_, .f32⟩
  | .hbm, ⟨20, _⟩ => ⟨S2x16x128x128, .f32⟩
  | .hbm, ⟨21, _⟩ => ⟨S2x16x128x128, .f32⟩
  | .hbm, ⟨22, _⟩ => ⟨S_, .f32⟩
  | .hbm, ⟨23, _⟩ => ⟨S2x16x128x128, .f32⟩
  | .hbm, ⟨24, _⟩ => ⟨S2x16x128x128, .f32⟩
  | .hbm, ⟨25, _⟩ => ⟨S2x16x128x128, .f32⟩
  | .hbm, ⟨26, _⟩ => ⟨S_, .f32⟩
  | .hbm, ⟨27, _⟩ => ⟨S2x16x128x128, .f32⟩
  | .hbm, ⟨28, _⟩ => ⟨S2x16x128x128, .f32⟩
  | .hbm, ⟨29, _⟩ => ⟨S2x16x128x128, .f32⟩
  | .hbm, ⟨30, _⟩ => ⟨S_, .f32⟩
  | .hbm, ⟨31, _⟩ => ⟨S2x16x128x128, .f32⟩
  | .hbm, ⟨32, _⟩ => ⟨S2x16x128x128, .f32⟩
  | .hbm, ⟨33, _⟩ => ⟨S2x16x128x128, .f32⟩
  | .hbm, ⟨34, _⟩ => ⟨S_, .f32⟩
  | .hbm, ⟨35, _⟩ => ⟨S2x16x128x128, .f32⟩
  | .hbm, ⟨36, _⟩ => ⟨S2x16x128x128, .f32⟩
  | .hbm, ⟨37, _⟩ => ⟨S4096x128, .f32⟩
  | .hbm, ⟨38, _⟩ => ⟨S4096x128, .f32⟩
  | .hbm, ⟨39, _⟩ => ⟨S4096x128, .f32⟩
  | _, _ => ⟨S2x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel18.lean ====
abbrev S2x16x128 : Shape := ⟨3, ![2, 16, 128]⟩
abbrev S32x128 : Shape := ⟨2, ![32, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x16x128, .f32⟩
  | .hbm, ⟨1, _⟩ => ⟨S2x16x128, .f32⟩
  | .hbm, ⟨2, _⟩ => ⟨S2x16x128, .f32⟩
  | .hbm, ⟨3, _⟩ => ⟨S2x16x128, .f32⟩
  | .hbm, ⟨4, _⟩ => ⟨S32x128, .f32⟩
  | .hbm, ⟨5, _⟩ => ⟨S32x128, .f32⟩
  | .hbm, ⟨6, _⟩ => ⟨S32x128, .f32⟩
  | .hbm, ⟨7, _⟩ => ⟨S32x128, .f32⟩
  | .hbm, ⟨8, _⟩ => ⟨S32x128, .f32⟩
  | .hbm, ⟨9, _⟩ => ⟨S32x128, .f32⟩
  | .hbm, ⟨10, _⟩ => ⟨S32x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | _, _ => ⟨S2x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S2x16x128 : Shape := ⟨3, ![2, 16, 128]⟩
abbrev S_ : Shape := ⟨0, ![]⟩
abbrev S32x128 : Shape := ⟨2, ![32, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x16x128, .f32⟩
  | .hbm, ⟨1, _⟩ => ⟨S2x16x128, .f32⟩
  | .hbm, ⟨2, _⟩ => ⟨S2x16x128, .f32⟩
  | .hbm, ⟨3, _⟩ => ⟨S2x16x128, .f32⟩
  | .hbm, ⟨4, _⟩ => ⟨S_, .f32⟩
  | .hbm, ⟨5, _⟩ => ⟨S2x16x128, .f32⟩
  | .hbm, ⟨6, _⟩ => ⟨S2x16x128, .f32⟩
  | .hbm, ⟨7, _⟩ => ⟨S_, .f32⟩
  | .hbm, ⟨8, _⟩ => ⟨S2x16x128, .f32⟩
  | .hbm, ⟨9, _⟩ => ⟨S2x16x128, .f32⟩
  | .hbm, ⟨10, _⟩ => ⟨S2x16x128, .f32⟩
  | .hbm, ⟨11, _⟩ => ⟨S_, .f32⟩
  | .hbm, ⟨12, _⟩ => ⟨S2x16x128, .f32⟩
  | .hbm, ⟨13, _⟩ => ⟨S2x16x128, .f32⟩
  | .hbm, ⟨14, _⟩ => ⟨S2x16x128, .f32⟩
  | .hbm, ⟨15, _⟩ => ⟨S_, .f32⟩
  | .hbm, ⟨16, _⟩ => ⟨S2x16x128, .f32⟩
  | .hbm, ⟨17, _⟩ => ⟨S2x16x128, .f32⟩
  | .hbm, ⟨18, _⟩ => ⟨S2x16x128, .f32⟩
  | .hbm, ⟨19, _⟩ => ⟨S_, .f32⟩
  | .hbm, ⟨20, _⟩ => ⟨S2x16x128, .f32⟩
  | .hbm, ⟨21, _⟩ => ⟨S2x16x128, .f32⟩
  | .hbm, ⟨22, _⟩ => ⟨S_, .f32⟩
  | .hbm, ⟨23, _⟩ => ⟨S2x16x128, .f32⟩
  | .hbm, ⟨24, _⟩ => ⟨S2x16x128, .f32⟩
  | .hbm, ⟨25, _⟩ => ⟨S2x16x128, .f32⟩
  | .hbm, ⟨26, _⟩ => ⟨S_, .f32⟩
  | .hbm, ⟨27, _⟩ => ⟨S2x16x128, .f32⟩
  | .hbm, ⟨28, _⟩ => ⟨S2x16x128, .f32⟩
  | .hbm, ⟨29, _⟩ => ⟨S2x16x128, .f32⟩
  | .hbm, ⟨30, _⟩ => ⟨S_, .f32⟩
  | .hbm, ⟨31, _⟩ => ⟨S2x16x128, .f32⟩
  | .hbm, ⟨32, _⟩ => ⟨S2x16x128, .f32⟩
  | .hbm, ⟨33, _⟩ => ⟨S2x16x128, .f32⟩
  | .hbm, ⟨34, _⟩ => ⟨S_, .f32⟩
  | .hbm, ⟨35, _⟩ => ⟨S2x16x128, .f32⟩
  | .hbm, ⟨36, _⟩ => ⟨S2x16x128, .f32⟩
  | .hbm, ⟨37, _⟩ => ⟨S32x128, .f32⟩
  | .hbm, ⟨38, _⟩ => ⟨S32x128, .f32⟩
  | .hbm, ⟨39, _⟩ => ⟨S32x128, .f32⟩
  | _, _ => ⟨S2x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel19.lean ====
abbrev S1x2048x1152 : Shape := ⟨3, ![1, 2048, 1152]⟩
abbrev S2048x1152 : Shape := ⟨2, ![2048, 1152]⟩
abbrev S128x1152 : Shape := ⟨2, ![128, 1152]⟩

abbrev nBuf : Space → Nat
  | .hbm => 11
  | .vmem => 14
  | .smem => 0
  | _ => 0

abbrev bufTy : (tb : Table) → Fin (tcTables nBuf tb) → BufTy
  | .hbm, ⟨0, _⟩ => ⟨S1x2048x1152, .f32⟩
  | .hbm, ⟨1, _⟩ => ⟨S1x2048x1152, .f32⟩
  | .hbm, ⟨2, _⟩ => ⟨S1x2048x1152, .f32⟩
  | .hbm, ⟨3, _⟩ => ⟨S1x2048x1152, .f32⟩
  | .hbm, ⟨4, _⟩ => ⟨S2048x1152, .f32⟩
  | .hbm, ⟨5, _⟩ => ⟨S2048x1152, .f32⟩
  | .hbm, ⟨6, _⟩ => ⟨S2048x1152, .f32⟩
  | .hbm, ⟨7, _⟩ => ⟨S2048x1152, .f32⟩
  | .hbm, ⟨8, _⟩ => ⟨S2048x1152, .f32⟩
  | .hbm, ⟨9, _⟩ => ⟨S2048x1152, .f32⟩
  | .hbm, ⟨10, _⟩ => ⟨S2048x1152, .f32⟩
  | .local _ .vmem, ⟨0, _⟩ => ⟨S128x1152, .f32⟩
  | .local _ .vmem, ⟨1, _⟩ => ⟨S128x1152, .f32⟩
  | .local _ .vmem, ⟨2, _⟩ => ⟨S128x1152, .f32⟩
  | .local _ .vmem, ⟨3, _⟩ => ⟨S128x1152, .f32⟩
  | .local _ .vmem, ⟨4, _⟩ => ⟨S128x1152, .f32⟩
  | .local _ .vmem, ⟨5, _⟩ => ⟨S128x1152, .f32⟩
  | .local _ .vmem, ⟨6, _⟩ => ⟨S128x1152, .f32⟩
  | .local _ .vmem, ⟨7, _⟩ => ⟨S128x1152, .f32⟩
  | .local _ .vmem, ⟨8, _⟩ => ⟨S128x1152, .f32⟩
  | .local _ .vmem, ⟨9, _⟩ => ⟨S128x1152, .f32⟩
  | .local _ .vmem, ⟨10, _⟩ => ⟨S128x1152, .f32⟩
  | .local _ .vmem, ⟨11, _⟩ => ⟨S128x1152, .f32⟩
  | .local _ .vmem, ⟨12, _⟩ => ⟨S128x1152, .f32⟩
  | .local _ .vmem, ⟨13, _⟩ => ⟨S128x1152, .f32⟩
  | _, _ => ⟨S1x2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S1x2048x1152 : Shape := ⟨3, ![1, 2048, 1152]⟩
abbrev S_ : Shape := ⟨0, ![]⟩
abbrev S2048x1152 : Shape := ⟨2, ![2048, 1152]⟩

abbrev nBuf : Space → Nat
  | .hbm => 40
  | .vmem => 0
  | .smem => 0
  | _ => 0

abbrev bufTy : (tb : Table) → Fin (tcTables nBuf tb) → BufTy
  | .hbm, ⟨0, _⟩ => ⟨S1x2048x1152, .f32⟩
  | .hbm, ⟨1, _⟩ => ⟨S1x2048x1152, .f32⟩
  | .hbm, ⟨2, _⟩ => ⟨S1x2048x1152, .f32⟩
  | .hbm, ⟨3, _⟩ => ⟨S1x2048x1152, .f32⟩
  | .hbm, ⟨4, _⟩ => ⟨S_, .f32⟩
  | .hbm, ⟨5, _⟩ => ⟨S1x2048x1152, .f32⟩
  | .hbm, ⟨6, _⟩ => ⟨S1x2048x1152, .f32⟩
  | .hbm, ⟨7, _⟩ => ⟨S_, .f32⟩
  | .hbm, ⟨8, _⟩ => ⟨S1x2048x1152, .f32⟩
  | .hbm, ⟨9, _⟩ => ⟨S1x2048x1152, .f32⟩
  | .hbm, ⟨10, _⟩ => ⟨S1x2048x1152, .f32⟩
  | .hbm, ⟨11, _⟩ => ⟨S_, .f32⟩
  | .hbm, ⟨12, _⟩ => ⟨S1x2048x1152, .f32⟩
  | .hbm, ⟨13, _⟩ => ⟨S1x2048x1152, .f32⟩
  | .hbm, ⟨14, _⟩ => ⟨S1x2048x1152, .f32⟩
  | .hbm, ⟨15, _⟩ => ⟨S_, .f32⟩
  | .hbm, ⟨16, _⟩ => ⟨S1x2048x1152, .f32⟩
  | .hbm, ⟨17, _⟩ => ⟨S1x2048x1152, .f32⟩
  | .hbm, ⟨18, _⟩ => ⟨S1x2048x1152, .f32⟩
  | .hbm, ⟨19, _⟩ => ⟨S_, .f32⟩
  | .hbm, ⟨20, _⟩ => ⟨S1x2048x1152, .f32⟩
  | .hbm, ⟨21, _⟩ => ⟨S1x2048x1152, .f32⟩
  | .hbm, ⟨22, _⟩ => ⟨S_, .f32⟩
  | .hbm, ⟨23, _⟩ => ⟨S1x2048x1152, .f32⟩
  | .hbm, ⟨24, _⟩ => ⟨S1x2048x1152, .f32⟩
  | .hbm, ⟨25, _⟩ => ⟨S1x2048x1152, .f32⟩
  | .hbm, ⟨26, _⟩ => ⟨S_, .f32⟩
  | .hbm, ⟨27, _⟩ => ⟨S1x2048x1152, .f32⟩
  | .hbm, ⟨28, _⟩ => ⟨S1x2048x1152, .f32⟩
  | .hbm, ⟨29, _⟩ => ⟨S1x2048x1152, .f32⟩
  | .hbm, ⟨30, _⟩ => ⟨S_, .f32⟩
  | .hbm, ⟨31, _⟩ => ⟨S1x2048x1152, .f32⟩
  | .hbm, ⟨32, _⟩ => ⟨S1x2048x1152, .f32⟩
  | .hbm, ⟨33, _⟩ => ⟨S1x2048x1152, .f32⟩
  | .hbm, ⟨34, _⟩ => ⟨S_, .f32⟩
  | .hbm, ⟨35, _⟩ => ⟨S1x2048x1152, .f32⟩
  | .hbm, ⟨36, _⟩ => ⟨S1x2048x1152, .f32⟩
  | .hbm, ⟨37, _⟩ => ⟨S2048x1152, .f32⟩
  | .hbm, ⟨38, _⟩ => ⟨S2048x1152, .f32⟩
  | .hbm, ⟨39, _⟩ => ⟨S2048x1152, .f32⟩
  | _, _ => ⟨S1x2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel20.lean ====
abbrev S1x512x2048 : Shape := ⟨3, ![1, 512, 2048]⟩
abbrev S512x2048 : Shape := ⟨2, ![512, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S1x512x2048 : Shape := ⟨3, ![1, 512, 2048]⟩
abbrev S_ : Shape := ⟨0, ![]⟩
abbrev S512x2048 : Shape := ⟨2, ![512, 2048]⟩

abbrev nBuf : Space → Nat
  | .hbm => 40
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S_, .f32⟩
  | .hbm, ⟨5, _⟩ => ⟨S1x512x2048, .f32⟩
  | .hbm, ⟨6, _⟩ => ⟨S1x512x2048, .f32⟩
  | .hbm, ⟨7, _⟩ => ⟨S_, .f32⟩
  | .hbm, ⟨8, _⟩ => ⟨S1x512x2048, .f32⟩
  | .hbm, ⟨9, _⟩ => ⟨S1x512x2048, .f32⟩
  | .hbm, ⟨10, _⟩ => ⟨S1x512x2048, .f32⟩
  | .hbm, ⟨11, _⟩ => ⟨S_, .f32⟩
  | .hbm, ⟨12, _⟩ => ⟨S1x512x2048, .f32⟩
  | .hbm, ⟨13, _⟩ => ⟨S1x512x2048, .f32⟩
  | .hbm, ⟨14, _⟩ => ⟨S1x512x2048, .f32⟩
  | .hbm, ⟨15, _⟩ => ⟨S_, .f32⟩
  | .hbm, ⟨16, _⟩ => ⟨S1x512x2048, .f32⟩
  | .hbm, ⟨17, _⟩ => ⟨S1x512x2048, .f32⟩
  | .hbm, ⟨18, _⟩ => ⟨S1x512x2048, .f32⟩
  | .hbm, ⟨19, _⟩ => ⟨S_, .f32⟩
  | .hbm, ⟨20, _⟩ => ⟨S1x512x2048, .f32⟩
  | .hbm, ⟨21, _⟩ => ⟨S1x512x2048, .f32⟩
  | .hbm, ⟨22, _⟩ => ⟨S_, .f32⟩
  | .hbm, ⟨23, _⟩ => ⟨S1x512x2048, .f32⟩
  | .hbm, ⟨24, _⟩ => ⟨S1x512x2048, .f32⟩
  | .hbm, ⟨25, _⟩ => ⟨S1x512x2048, .f32⟩
  | .hbm, ⟨26, _⟩ => ⟨S_, .f32⟩
  | .hbm, ⟨27, _⟩ => ⟨S1x512x2048, .f32⟩
  | .hbm, ⟨28, _⟩ => ⟨S1x512x2048, .f32⟩
  | .hbm, ⟨29, _⟩ => ⟨S1x512x2048, .f32⟩
  | .hbm, ⟨30, _⟩ => ⟨S_, .f32⟩
  | .hbm, ⟨31, _⟩ => ⟨S1x512x2048, .f32⟩
  | .hbm, ⟨32, _⟩ => ⟨S1x512x2048, .f32⟩
  | .hbm, ⟨33, _⟩ => ⟨S1x512x2048, .f32⟩
  | .hbm, ⟨34, _⟩ => ⟨S_, .f32⟩
  | .hbm, ⟨35, _⟩ => ⟨S1x512x2048, .f32⟩
  | .hbm, ⟨36, _⟩ => ⟨S1x512x2048, .f32⟩
  | .hbm, ⟨37, _⟩ => ⟨S512x2048, .f32⟩
  | .hbm, ⟨38, _⟩ => ⟨S512x2048, .f32⟩
  | .hbm, ⟨39, _⟩ => ⟨S512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel21.lean ====
abbrev S1x32 : Shape := ⟨2, ![1, 32]⟩

abbrev nBuf : Space → Nat
  | .hbm => 7
  | .vmem => 7
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S1x32 : Shape := ⟨2, ![1, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S_, .f32⟩
  | .hbm, ⟨5, _⟩ => ⟨S1x32, .f32⟩
  | .hbm, ⟨6, _⟩ => ⟨S1x32, .f32⟩
  | .hbm, ⟨7, _⟩ => ⟨S_, .f32⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S_, .f32⟩
  | .hbm, ⟨12, _⟩ => ⟨S1x32, .f32⟩
  | .hbm, ⟨13, _⟩ => ⟨S1x32, .f32⟩
  | .hbm, ⟨14, _⟩ => ⟨S1x32, .f32⟩
  | .hbm, ⟨15, _⟩ => ⟨S_, .f32⟩
  | .hbm, ⟨16, _⟩ => ⟨S1x32, .f32⟩
  | .hbm, ⟨17, _⟩ => ⟨S1x32, .f32⟩
  | .hbm, ⟨18, _⟩ => ⟨S1x32, .f32⟩
  | .hbm, ⟨19, _⟩ => ⟨S_, .f32⟩
  | .hbm, ⟨20, _⟩ => ⟨S1x32, .f32⟩
  | .hbm, ⟨21, _⟩ => ⟨S1x32, .f32⟩
  | .hbm, ⟨22, _⟩ => ⟨S_, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S_, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S_, .f32⟩
  | .hbm, ⟨31, _⟩ => ⟨S1x32, .f32⟩
  | .hbm, ⟨32, _⟩ => ⟨S1x32, .f32⟩
  | .hbm, ⟨33, _⟩ => ⟨S1x32, .f32⟩
  | .hbm, ⟨34, _⟩ => ⟨S_, .f32⟩
  | .hbm, ⟨35, _⟩ => ⟨S1x32, .f32⟩
  | .hbm, ⟨36, _⟩ => ⟨S1x32, .f32⟩
  | _, _ => ⟨S1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S1x2096 : Shape := ⟨2, ![1, 2096]⟩

abbrev nBuf : Space → Nat
  | .hbm => 7
  | .vmem => 7
  | .smem => 0
  | _ => 0

abbrev bufTy : (tb : Table) → Fin (tcTables nBuf tb) → BufTy
  | .hbm, ⟨0, _⟩ => ⟨S1x2096, .f32⟩
  | .hbm, ⟨1, _⟩ => ⟨S1x2096, .f32⟩
  | .hbm, ⟨2, _⟩ => ⟨S1x2096, .f32⟩
  | .hbm, ⟨3, _⟩ => ⟨S1x2096, .f32⟩
  | .hbm, ⟨4, _⟩ => ⟨S1x2096, .f32⟩
  | .hbm, ⟨5, _⟩ => ⟨S1x2096, .f32⟩
  | .hbm, ⟨6, _⟩ => ⟨S1x2096, .f32⟩
  | .local _ .vmem, ⟨0, _⟩ => ⟨S1x2096, .f32⟩
  | .local _ .vmem, ⟨1, _⟩ => ⟨S1x2096, .f32⟩
  | .local _ .vmem, ⟨2, _⟩ => ⟨S1x2096, .f32⟩
  | .local _ .vmem, ⟨3, _⟩ => ⟨S1x2096, .f32⟩
  | .local _ .vmem, ⟨4, _⟩ => ⟨S1x2096, .f32⟩
  | .local _ .vmem, ⟨5, _⟩ => ⟨S1x2096, .f32⟩
  | .local _ .vmem, ⟨6, _⟩ => ⟨S1x2096, .f32⟩
  | _, _ => ⟨S1x2096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S1x2096 : Shape := ⟨2, ![1, 2096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2096, .f32⟩
  | .hbm, ⟨1, _⟩ => ⟨S1x2096, .f32⟩
  | .hbm, ⟨2, _⟩ => ⟨S1x2096, .f32⟩
  | .hbm, ⟨3, _⟩ => ⟨S1x2096, .f32⟩
  | .hbm, ⟨4, _⟩ => ⟨S_, .f32⟩
  | .hbm, ⟨5, _⟩ => ⟨S1x2096, .f32⟩
  | .hbm, ⟨6, _⟩ => ⟨S1x2096, .f32⟩
  | .hbm, ⟨7, _⟩ => ⟨S_, .f32⟩
  | .hbm, ⟨8, _⟩ => ⟨S1x2096, .f32⟩
  | .hbm, ⟨9, _⟩ => ⟨S1x2096, .f32⟩
  | .hbm, ⟨10, _⟩ => ⟨S1x2096, .f32⟩
  | .hbm, ⟨11, _⟩ => ⟨S_, .f32⟩
  | .hbm, ⟨12, _⟩ => ⟨S1x2096, .f32⟩
  | .hbm, ⟨13, _⟩ => ⟨S1x2096, .f32⟩
  | .hbm, ⟨14, _⟩ => ⟨S1x2096, .f32⟩
  | .hbm, ⟨15, _⟩ => ⟨S_, .f32⟩
  | .hbm, ⟨16, _⟩ => ⟨S1x2096, .f32⟩
  | .hbm, ⟨17, _⟩ => ⟨S1x2096, .f32⟩
  | .hbm, ⟨18, _⟩ => ⟨S1x2096, .f32⟩
  | .hbm, ⟨19, _⟩ => ⟨S_, .f32⟩
  | .hbm, ⟨20, _⟩ => ⟨S1x2096, .f32⟩
  | .hbm, ⟨21, _⟩ => ⟨S1x2096, .f32⟩
  | .hbm, ⟨22, _⟩ => ⟨S_, .f32⟩
  | .hbm, ⟨23, _⟩ => ⟨S1x2096, .f32⟩
  | .hbm, ⟨24, _⟩ => ⟨S1x2096, .f32⟩
  | .hbm, ⟨25, _⟩ => ⟨S1x2096, .f32⟩
  | .hbm, ⟨26, _⟩ => ⟨S_, .f32⟩
  | .hbm, ⟨27, _⟩ => ⟨S1x2096, .f32⟩
  | .hbm, ⟨28, _⟩ => ⟨S1x2096, .f32⟩
  | .hbm, ⟨29, _⟩ => ⟨S1x2096, .f32⟩
  | .hbm, ⟨30, _⟩ => ⟨S_, .f32⟩
  | .hbm, ⟨31, _⟩ => ⟨S1x2096, .f32⟩
  | .hbm, ⟨32, _⟩ => ⟨S1x2096, .f32⟩
  | .hbm, ⟨33, _⟩ => ⟨S1x2096, .f32⟩
  | .hbm, ⟨34, _⟩ => ⟨S_, .f32⟩
  | .hbm, ⟨35, _⟩ => ⟨S1x2096, .f32⟩
  | .hbm, ⟨36, _⟩ => ⟨S1x2096, .f32⟩
  | _, _ => ⟨S1x2096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference23Ideal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S1x96x512 : Shape := ⟨3, ![1, 96, 512]⟩
abbrev S96x512 : Shape := ⟨2, ![96, 512]⟩

abbrev nBuf : Space → Nat
  | .hbm => 11
  | .vmem => 7
  | .smem => 0
  | _ => 0

abbrev bufTy : (tb : Table) → Fin (tcTables nBuf tb) → BufTy
  | .hbm, ⟨0, _⟩ => ⟨S1x96x512, .f32⟩
  | .hbm, ⟨1, _⟩ => ⟨S1x96x512, .f32⟩
  | .hbm, ⟨2, _⟩ => ⟨S1x96x512, .f32⟩
  | .hbm, ⟨3, _⟩ => ⟨S1x96x512, .f32⟩
  | .hbm, ⟨4, _⟩ => ⟨S96x512, .f32⟩
  | .hbm, ⟨5, _⟩ => ⟨S96x512, .f32⟩
  | .hbm, ⟨6, _⟩ => ⟨S96x512, .f32⟩
  | .hbm, ⟨7, _⟩ => ⟨S96x512, .f32⟩
  | .hbm, ⟨8, _⟩ => ⟨S96x512, .f32⟩
  | .hbm, ⟨9, _⟩ => ⟨S96x512, .f32⟩
  | .hbm, ⟨10, _⟩ => ⟨S96x512, .f32⟩
  | .local _ .vmem, ⟨0, _⟩ => ⟨S96x512, .f32⟩
  | .local _ .vmem, ⟨1, _⟩ => ⟨S96x512, .f32⟩
  | .local _ .vmem, ⟨2, _⟩ => ⟨S96x512, .f32⟩
  | .local _ .vmem, ⟨3, _⟩ => ⟨S96x512, .f32⟩
  | .local _ .vmem, ⟨4, _⟩ => ⟨S96x512, .f32⟩
  | .local _ .vmem, ⟨5, _⟩ => ⟨S96x512, .f32⟩
  | .local _ .vmem, ⟨6, _⟩ => ⟨S96x512, .f32⟩
  | _, _ => ⟨S1x96x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S96x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S1x96x512 : Shape := ⟨3, ![1, 96, 512]⟩
abbrev S_ : Shape := ⟨0, ![]⟩
abbrev S96x512 : Shape := ⟨2, ![96, 512]⟩

abbrev nBuf : Space → Nat
  | .hbm => 40
  | .vmem => 0
  | .smem => 0
  | _ => 0

abbrev bufTy : (tb : Table) → Fin (tcTables nBuf tb) → BufTy
  | .hbm, ⟨0, _⟩ => ⟨S1x96x512, .f32⟩
  | .hbm, ⟨1, _⟩ => ⟨S1x96x512, .f32⟩
  | .hbm, ⟨2, _⟩ => ⟨S1x96x512, .f32⟩
  | .hbm, ⟨3, _⟩ => ⟨S1x96x512, .f32⟩
  | .hbm, ⟨4, _⟩ => ⟨S_, .f32⟩
  | .hbm, ⟨5, _⟩ => ⟨S1x96x512, .f32⟩
  | .hbm, ⟨6, _⟩ => ⟨S1x96x512, .f32⟩
  | .hbm, ⟨7, _⟩ => ⟨S_, .f32⟩
  | .hbm, ⟨8, _⟩ => ⟨S1x96x512, .f32⟩
  | .hbm, ⟨9, _⟩ => ⟨S1x96x512, .f32⟩
  | .hbm, ⟨10, _⟩ => ⟨S1x96x512, .f32⟩
  | .hbm, ⟨11, _⟩ => ⟨S_, .f32⟩
  | .hbm, ⟨12, _⟩ => ⟨S1x96x512, .f32⟩
  | .hbm, ⟨13, _⟩ => ⟨S1x96x512, .f32⟩
  | .hbm, ⟨14, _⟩ => ⟨S1x96x512, .f32⟩
  | .hbm, ⟨15, _⟩ => ⟨S_, .f32⟩
  | .hbm, ⟨16, _⟩ => ⟨S1x96x512, .f32⟩
  | .hbm, ⟨17, _⟩ => ⟨S1x96x512, .f32⟩
  | .hbm, ⟨18, _⟩ => ⟨S1x96x512, .f32⟩
  | .hbm, ⟨19, _⟩ => ⟨S_, .f32⟩
  | .hbm, ⟨20, _⟩ => ⟨S1x96x512, .f32⟩
  | .hbm, ⟨21, _⟩ => ⟨S1x96x512, .f32⟩
  | .hbm, ⟨22, _⟩ => ⟨S_, .f32⟩
  | .hbm, ⟨23, _⟩ => ⟨S1x96x512, .f32⟩
  | .hbm, ⟨24, _⟩ => ⟨S1x96x512, .f32⟩
  | .hbm, ⟨25, _⟩ => ⟨S1x96x512, .f32⟩
  | .hbm, ⟨26, _⟩ => ⟨S_, .f32⟩
  | .hbm, ⟨27, _⟩ => ⟨S1x96x512, .f32⟩
  | .hbm, ⟨28, _⟩ => ⟨S1x96x512, .f32⟩
  | .hbm, ⟨29, _⟩ => ⟨S1x96x512, .f32⟩
  | .hbm, ⟨30, _⟩ => ⟨S_, .f32⟩
  | .hbm, ⟨31, _⟩ => ⟨S1x96x512, .f32⟩
  | .hbm, ⟨32, _⟩ => ⟨S1x96x512, .f32⟩
  | .hbm, ⟨33, _⟩ => ⟨S1x96x512, .f32⟩
  | .hbm, ⟨34, _⟩ => ⟨S_, .f32⟩
  | .hbm, ⟨35, _⟩ => ⟨S1x96x512, .f32⟩
  | .hbm, ⟨36, _⟩ => ⟨S1x96x512, .f32⟩
  | .hbm, ⟨37, _⟩ => ⟨S96x512, .f32⟩
  | .hbm, ⟨38, _⟩ => ⟨S96x512, .f32⟩
  | .hbm, ⟨39, _⟩ => ⟨S96x512, .f32⟩
  | _, _ => ⟨S1x96x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel25.lean ====
abbrev S1x32x64 : Shape := ⟨3, ![1, 32, 64]⟩
abbrev S32x64 : Shape := ⟨2, ![32, 64]⟩

abbrev nBuf : Space → Nat
  | .hbm => 11
  | .vmem => 7
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32x64, .f32⟩
  | .hbm, ⟨3, _⟩ => ⟨S1x32x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .local _ .vmem, ⟨0, _⟩ => ⟨S32x64, .f32⟩
  | .local _ .vmem, ⟨1, _⟩ => ⟨S32x64, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S1x32x64 : Shape := ⟨3, ![1, 32, 64]⟩
abbrev S_ : Shape := ⟨0, ![]⟩
abbrev S32x64 : Shape := ⟨2, ![32, 64]⟩

abbrev nBuf : Space → Nat
  | .hbm => 40
  | .vmem => 0
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32x64, .f32⟩
  | .hbm, ⟨3, _⟩ => ⟨S1x32x64, .f32⟩
  | .hbm, ⟨4, _⟩ => ⟨S_, .f32⟩
  | .hbm, ⟨5, _⟩ => ⟨S1x32x64, .f32⟩
  | .hbm, ⟨6, _⟩ => ⟨S1x32x64, .f32⟩
  | .hbm, ⟨7, _⟩ => ⟨S_, .f32⟩
  | .hbm, ⟨8, _⟩ => ⟨S1x32x64, .f32⟩
  | .hbm, ⟨9, _⟩ => ⟨S1x32x64, .f32⟩
  | .hbm, ⟨10, _⟩ => ⟨S1x32x64, .f32⟩
  | .hbm, ⟨11, _⟩ => ⟨S_, .f32⟩
  | .hbm, ⟨12, _⟩ => ⟨S1x32x64, .f32⟩
  | .hbm, ⟨13, _⟩ => ⟨S1x32x64, .f32⟩
  | .hbm, ⟨14, _⟩ => ⟨S1x32x64, .f32⟩
  | .hbm, ⟨15, _⟩ => ⟨S_, .f32⟩
  | .hbm, ⟨16, _⟩ => ⟨S1x32x64, .f32⟩
  | .hbm, ⟨17, _⟩ => ⟨S1x32x64, .f32⟩
  | .hbm, ⟨18, _⟩ => ⟨S1x32x64, .f32⟩
  | .hbm, ⟨19, _⟩ => ⟨S_, .f32⟩
  | .hbm, ⟨20, _⟩ => ⟨S1x32x64, .f32⟩
  | .hbm, ⟨21, _⟩ => ⟨S1x32x64, .f32⟩
  | .hbm, ⟨22, _⟩ => ⟨S_, .f32⟩
  | .hbm, ⟨23, _⟩ => ⟨S1x32x64, .f32⟩
  | .hbm, ⟨24, _⟩ => ⟨S1x32x64, .f32⟩
  | .hbm, ⟨25, _⟩ => ⟨S1x32x64, .f32⟩
  | .hbm, ⟨26, _⟩ => ⟨S_, .f32⟩
  | .hbm, ⟨27, _⟩ => ⟨S1x32x64, .f32⟩
  | .hbm, ⟨28, _⟩ => ⟨S1x32x64, .f32⟩
  | .hbm, ⟨29, _⟩ => ⟨S1x32x64, .f32⟩
  | .hbm, ⟨30, _⟩ => ⟨S_, .f32⟩
  | .hbm, ⟨31, _⟩ => ⟨S1x32x64, .f32⟩
  | .hbm, ⟨32, _⟩ => ⟨S1x32x64, .f32⟩
  | .hbm, ⟨33, _⟩ => ⟨S1x32x64, .f32⟩
  | .hbm, ⟨34, _⟩ => ⟨S_, .f32⟩
  | .hbm, ⟨35, _⟩ => ⟨S1x32x64, .f32⟩
  | .hbm, ⟨36, _⟩ => ⟨S1x32x64, .f32⟩
  | .hbm, ⟨37, _⟩ => ⟨S32x64, .f32⟩
  | .hbm, ⟨38, _⟩ => ⟨S32x64, .f32⟩
  | .hbm, ⟨39, _⟩ => ⟨S32x64, .f32⟩
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel26.lean ====
abbrev S8x2048 : Shape := ⟨2, ![8, 2048]⟩
abbrev S4x8x1536 : Shape := ⟨3, ![4, 8, 1536]⟩
abbrev S4x2048x1536 : Shape := ⟨3, ![4, 2048, 1536]⟩
abbrev S8x512 : Shape := ⟨2, ![8, 512]⟩
abbrev S1x8x1536 : Shape := ⟨3, ![1, 8, 1536]⟩
abbrev S1x512x1536 : Shape := ⟨3, ![1, 512, 1536]⟩
abbrev S8x1536 : Shape := ⟨2, ![8, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8x2048, .f32⟩
  | .hbm, ⟨1, _⟩ => ⟨S4x8x1536, .f32⟩
  | .hbm, ⟨2, _⟩ => ⟨S4x2048x1536, .f32⟩
  | .local _ .vmem, ⟨0, _⟩ => ⟨S8x512, .f32⟩
  | .local _ .vmem, ⟨1, _⟩ => ⟨S8x512, .f32⟩
  | .local _ .vmem, ⟨2, _⟩ => ⟨S1x8x1536, .f32⟩
  | .local _ .vmem, ⟨3, _⟩ => ⟨S1x8x1536, .f32⟩
  | .local _ .vmem, ⟨4, _⟩ => ⟨S1x512x1536, .f32⟩
  | .local _ .vmem, ⟨5, _⟩ => ⟨S1x512x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference26Ideal.lean ====
abbrev S8x2048 : Shape := ⟨2, ![8, 2048]⟩
abbrev S4x8x1536 : Shape := ⟨3, ![4, 8, 1536]⟩
abbrev S_ : Shape := ⟨0, ![]⟩
abbrev S4x2048x1536 : Shape := ⟨3, ![4, 2048, 1536]⟩
abbrev S4x1536x8 : Shape := ⟨3, ![4, 1536, 8]⟩
abbrev S4x1536x2048 : Shape := ⟨3, ![4, 1536, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x8x1536, .f32⟩
  | .hbm, ⟨2, _⟩ => ⟨S_, .f32⟩
  | .hbm, ⟨3, _⟩ => ⟨S4x2048x1536, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S4x1536x8, .f32⟩
  | .hbm, ⟨14, _⟩ => ⟨S4x8x1536, .f32⟩
  | .hbm, ⟨15, _⟩ => ⟨S4x1536x8, .f32⟩
  | .hbm, ⟨16, _⟩ => ⟨S4x1536x2048, .f32⟩
  | .hbm, ⟨17, _⟩ => ⟨S4x2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel27.lean ====
abbrev S8x24x1024 : Shape := ⟨3, ![8, 24, 1024]⟩
abbrev S24x1024 : Shape := ⟨2, ![24, 1024]⟩
abbrev S1x24x1024 : Shape := ⟨3, ![1, 24, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .local _ .vmem, ⟨0, _⟩ => ⟨S8x24x1024, .f32⟩
  | .local _ .vmem, ⟨1, _⟩ => ⟨S24x1024, .f32⟩
  | _, _ => ⟨S8x24x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference27Ideal.lean ====
abbrev S8x24x1024 : Shape := ⟨3, ![8, 24, 1024]⟩
abbrev S_ : Shape := ⟨0, ![]⟩
abbrev S24x1024 : Shape := ⟨2, ![24, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S_, .f32⟩
  | .hbm, ⟨2, _⟩ => ⟨S24x1024, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel28.lean ====
abbrev S4x544x1024 : Shape := ⟨3, ![4, 544, 1024]⟩
abbrev S544x1024 : Shape := ⟨2, ![544, 1024]⟩
abbrev S4x136x1024 : Shape := ⟨3, ![4, 136, 1024]⟩
abbrev S136x1024 : Shape := ⟨2, ![136, 1024]⟩
abbrev S1x136x1024 : Shape := ⟨3, ![1, 136, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x544x1024, .f32⟩
  | .hbm, ⟨1, _⟩ => ⟨S544x1024, .f32⟩
  | .local _ .vmem, ⟨0, _⟩ => ⟨S4x136x1024, .f32⟩
  | .local _ .vmem, ⟨1, _⟩ => ⟨S4x136x1024, .f32⟩
  | .local _ .vmem, ⟨2, _⟩ => ⟨S136x1024, .f32⟩
  | .local _ .vmem, ⟨3, _⟩ => ⟨S136x1024, .f32⟩
  | _, _ => ⟨S4x544x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x136x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S136x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference28Ideal.lean ====
abbrev S4x544x1024 : Shape := ⟨3, ![4, 544, 1024]⟩
abbrev S_ : Shape := ⟨0, ![]⟩
abbrev S544x1024 : Shape := ⟨2, ![544, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x544x1024, .f32⟩
  | .hbm, ⟨1, _⟩ => ⟨S_, .f32⟩
  | .hbm, ⟨2, _⟩ => ⟨S544x1024, .f32⟩
  | _, _ => ⟨S4x544x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel29.lean ====
abbrev S4096x2048 : Shape := ⟨2, ![4096, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 11
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S1x128, .f32⟩
  | .hbm, ⟨7, _⟩ => ⟨S4096x2048, .f32⟩
  | .hbm, ⟨8, _⟩ => ⟨S1x2048, .f32⟩
  | .hbm, ⟨9, _⟩ => ⟨S4096x2048, .bf16⟩
  | .hbm, ⟨10, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x128, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c0_i32 : BitVec 32 := 0#32
  let v68 : BitVec 1 := Scalar.cmpi .eq arg0 c0_i32
  let v76 : BitVec 32 := Scalar.extui v68
  let c0_i32_25 : BitVec 32 := 0#32
  let v77 : BitVec 1 := Scalar.cmpi .ne v76 c0_i32_25
  v77

def k0_cond4 (i : grid0.Coords) : BitVec 1 :=
  let arg0 : BitVec 32 := BitVec.ofNat 32 (i 0).val
  let c0_i32 : BitVec 32 := 0#32
  let v68 : BitVec 1 := Scalar.cmpi .eq arg0 c0_i32
  let true_26 : BitVec 1 := 1#1
  let v78 : BitVec 1 := Scalar.xori v68 true_26
  let v79 : BitVec 32 := Scalar.extui v78
  let c0_i32_27 : BitVec 32 := 0#32
  let v80 : BitVec 1 := Scalar.cmpi .ne v79 c0_i32_27
  v80

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_23 : BitVec 32 := 0#32
  let v70 : BitVec 1 := Scalar.cmpi .ne v69 c0_i32_23
  v70

def k0_cond2 (i : grid0.Coords) : BitVec 1 :=
  let arg0 : BitVec 32 := BitVec.ofNat 32 (i 0).val
  let c0_i32 : BitVec 32 := 0#32
  let v68 : BitVec 1 := Scalar.cmpi .eq arg0 c0_i32
  let v_true : BitVec 1 := 1#1
  let v71 : BitVec 1 := Scalar.xori v68 v_true
  let v72 : BitVec 32 := Scalar.extui v71
  let c0_i32_24 : BitVec 32 := 0#32
  let v73 : BitVec 1 := Scalar.cmpi .ne v72 c0_i32_24
  v73

def k0_cond5 (i : grid0.Coords) : BitVec 1 :=
  let arg0 : BitVec 32 := BitVec.ofNat 32 (i 0).val
  let c0_i32 : BitVec 32 := 0#32
  let v68 : BitVec 1 := Scalar.cmpi .eq arg0 c0_i32
  let v90 : BitVec 32 := Scalar.extui v68
  let c0_i32_35 : BitVec 32 := 0#32
  let v91 : BitVec 1 := Scalar.cmpi .ne v90 c0_i32_35
  v91

def k0_cond6 (i : grid0.Coords) : BitVec 1 :=
  let arg0 : BitVec 32 := BitVec.ofNat 32 (i 0).val
  let c0_i32 : BitVec 32 := 0#32
  let v68 : BitVec 1 := Scalar.cmpi .eq arg0 c0_i32
  let true_36 : BitVec 1 := 1#1
  let v92 : BitVec 1 := Scalar.xori v68 true_36
  let v93 : BitVec 32 := Scalar.extui v92
  let c0_i32_37 : BitVec 32 := 0#32
  let v94 : BitVec 1 := Scalar.cmpi .ne v93 c0_i32_37
  v94

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference29Ideal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S2048, .f32⟩
  | .hbm, ⟨56, _⟩ => ⟨S4096x2048, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x2048, .f32⟩
  | .hbm, ⟨61, _⟩ => ⟨S4096x2048, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S_, .f32⟩
  | .hbm, ⟨79, _⟩ => ⟨S2048, .f32⟩
  | .hbm, ⟨80, _⟩ => ⟨S1x2048, .f32⟩
  | .hbm, ⟨81, _⟩ => ⟨S1x128, .f32⟩
  | .hbm, ⟨82, _⟩ => ⟨S1x2048, .f32⟩
  | .hbm, ⟨83, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_cst_8 : Ref sig .tc := ⟨.hbm, 39, rfl⟩
abbrev main_cst_9 : Ref sig .tc := ⟨.hbm, 40, rfl⟩
abbrev main_v25 : Ref sig .tc := ⟨.hbm, 41, rfl⟩
abbrev main_v26 : Ref sig .tc := ⟨.hbm, 42, rfl⟩
abbrev main_cst_10 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_cst_13 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_cst_15 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_16 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== Kernel30.lean ====
abbrev S4096x2048 : Shape := ⟨2, ![4096, 2048]⟩
abbrev S2048x256 : Shape := ⟨2, ![2048, 256]⟩
abbrev S4096x256 : Shape := ⟨2, ![4096, 256]⟩
abbrev S1024x2048 : Shape := ⟨2, ![1024, 2048]⟩
abbrev S1024x256 : Shape := ⟨2, ![1024, 256]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x256, .bf16⟩
  | .hbm, ⟨2, _⟩ => ⟨S4096x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S1024x256, .f32⟩
  | .local _ .vmem, ⟨4, _⟩ => ⟨S1024x256, .f32⟩
  | .local _ .vmem, ⟨5, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S4096x2048 : Shape := ⟨2, ![4096, 2048]⟩
abbrev S2048x256 : Shape := ⟨2, ![2048, 256]⟩
abbrev S4096x256 : Shape := ⟨2, ![4096, 256]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x256, .bf16⟩
  | .hbm, ⟨2, _⟩ => ⟨S4096x2048, .f32⟩
  | .hbm, ⟨3, _⟩ => ⟨S2048x256, .f32⟩
  | .hbm, ⟨4, _⟩ => ⟨S4096x256, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel31.lean ====
abbrev S2048x256 : Shape := ⟨2, ![2048, 256]⟩
abbrev S4096x256 : Shape := ⟨2, ![4096, 256]⟩
abbrev S4096x2048 : Shape := ⟨2, ![4096, 2048]⟩
abbrev S1024x256 : Shape := ⟨2, ![1024, 256]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x256, .bf16⟩
  | .hbm, ⟨1, _⟩ => ⟨S4096x256, .bf16⟩
  | .hbm, ⟨2, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S2048x256 : Shape := ⟨2, ![2048, 256]⟩
abbrev S4096x256 : Shape := ⟨2, ![4096, 256]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S4096x256, .bf16⟩
  | .hbm, ⟨2, _⟩ => ⟨S_, .f32⟩
  | .hbm, ⟨3, _⟩ => ⟨S4096x2048, .f32⟩
  | .hbm, ⟨4, _⟩ => ⟨S2048x256, .f32⟩
  | .hbm, ⟨5, _⟩ => ⟨S4096x256, .f32⟩
  | .hbm, ⟨6, _⟩ => ⟨S4096x256, .f32⟩
  | .hbm, ⟨7, _⟩ => ⟨S4096x2048, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel32.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference32Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel33.lean ====
abbrev S4096x2048 : Shape := ⟨2, ![4096, 2048]⟩
abbrev S4096x256 : Shape := ⟨2, ![4096, 256]⟩
abbrev S2048x256 : Shape := ⟨2, ![2048, 256]⟩
abbrev S4096x1024 : Shape := ⟨2, ![4096, 1024]⟩
abbrev S1024x256 : Shape := ⟨2, ![1024, 256]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x256, .bf16⟩
  | .hbm, ⟨2, _⟩ => ⟨S2048x256, .f32⟩
  | .local _ .vmem, ⟨0, _⟩ => ⟨S4096x1024, .bf16⟩
  | .local _ .vmem, ⟨1, _⟩ => ⟨S4096x1024, .bf16⟩
  | .local _ .vmem, ⟨2, _⟩ => ⟨S4096x256, .bf16⟩
  | .local _ .vmem, ⟨3, _⟩ => ⟨S1024x256, .f32⟩
  | .local _ .vmem, ⟨4, _⟩ => ⟨S1024x256, .f32⟩
  | .local _ .vmem, ⟨5, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference33Ideal.lean ====
abbrev S4096x2048 : Shape := ⟨2, ![4096, 2048]⟩
abbrev S4096x256 : Shape := ⟨2, ![4096, 256]⟩
abbrev S_ : Shape := ⟨0, ![]⟩
abbrev S2048x256 : Shape := ⟨2, ![2048, 256]⟩
abbrev S256x2048 : Shape := ⟨2, ![256, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x256, .bf16⟩
  | .hbm, ⟨2, _⟩ => ⟨S_, .f32⟩
  | .hbm, ⟨3, _⟩ => ⟨S2048x256, .f32⟩
  | .hbm, ⟨4, _⟩ => ⟨S4096x2048, .f32⟩
  | .hbm, ⟨5, _⟩ => ⟨S4096x256, .f32⟩
  | .hbm, ⟨6, _⟩ => ⟨S4096x256, .f32⟩
  | .hbm, ⟨7, _⟩ => ⟨S256x2048, .f32⟩
  | .hbm, ⟨8, _⟩ => ⟨S2048x256, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel34.lean ====
abbrev S4096x6144 : Shape := ⟨2, ![4096, 6144]⟩
abbrev S1x2048 : Shape := ⟨2, ![1, 2048]⟩
abbrev S16x128x128 : Shape := ⟨3, ![16, 128, 128]⟩
abbrev S16x128 : Shape := ⟨2, ![16, 128]⟩
abbrev S128x16 : Shape := ⟨2, ![128, 16]⟩
abbrev S_ : Shape := ⟨0, ![]⟩
abbrev S128x128 : Shape := ⟨2, ![128, 128]⟩
abbrev S4096x2048 : Shape := ⟨2, ![4096, 2048]⟩
abbrev S128x6144 : Shape := ⟨2, ![128, 6144]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩

abbrev nBuf : Space → Nat
  | .hbm => 10
  | .vmem => 8
  | .smem => 0
  | _ => 0

abbrev bufTy : (tb : Table) → Fin (tcTables nBuf tb) → BufTy
  | .hbm, ⟨0, _⟩ => ⟨S4096x6144, .f32⟩
  | .hbm, ⟨1, _⟩ => ⟨S1x2048, .f32⟩
  | .hbm, ⟨2, _⟩ => ⟨S1x2048, .f32⟩
  | .hbm, ⟨3, _⟩ => ⟨S16x128x128, .f32⟩
  | .hbm, ⟨4, _⟩ => ⟨S16x128, .f32⟩
  | .hbm, ⟨5, _⟩ => ⟨S128x16, .f32⟩
  | .hbm, ⟨6, _⟩ => ⟨S_, .i32⟩
  | .hbm, ⟨7, _⟩ => ⟨S_, .f32⟩
  | .hbm, ⟨8, _⟩ => ⟨S128x128, .f32⟩
  | .hbm, ⟨9, _⟩ => ⟨S4096x2048, .bf16⟩
  | .local _ .vmem, ⟨0, _⟩ => ⟨S128x6144, .f32⟩
  | .local _ .vmem, ⟨1, _⟩ => ⟨S128x6144, .f32⟩
  | .local _ .vmem, ⟨2, _⟩ => ⟨S1x2048, .f32⟩
  | .local _ .vmem, ⟨3, _⟩ => ⟨S1x2048, .f32⟩
  | .local _ .vmem, ⟨4, _⟩ => ⟨S16x128x128, .f32⟩
  | .local _ .vmem, ⟨5, _⟩ => ⟨S128x128, .f32⟩
  | .local _ .vmem, ⟨6, _⟩ => ⟨S128x2048, .bf16⟩
  | .local _ .vmem, ⟨7, _⟩ => ⟨S128x2048, .bf16⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference34Ideal.lean ====
abbrev S4096x6144 : Shape := ⟨2, ![4096, 6144]⟩
abbrev S1x2048 : Shape := ⟨2, ![1, 2048]⟩
abbrev S16x128x128 : Shape := ⟨3, ![16, 128, 128]⟩
abbrev S16x128 : Shape := ⟨2, ![16, 128]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S32x128x16x128 : Shape := ⟨4, ![32, 128, 16, 128]⟩
abbrev S128x128 : Shape := ⟨2, ![128, 128]⟩
abbrev S1x128x128 : Shape := ⟨3, ![1, 128, 128]⟩
abbrev S16x32x128x128 : Shape := ⟨4, ![16, 32, 128, 128]⟩
abbrev S128x16 : Shape := ⟨2, ![128, 16]⟩
abbrev S128x16x1 : Shape := ⟨3, ![128, 16, 1]⟩
abbrev S1x128x16x1 : Shape := ⟨4, ![1, 128, 16, 1]⟩

abbrev nBuf : Space → Nat
  | .hbm => 106
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S1x2048, .f32⟩
  | .hbm, ⟨2, _⟩ => ⟨S1x2048, .f32⟩
  | .hbm, ⟨3, _⟩ => ⟨S16x128x128, .f32⟩
  | .hbm, ⟨4, _⟩ => ⟨S16x128, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x2048, .f32⟩
  | .hbm, ⟨58, _⟩ => ⟨S4096x2048, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S32x128x16x128, .f32⟩
  | .hbm, ⟨70, _⟩ => ⟨S_, .i1⟩
  | .hbm, ⟨71, _⟩ => ⟨S128x128, .i1⟩
  | .hbm, ⟨72, _⟩ => ⟨S128x128, .i32⟩
  | .hbm, ⟨73, _⟩ => ⟨S_, .i32⟩
  | .hbm, ⟨74, _⟩ => ⟨S128x128, .i32⟩
  | .hbm, ⟨75, _⟩ => ⟨S128x128, .i32⟩
  | .hbm, ⟨76, _⟩ => ⟨S128x128, .i32⟩
  | .hbm, ⟨77, _⟩ => ⟨S128x128, .i1⟩
  | .hbm, ⟨78, _⟩ => ⟨S_, .i1⟩
  | .hbm, ⟨79, _⟩ => ⟨S128x128, .i1⟩
  | .hbm, ⟨80, _⟩ => ⟨S128x128, .i1⟩
  | .hbm, ⟨81, _⟩ => ⟨S1x128x128, .i1⟩
  | .hbm, ⟨82, _⟩ => ⟨S_, .f32⟩
  | .hbm, ⟨83, _⟩ => ⟨S16x128x128, .f32⟩
  | .hbm, ⟨84, _⟩ => ⟨S16x128x128, .i1⟩
  | .hbm, ⟨85, _⟩ => ⟨S16x128x128, .f32⟩
  | .hbm, ⟨86, _⟩ => ⟨S16x32x128x128, .f32⟩
  | .hbm, ⟨87, _⟩ => ⟨S32x128x16x128, .f32⟩
  | .hbm, ⟨88, _⟩ => ⟨S128x16, .f32⟩
  | .hbm, ⟨89, _⟩ => ⟨S128x16x1, .f32⟩
  | .hbm, ⟨90, _⟩ => ⟨S1x128x16x1, .f32⟩
  | .hbm, ⟨91, _⟩ => ⟨S32x128x16x128, .f32⟩
  | .hbm, ⟨92, _⟩ => ⟨S32x128x16x128, .f32⟩
  | .hbm, ⟨93, _⟩ => ⟨S4096x2048, .f32⟩
  | .hbm, ⟨94, _⟩ => ⟨S4096x2048, .f32⟩
  | .hbm, ⟨95, _⟩ => ⟨S4096x2048, .f32⟩
  | .hbm, ⟨96, _⟩ => ⟨S4096x2048, .f32⟩
  | .hbm, ⟨97, _⟩ => ⟨S_, .f32⟩
  | .hbm, ⟨98, _⟩ => ⟨S4096x2048, .f32⟩
  | .hbm, ⟨99, _⟩ => ⟨S4096x2048, .f32⟩
  | .hbm, ⟨100, _⟩ => ⟨S_, .f32⟩
  | .hbm, ⟨101, _⟩ => ⟨S4096x2048, .f32⟩
  | .hbm, ⟨102, _⟩ => ⟨S4096x2048, .f32⟩
  | .hbm, ⟨103, _⟩ => ⟨S4096x2048, .f32⟩
  | .hbm, ⟨104, _⟩ => ⟨S4096x2048, .f32⟩
  | .hbm, ⟨105, _⟩ => ⟨S4096x2048, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c : Ref sig .tc := ⟨.hbm, 70, rfl⟩
abbrev main_v52 : Ref sig .tc := ⟨.hbm, 71, rfl⟩
abbrev main_call0_v0 : Ref sig .tc := ⟨.hbm, 72, rfl⟩
abbrev main_call0_c : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_c_0 : Ref sig .tc := ⟨.hbm, 78, rfl⟩
abbrev main_call0_v5 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_call1_v0 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call2_v0 : Ref sig .tc := ⟨.hbm, 95, rfl⟩
abbrev main_call2_v1 : Ref sig .tc := ⟨.hbm, 96, rfl⟩
abbrev main_call2_cst : Ref sig .tc := ⟨.hbm, 97, rfl⟩
abbrev main_call2_v2 : Ref sig .tc := ⟨.hbm, 98, rfl⟩
abbrev main_call2_v3 : Ref sig .tc := ⟨.hbm, 99, rfl⟩
abbrev main_call2_cst_0 : Ref sig .tc := ⟨.hbm, 100, rfl⟩
abbrev main_call2_v4 : Ref sig .tc := ⟨.hbm, 101, rfl⟩
abbrev main_call2_v5 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩

abbrev nD : Nat := 1
abbrev τ : Topo := Topo.v7x

variable {F : FTy → Type} [FloatOps F]
-- ==== Proof.Spec.lean ====
/-
  The gradient of the chunked spatial gating, written as plain formulas over the extended reals for one chunk of 128 rows.

  A row `x` of the input is cut in `u`, `v` and `z`, 2048 columns each. The forward pass is

      out = gelu u * f * silu z,     f t c = (∑ s ≤ t, w g t s * vn s c) + b t g,     vn = layer norm of gelu v,

  where `g` is the group of 128 neighbouring columns that `c` lies in. `dout` is the cotangent of `out`.
  Nothing here mentions a program: both programs are shown to compute these functions.
-/
module

public import Idealize.ShloMosaic.Lib.Pointwise

@[expose] public section

noncomputable section

namespace Cert.Gating

open Idealize.ShloMosaic

/-! ## Columns -/

/-- Lane `l` of group `g` among the 2048 columns. -/
def col (g : Fin 16) (l : Fin 128) : Fin 2048 := ⟨128 * g.val + l.val, by omega⟩
/-- The group of a column. -/
def grp (c : Fin 2048) : Fin 16 := ⟨c.val / 128, by omega⟩
/-- The lane of a column in its group. -/
def lane (c : Fin 2048) : Fin 128 := ⟨c.val % 128, by omega⟩

theorem col_grp_lane (c : Fin 2048) : col (grp c) (lane c) = c := Fin.ext (by simp only [col, grp, lane]; omega)
theorem grp_col (g : Fin 16) (l : Fin 128) : grp (col g l) = g := Fin.ext (by simp only [col, grp]; omega)

/-- Column `c` of `u`, of `v` and of `z` in a row of 6144 columns. -/
def uCol (c : Fin 2048) : Fin 6144 := ⟨c.val, by omega⟩
def vCol (c : Fin 2048) : Fin 6144 := ⟨2048 + c.val, by omega⟩
def zCol (c : Fin 2048) : Fin 6144 := ⟨4096 + c.val, by omega⟩

/-- Row `s` of chunk `n` among the 4096 rows. -/
def row (n : Fin 32) (s : Fin 128) : Fin 4096 := ⟨128 * n.val + s.val, by omega⟩

/-! ## The constants, as the words the programs hold -/

/-- 0.044715, √(2/π), 1/2, 3, 2, 2048, the layer norm's 1e-5 and -1/2. -/
def kCube : EReal := Ideal.ofBits .f32 0x3D372713#32
def kRoot : EReal := Ideal.ofBits .f32 0x3F4C422A#32
def kHalf : EReal := Ideal.ofBits .f32 0x3F000000#32
def kThree : EReal := Ideal.ofBits .f32 0x40400000#32
def kTwo : EReal := Ideal.ofBits .f32 0x40000000#32
def kCols : EReal := Ideal.ofBits .f32 0x45000000#32
def kEps : EReal := Ideal.ofBits .f32 0x3727C5AC#32
def kNegHalf : EReal := Ideal.ofBits .f32 0xBF000000#32

/-! ## Scalar functions -/

/-- The inner polynomial of the tanh form of gelu. -/
def poly (x : EReal) : EReal := x + kCube * (x * (x * x))
/-- The tanh in gelu. -/
def th (x : EReal) : EReal := Ideal.tanh (kRoot * poly x)
/-- The factor of `x` in gelu. -/
def gate (x : EReal) : EReal := kHalf * (1 + th x)
/-- gelu in its tanh form. -/
def gelu (x : EReal) : EReal := x * gate x
/-- The part of gelu's gradient that goes through tanh, up to the inner polynomial. -/
def geluInner (x d : EReal) : EReal := kRoot * ((kHalf * (x * d)) * ((1 + th x) * (1 - th x)))
/-- The gradient of gelu at `x` applied to the cotangent `d`. -/
def geluBwd (x d : EReal) : EReal :=
  (d * gate x + geluInner x d) + (kCube * geluInner x d) * (kThree * (x * x))

/-- `z` times its logistic. -/
def silu (z : EReal) : EReal := z * Ideal.logistic z
/-- The gradient of `silu` at `z` applied to the cotangent `d`. -/
def siluBwd (z d : EReal) : EReal :=
  d * Ideal.logistic z + (z * d) * (Ideal.logistic z * (1 - Ideal.logistic z))

/-! ## One row's layer norm -/

section Norm
variable (v lg lb d : Fin 2048 → EReal)

/-- The mean of gelu over the row. -/
def mean : EReal := Ideal.div (∑ c, gelu (v c)) kCols
/-- The distance from the mean. -/
def dif (c : Fin 2048) : EReal := gelu (v c) - mean v
/-- The variance plus the small constant. -/
def var : EReal := Ideal.div (∑ c, dif v c * dif v c) kCols + kEps
/-- The reciprocal root of the variance. -/
def rs : EReal := Ideal.rsqrt (var v)
/-- The normalised value. -/
def xhat (c : Fin 2048) : EReal := dif v c * rs v
/-- The layer norm. -/
def norm (c : Fin 2048) : EReal := xhat v c * lg c + lb c

/-- The cotangent that reaches the distances through the product with the reciprocal root. -/
def dDirect (c : Fin 2048) : EReal := (d c * lg c) * rs v
/-- The cotangent of the variance, divided by the number of columns. -/
def dVar : EReal := Ideal.div ((∑ c, dif v c * (d c * lg c)) * (kNegHalf * Ideal.div (rs v) (var v))) kCols
/-- The cotangent that reaches the distances through the variance. -/
def dSquare (c : Fin 2048) : EReal := dVar v lg d * (kTwo * dif v c)
/-- The gradient of the layer norm with respect to the values of gelu. -/
def normBwd (c : Fin 2048) : EReal :=
  (dDirect v lg d c + dSquare v lg d c)
    + Ideal.div ((∑ k, -dDirect v lg d k) + (∑ k, -dSquare v lg d k)) kCols

end Norm

/-! ## One chunk -/

/-- What one chunk's gradient depends on. -/
structure Chunk where
  u : Fin 128 → Fin 2048 → EReal
  v : Fin 128 → Fin 2048 → EReal
  z : Fin 128 → Fin 2048 → EReal
  dout : Fin 128 → Fin 2048 → EReal
  lg : Fin 2048 → EReal
  lb : Fin 2048 → EReal
  w : Fin 16 → Fin 128 → Fin 128 → EReal
  b : Fin 128 → Fin 16 → EReal

namespace Chunk
variable (K : Chunk)

/-- The normalised values. -/
def vn (s : Fin 128) (c : Fin 2048) : EReal := norm (K.v s) K.lg K.lb c
/-- The causal weights of a group. -/
def wm (g : Fin 16) (t s : Fin 128) : EReal := if s ≤ t then K.w g t s else 0
/-- The spatial mix of the normalised values. -/
def f (t : Fin 128) (c : Fin 2048) : EReal := (∑ s, K.wm (grp c) t s * K.vn s c) + K.b t (grp c)
/-- `dout` times `silu z`. -/
def dgate (t : Fin 128) (c : Fin 2048) : EReal := K.dout t c * silu (K.z t c)
/-- The cotangent of the mix. -/
def df (t : Fin 128) (c : Fin 2048) : EReal := gelu (K.u t c) * K.dgate t c
/-- The cotangent of the normalised values. -/
def dvn (s : Fin 128) (c : Fin 2048) : EReal := ∑ t, K.wm (grp c) t s * K.df t c

/-- The gradient of `u`. -/
def du (t : Fin 128) (c : Fin 2048) : EReal := geluBwd (K.u t c) (K.dgate t c * K.f t c)
/-- The gradient of `v`. -/
def dv (t : Fin 128) (c : Fin 2048) : EReal := geluBwd (K.v t c) (normBwd (K.v t) K.lg (K.dvn t) c)
/-- The gradient of `z`. -/
def dz (t : Fin 128) (c : Fin 2048) : EReal := siluBwd (K.z t c) ((gelu (K.u t c) * K.f t c) * K.dout t c)

/-- This chunk's part of the gradient of the layer norm's scale. -/
def dlg (c : Fin 2048) : EReal := ∑ s, xhat (K.v s) c * K.dvn s c
/-- This chunk's part of the gradient of the layer norm's shift. -/
def dlb (c : Fin 2048) : EReal := ∑ s, K.dvn s c
/-- This chunk's part of the weights' gradient, before the mask. -/
def dwFull (g : Fin 16) (t s : Fin 128) : EReal := ∑ l, K.df t (col g l) * K.vn s (col g l)
/-- This chunk's part of the weights' gradient. -/
def dw (g : Fin 16) (t s : Fin 128) : EReal := if s ≤ t then K.dwFull g t s else 0
/-- This chunk's part of the bias's gradient. -/
def db (t : Fin 128) (g : Fin 16) : EReal := ∑ l, K.df t (col g l)
/-- The bias's gradient with zeros in the lanes past the 16 groups. -/
def dbPad (t l : Fin 128) : EReal := if h : l.val < 16 then K.db t ⟨l.val, h⟩ else 0

end Chunk

/-- Chunk `n` of whole arrays: rows `128 n … 128 n + 127` of the input and of the cotangent. -/
def chunkOf (p : Fin 4096 → Fin 6144 → EReal) (lg lb : Fin 2048 → EReal) (w : Fin 16 → Fin 128 → Fin 128 → EReal)
    (b : Fin 16 → Fin 128 → EReal) (dout : Fin 4096 → Fin 2048 → EReal) (n : Fin 32) : Chunk where
  u s c := p (row n s) (uCol c)
  v s c := p (row n s) (vCol c)
  z s c := p (row n s) (zCol c)
  dout s c := dout (row n s) c
  lg := lg
  lb := lb
  w := w
  b t g := b g t

end Cert.Gating
-- ==== Proof.KRow.lean ====
/-
  The kernel's row-by-row values at one grid point, read down to scalars: gelu of `u` and `v`, the layer norm of a row and
  its saved intermediate values, the gate `silu z` and the cotangent of the mix.
-/
module

public import proofs.«01_k».proof.Proof.Gen.KernelIdeal.Value
public import proofs.«01_k».proof.Proof.Spec

@[expose] public section

set_option maxRecDepth 16384

noncomputable section

namespace Cert.KernelIdeal.Block

open Idealize.ShloMosaic Idealize.ShloMosaic.TcCoe
open Cert.KernelIdeal Cert.KernelIdeal.Gen Cert.Gating

/-- The word of √(2/π), as the kernel's own scalar. -/
abbrev cRoot : Ideal .f32 := Ideal.ofBits .f32 0x3F4C422A#32

variable (x0 : Vec Ideal S128x6144 .f32) (x1 x2 : Vec Ideal S1x2048 .f32) (x3 : Vec Ideal S16x128x128 .f32)
  (x4 : Vec Ideal S128x128 .f32) (x5 : Vec Ideal S128x2048 .f32)

/-- The chunk a grid point's input blocks hold. -/
def chunk : Chunk where
  u s c := x0 (ix2 s (uCol c))
  v s c := x0 (ix2 s (vCol c))
  z s c := x0 (ix2 s (zCol c))
  dout s c := x5 (ix2 s c)
  lg c := x1 (ix2 0 c)
  lb c := x2 (ix2 0 c)
  w g t s := x3 (ix3 g t s)
  b t g := x4 (ix2 t ⟨g.val, by omega⟩)

/-- Row `s` of the chunk's `v`. -/
def vRow (s : Fin 128) (c : Fin 2048) : EReal := x0 (ix2 s (vCol c))

variable (s : Fin 128) (c : Fin 2048)

/-! ## gelu of `u` -/

theorem pay6_apply : k0_pay6 x0 (ix2 s c) = x0 (ix2 s (uCol c)) := by
  pointwise [k0_pay6]; rfl
theorem pay9_apply : k0_pay9 x0 (ix2 s c) = kThree * (x0 (ix2 s (uCol c)) * x0 (ix2 s (uCol c))) := by
  pointwise [k0_pay9, k0_pay6]; rfl
theorem pay11_apply : k0_pay11 x0 (ix2 s c) = (1 + th (x0 (ix2 s (uCol c)))) * (1 - th (x0 (ix2 s (uCol c)))) := by
  pointwise [k0_pay11, k0_pay10, k0_pay6]; rfl
theorem pay12_apply : k0_pay12 x0 (ix2 s c) = gate (x0 (ix2 s (uCol c))) := by
  pointwise [k0_pay12, k0_pay10, k0_pay6]; rfl
theorem pay13_apply : k0_pay13 x0 (ix2 s c) = gelu (x0 (ix2 s (uCol c))) := by
  pointwise [k0_pay13, k0_pay12, k0_pay10, k0_pay6]; rfl

/-! ## gelu of `v` and the layer norm -/

theorem pay7_apply : k0_pay7 x0 (ix2 s c) = x0 (ix2 s (vCol c)) := by
  pointwise [k0_pay7]; rfl
theorem pay14_apply : k0_pay14 x0 (ix2 s c) = kThree * (x0 (ix2 s (vCol c)) * x0 (ix2 s (vCol c))) := by
  pointwise [k0_pay14, k0_pay7]; rfl
theorem pay15_apply : k0_pay15 x0 (ix2 s c) = poly (x0 (ix2 s (vCol c))) := by
  pointwise [k0_pay15, k0_pay7]; rfl
theorem pay17_apply : k0_pay17 (k0_pay15 x0) cRoot (ix2 s c)
    = (1 + th (x0 (ix2 s (vCol c)))) * (1 - th (x0 (ix2 s (vCol c)))) := by
  pointwise [k0_pay17, k0_pay16, pay15_apply]; rfl
theorem pay18_apply : k0_pay18 (k0_pay15 x0) cRoot (ix2 s c) = gate (x0 (ix2 s (vCol c))) := by
  pointwise [k0_pay18, k0_pay16, pay15_apply]; rfl
theorem pay19_apply : k0_pay19 (k0_pay7 x0) (k0_pay15 x0) cRoot (ix2 s c) = gelu (x0 (ix2 s (vCol c))) := by
  pointwise [k0_pay19, pay18_apply, pay7_apply]; rfl
theorem pay20_apply : k0_pay20 (k0_pay7 x0) (k0_pay15 x0) cRoot (ix2 s 0) = mean (vRow x0 s) := by
  pointwise [k0_pay20, pay19_apply]; rfl
theorem pay21_apply : k0_pay21 (k0_pay7 x0) (k0_pay15 x0) cRoot (ix2 s c) = dif (vRow x0 s) c := by
  pointwise [k0_pay21, pay19_apply, pay20_apply]; rfl
theorem pay22_apply : k0_pay22 (k0_pay7 x0) (k0_pay15 x0) cRoot (ix2 s c) = kTwo * dif (vRow x0 s) c := by
  pointwise [k0_pay22, pay21_apply]; rfl
theorem pay23_apply : k0_pay23 (k0_pay7 x0) (k0_pay15 x0) cRoot (ix2 s c) = dif (vRow x0 s) c := by
  pointwise [k0_pay23, pay19_apply, pay20_apply]; rfl
theorem pay24_apply : k0_pay24 (k0_pay7 x0) (k0_pay15 x0) cRoot (ix2 s 0) = var (vRow x0 s) := by
  pointwise [k0_pay24, pay21_apply]; rfl
theorem pay25_apply : k0_pay25 (k0_pay7 x0) (k0_pay15 x0) cRoot (ix2 s 0) = rs (vRow x0 s) := by
  pointwise [k0_pay25, pay24_apply]; rfl
theorem pay26_apply : k0_pay26 (k0_pay7 x0) (k0_pay15 x0) cRoot (ix2 s 0) = kNegHalf * Ideal.div (rs (vRow x0 s)) (var (vRow x0 s)) := by
  pointwise [k0_pay26, pay25_apply, pay24_apply]; rfl
theorem pay27_apply : k0_pay27 (k0_pay7 x0) (k0_pay15 x0) cRoot (ix2 s c) = xhat (vRow x0 s) c := by
  pointwise [k0_pay27, pay25_apply, pay23_apply]; rfl
/-- The layer norm's output. -/
theorem pay28_apply : k0_pay28 x1 x2 (k0_pay7 x0) (k0_pay15 x0) cRoot (ix2 s c) = (chunk x0 x1 x2 x3 x4 x5).vn s c := by
  pointwise [k0_pay28, pay27_apply]; rfl

/-! ## The gate and the cotangent of the mix -/

theorem pay8_apply : k0_pay8 x0 (ix2 s c) = x0 (ix2 s (zCol c)) := by
  pointwise [k0_pay8]; rfl
theorem pay87_apply : k0_pay87 (k0_pay8 x0) x5 (ix2 s c) = (chunk x0 x1 x2 x3 x4 x5).dgate s c := by
  pointwise [k0_pay87, k0_pay86, pay8_apply]; rfl
theorem pay89_apply : k0_pay89 (k0_pay8 x0) (k0_pay13 x0) x5 (ix2 s c) = (chunk x0 x1 x2 x3 x4 x5).df s c := by
  pointwise [k0_pay89, pay87_apply x0 x1 x2 x3 x4 x5, pay13_apply]; rfl

/-! ## The causal mask -/

theorem toInt_small {n : Nat} (h : n < 2048) : (BitVec.ofNat 32 n).toInt = n := by
  rw [BitVec.toInt_eq_toNat_cond, BitVec.toNat_ofNat, Nat.mod_eq_of_lt (by omega), if_pos (by omega)]

theorem mask_apply (t s : Fin 128) : k0_pay29 (ix2 t s) = if s ≤ t then 1#1 else 0#1 := by
  pointwise [k0_pay29]
  have hs := toInt_small (show s.val < 2048 by omega)
  have ht := toInt_small (show t.val < 2048 by omega)
  by_cases h : s ≤ t
  · rw [if_pos h, IntOp.cmpi_sle, hs, ht]
    exact_mod_cast h
  · rw [if_neg h]
    have h1 : ¬IntOp.cmpi .sle (BitVec.ofNat 32 s.val) (BitVec.ofNat 32 t.val) = 1#1 := by
      rw [IntOp.cmpi_sle, hs, ht]
      exact_mod_cast h
    generalize IntOp.cmpi .sle (BitVec.ofNat 32 s.val) (BitVec.ofNat 32 t.val) = b at h1
    revert b
    decide

theorem select_mask (t s : Fin 128) (a b : EReal) : Scalar.select (k0_pay29 (ix2 t s)) a b = if s ≤ t then a else b := by
  rw [mask_apply]
  by_cases h : s ≤ t
  · rw [if_pos h, if_pos h]; rfl
  · rw [if_neg h, if_neg h]; rfl

/-! ## The group selector -/

/-- The kernel's floor division of a column by 128 is the column's group. -/
theorem group_word : ∀ c : Fin 2048,
    Scalar.select
      (IntOp.andi
        (IntOp.cmpi .ne
          (IntOp.subi (BitVec.setWidth 32 (IntOp.cmpi .sgt (BitVec.ofNat 32 c.val) 0#32))
            (BitVec.setWidth 32 (IntOp.cmpi .slt (BitVec.ofNat 32 c.val) 0#32)))
          (Scalar.subi (Scalar.extui (Scalar.cmpi .sgt 128#32 0#32)) (Scalar.extui (Scalar.cmpi .slt 128#32 0#32))))
        (IntOp.cmpi .ne (IntOp.remsi .vector (BitVec.ofNat 32 c.val) 128#32) 0#32))
      (IntOp.subi (IntOp.divsi .vector (BitVec.ofNat 32 c.val) 128#32) 1#32)
      (IntOp.divsi .vector (BitVec.ofNat 32 c.val) 128#32) = BitVec.ofNat 32 (c.val / 128) := by
  decide +kernel

/-- Each row's number, in every column. -/
def rowNumbers : IVec S128x2048 32 := iota .tc S128x2048 32 [0] iota_S128x2048_d0_w32

/-- The selector is 1 in the row of the column's group and 0 elsewhere. -/
theorem selector_apply (l : Fin 128) (c : Fin 2048) :
    k0_pay84 (F := Ideal) rowNumbers k0_pay81 k0_pay82 k0_pay83 (ix2 l c)
      = if l.val = (grp c).val then 1 else 0 := by
  pointwise [rowNumbers, k0_pay84, k0_pay81, k0_pay82, k0_pay83]
  rw [group_word c]
  have hc : c.val / 128 < 2048 := by omega
  have hg : (grp c).val = c.val / 128 := rfl
  rw [hg]
  by_cases h : l.val = c.val / 128
  · rw [if_pos h, ← h, IntOp.cmpi_eq.mpr rfl]
    show (((BitVec.setWidth 32 1#1 : BitVec 32).toInt : ℝ) : EReal) = 1
    rw [show (BitVec.setWidth 32 1#1 : BitVec 32).toInt = 1 from by decide]
    norm_num
  · rw [if_neg h]
    have h1 : ¬IntOp.cmpi .eq (BitVec.ofNat 32 (c.val / 128)) (BitVec.ofNat 32 l.val) = 1#1 := by
      rw [IntOp.cmpi_eq]
      intro he
      have := congrArg BitVec.toNat he
      rw [BitVec.toNat_ofNat, BitVec.toNat_ofNat, Nat.mod_eq_of_lt (by omega), Nat.mod_eq_of_lt (by omega)] at this
      exact h this.symm
    have h0 : IntOp.cmpi .eq (BitVec.ofNat 32 (c.val / 128)) (BitVec.ofNat 32 l.val) = 0#1 := by
      generalize IntOp.cmpi .eq (BitVec.ofNat 32 (c.val / 128)) (BitVec.ofNat 32 l.val) = b at h1
      revert b
      decide
    rw [h0]
    show (((BitVec.setWidth 32 0#1 : BitVec 32).toInt : ℝ) : EReal) = 0
    rw [show (BitVec.setWidth 32 0#1 : BitVec 32).toInt = 0 from by decide]
    norm_num

end Cert.KernelIdeal.Block
-- ==== Proof.KSlice.lean ====
/-
  The kernel's sixteen group products at one grid point, read down to scalars: the mix of the normalised values, the
  cotangents of the normalised values and of the weights, and the bias's. The kernel cuts the columns in sixteen slices, and
  puts the slices' results together by concatenation with zero blocks and addition.
-/
module

public import proofs.«01_k».proof.Proof.KRow

@[expose] public section

set_option maxRecDepth 16384

noncomputable section

namespace Cert.KernelIdeal.Block

open Idealize.ShloMosaic Idealize.ShloMosaic.TcCoe
open Cert.KernelIdeal Cert.KernelIdeal.Gen Cert.Gating

variable (x0 : Vec Ideal S128x6144 .f32) (x1 x2 : Vec Ideal S1x2048 .f32) (x3 : Vec Ideal S16x128x128 .f32)
  (x4 : Vec Ideal S128x128 .f32) (x5 : Vec Ideal S128x2048 .f32)

/-! ## The kernel's vectors -/

/-- The normalised values. -/
def vnVec : FVec Ideal S128x2048 .f32 := k0_pay28 x1 x2 (k0_pay7 x0) (k0_pay15 x0) cRoot

/-- The sixteen products of causal weights and normalised values, side by side. -/
def mixVec (vn : FVec Ideal S128x2048 .f32) : FVec Ideal S128x2048 .f32 :=
  k0_pay80 x3 vn k0_pay29 (k0_pay34 (k0_pay30 x3) (k0_pay31 x1 x2 (k0_pay7 x0) (k0_pay15 x0) cRoot))
    (k0_pay37 x3 vn k0_pay29) (k0_pay40 x3 vn k0_pay29) (k0_pay43 x3 vn k0_pay29) (k0_pay46 x3 vn k0_pay29)
    (k0_pay49 x3 vn k0_pay29) (k0_pay54 (k0_pay50 x3 k0_pay29) (k0_pay51 vn)) (k0_pay57 x3 vn k0_pay29)
    (k0_pay60 x3 vn k0_pay29) (k0_pay63 x3 vn k0_pay29) (k0_pay66 x3 vn k0_pay29) (k0_pay69 x3 vn k0_pay29)
    (k0_pay70 x3 k0_pay29) (k0_pay71 vn)

/-- The cotangent of the normalised values, groups 1 to 15. -/
def dvnTail (z gu : FVec Ideal S128x2048 .f32) : FVec Ideal S128x2048 .f32 :=
  k0_pay141 (k0_pay35 x3 k0_pay29) (k0_pay38 x3 k0_pay29) (k0_pay41 x3 k0_pay29) (k0_pay93 z gu x5) (k0_pay94 z gu x5)
    (k0_pay135 (k0_pay44 x3 k0_pay29) (k0_pay47 x3 k0_pay29) (k0_pay96 z gu x5) (k0_pay97 z gu x5)
      (k0_pay127 (k0_pay55 x3 k0_pay29) (k0_pay58 x3 k0_pay29) (k0_pay99 z gu x5) (k0_pay100 z gu x5)
        (k0_pay120 (k0_pay64 x3 k0_pay29) (k0_pay67 x3 k0_pay29) (k0_pay102 z gu x5) (k0_pay103 z gu x5)
          (k0_pay116 (k0_pay72 (k0_pay70 x3 k0_pay29)) (k0_pay74 x3 k0_pay29) (k0_pay76 x3 k0_pay29)
            (k0_pay104 z gu x5) (k0_pay105 z gu x5) (k0_pay106 z gu x5) (k0_pay109 z gu (k0_pay78 x3 k0_pay29) x5)))
        (k0_pay124 (k0_pay61 x3 k0_pay29) (k0_pay101 z gu x5)))
      (k0_pay131 (k0_pay52 (k0_pay50 x3 k0_pay29)) (k0_pay98 z gu x5)) (FloatOps.ofBits .f32 0x00000000#32) k0_pay132)
    (k0_pay137 (k0_pay95 z gu x5)) (constant S128x128 .f32 0x00000000#32)

/-- The cotangent of the weights. -/
def dwVec (vn z gu : FVec Ideal S128x2048 .f32) : FVec Ideal S16x128x128 .f32 :=
  k0_pay145 k0_pay29 (k0_pay33 (k0_pay31 x1 x2 (k0_pay7 x0) (k0_pay15 x0) cRoot))
    (k0_pay142 k0_pay29 (k0_pay36 vn) (k0_pay39 vn) (k0_pay93 z gu x5) (k0_pay94 z gu x5)
      (k0_pay136 k0_pay29 (k0_pay45 vn) (k0_pay48 vn) (k0_pay96 z gu x5) (k0_pay97 z gu x5)
        (k0_pay128 k0_pay29 (k0_pay56 vn) (k0_pay59 vn) (k0_pay99 z gu x5) (k0_pay100 z gu x5)
          (k0_pay121 k0_pay29 (k0_pay65 vn) (k0_pay68 vn) (k0_pay102 z gu x5) (k0_pay103 z gu x5)
            (k0_pay113 k0_pay29 (k0_pay75 vn) (k0_pay77 vn) (k0_pay105 z gu x5) (k0_pay106 z gu x5)
              (k0_pay108 z gu (k0_pay79 vn) x5) k0_pay110)
            (k0_pay115 (k0_pay73 (k0_pay71 vn)) (k0_pay104 z gu x5)) k0_pay117)
          (k0_pay123 (k0_pay62 vn) (k0_pay101 z gu x5)))
        (k0_pay130 (k0_pay53 (k0_pay51 vn)) (k0_pay98 z gu x5)))
      (k0_pay138 (k0_pay42 vn) (k0_pay95 z gu x5)))
    (k0_pay143 (k0_pay92 z gu x5))

/-! ## The slices -/

/-- The causal weights of a group, read off the kernel's block of weights. -/
def wCausal (g : Fin 16) (t s : Fin 128) : EReal := if s ≤ t then x3 (ix3 g t s) else 0

/-! The weights of each group, masked. -/

theorem w_0 (t s : Fin 128) : k0_pay32 (k0_pay30 x3) (ix2 t s) = wCausal x3 0 t s := by
  pointwise [k0_pay32, k0_pay30, select_mask]; rfl
theorem w_1 (t s : Fin 128) : k0_pay35 x3 k0_pay29 (ix2 t s) = wCausal x3 1 t s := by
  pointwise [k0_pay35, select_mask]; rfl
theorem w_2 (t s : Fin 128) : k0_pay38 x3 k0_pay29 (ix2 t s) = wCausal x3 2 t s := by
  pointwise [k0_pay38, select_mask]; rfl
theorem w_3 (t s : Fin 128) : k0_pay41 x3 k0_pay29 (ix2 t s) = wCausal x3 3 t s := by
  pointwise [k0_pay41, select_mask]; rfl
theorem w_4 (t s : Fin 128) : k0_pay44 x3 k0_pay29 (ix2 t s) = wCausal x3 4 t s := by
  pointwise [k0_pay44, select_mask]; rfl
theorem w_5 (t s : Fin 128) : k0_pay47 x3 k0_pay29 (ix2 t s) = wCausal x3 5 t s := by
  pointwise [k0_pay47, select_mask]; rfl
theorem w_6 (t s : Fin 128) : k0_pay52 (k0_pay50 x3 k0_pay29) (ix2 t s) = wCausal x3 6 t s := by
  pointwise [k0_pay52, k0_pay50, select_mask]; rfl
theorem w_7 (t s : Fin 128) : k0_pay55 x3 k0_pay29 (ix2 t s) = wCausal x3 7 t s := by
  pointwise [k0_pay55, select_mask]; rfl
theorem w_8 (t s : Fin 128) : k0_pay58 x3 k0_pay29 (ix2 t s) = wCausal x3 8 t s := by
  pointwise [k0_pay58, select_mask]; rfl
theorem w_9 (t s : Fin 128) : k0_pay61 x3 k0_pay29 (ix2 t s) = wCausal x3 9 t s := by
  pointwise [k0_pay61, select_mask]; rfl
theorem w_10 (t s : Fin 128) : k0_pay64 x3 k0_pay29 (ix2 t s) = wCausal x3 10 t s := by
  pointwise [k0_pay64, select_mask]; rfl
theorem w_11 (t s : Fin 128) : k0_pay67 x3 k0_pay29 (ix2 t s) = wCausal x3 11 t s := by
  pointwise [k0_pay67, select_mask]; rfl
theorem w_12 (t s : Fin 128) : k0_pay72 (k0_pay70 x3 k0_pay29) (ix2 t s) = wCausal x3 12 t s := by
  pointwise [k0_pay72, k0_pay70, select_mask]; rfl
theorem w_13 (t s : Fin 128) : k0_pay74 x3 k0_pay29 (ix2 t s) = wCausal x3 13 t s := by
  pointwise [k0_pay74, select_mask]; rfl
theorem w_14 (t s : Fin 128) : k0_pay76 x3 k0_pay29 (ix2 t s) = wCausal x3 14 t s := by
  pointwise [k0_pay76, select_mask]; rfl
theorem w_15 (t s : Fin 128) : k0_pay78 x3 k0_pay29 (ix2 t s) = wCausal x3 15 t s := by
  pointwise [k0_pay78, select_mask]; rfl

/-! The columns of each group of the normalised values. -/

theorem vn_0 (s l : Fin 128) : k0_pay33 (k0_pay31 x1 x2 (k0_pay7 x0) (k0_pay15 x0) cRoot) (ix2 s l)
    = vnVec x0 x1 x2 (ix2 s (col 0 l)) := by
  unfold vnVec
  pointwise [k0_pay33, k0_pay31]
  exact congrArg (fun c => k0_pay28 x1 x2 (k0_pay7 x0) (k0_pay15 x0) cRoot (ix2 s c)) (Fin.ext (by simp [col]))
theorem vn_1 (vn : FVec Ideal S128x2048 .f32) (s l : Fin 128) : k0_pay36 vn (ix2 s l) = vn (ix2 s (col 1 l)) := by
  pointwise [k0_pay36]; rfl
theorem vn_2 (vn : FVec Ideal S128x2048 .f32) (s l : Fin 128) : k0_pay39 vn (ix2 s l) = vn (ix2 s (col 2 l)) := by
  pointwise [k0_pay39]; rfl
theorem vn_3 (vn : FVec Ideal S128x2048 .f32) (s l : Fin 128) : k0_pay42 vn (ix2 s l) = vn (ix2 s (col 3 l)) := by
  pointwise [k0_pay42]; rfl
theorem vn_4 (vn : FVec Ideal S128x2048 .f32) (s l : Fin 128) : k0_pay45 vn (ix2 s l) = vn (ix2 s (col 4 l)) := by
  pointwise [k0_pay45]; rfl
theorem vn_5 (vn : FVec Ideal S128x2048 .f32) (s l : Fin 128) : k0_pay48 vn (ix2 s l) = vn (ix2 s (col 5 l)) := by
  pointwise [k0_pay48]; rfl
theorem vn_6 (vn : FVec Ideal S128x2048 .f32) (s l : Fin 128) : k0_pay53 (k0_pay51 vn) (ix2 s l) = vn (ix2 s (col 6 l)) := by
  pointwise [k0_pay53, k0_pay51]; rfl
theorem vn_7 (vn : FVec Ideal S128x2048 .f32) (s l : Fin 128) : k0_pay56 vn (ix2 s l) = vn (ix2 s (col 7 l)) := by
  pointwise [k0_pay56]; rfl
theorem vn_8 (vn : FVec Ideal S128x2048 .f32) (s l : Fin 128) : k0_pay59 vn (ix2 s l) = vn (ix2 s (col 8 l)) := by
  pointwise [k0_pay59]; rfl
theorem vn_9 (vn : FVec Ideal S128x2048 .f32) (s l : Fin 128) : k0_pay62 vn (ix2 s l) = vn (ix2 s (col 9 l)) := by
  pointwise [k0_pay62]; rfl
theorem vn_10 (vn : FVec Ideal S128x2048 .f32) (s l : Fin 128) : k0_pay65 vn (ix2 s l) = vn (ix2 s (col 10 l)) := by
  pointwise [k0_pay65]; rfl
theorem vn_11 (vn : FVec Ideal S128x2048 .f32) (s l : Fin 128) : k0_pay68 vn (ix2 s l) = vn (ix2 s (col 11 l)) := by
  pointwise [k0_pay68]; rfl
theorem vn_12 (vn : FVec Ideal S128x2048 .f32) (s l : Fin 128) : k0_pay73 (k0_pay71 vn) (ix2 s l) = vn (ix2 s (col 12 l)) := by
  pointwise [k0_pay73, k0_pay71]; rfl
theorem vn_13 (vn : FVec Ideal S128x2048 .f32) (s l : Fin 128) : k0_pay75 vn (ix2 s l) = vn (ix2 s (col 13 l)) := by
  pointwise [k0_pay75]; rfl
theorem vn_14 (vn : FVec Ideal S128x2048 .f32) (s l : Fin 128) : k0_pay77 vn (ix2 s l) = vn (ix2 s (col 14 l)) := by
  pointwise [k0_pay77]; rfl
theorem vn_15 (vn : FVec Ideal S128x2048 .f32) (s l : Fin 128) : k0_pay79 vn (ix2 s l) = vn (ix2 s (col 15 l)) := by
  pointwise [k0_pay79]; rfl

/-! The columns of each group of the cotangent of the mix. -/

variable (z gu : FVec Ideal S128x2048 .f32)

theorem df_0 (t l : Fin 128) : k0_pay143 (k0_pay92 z gu x5) (ix2 t l) = k0_pay89 z gu x5 (ix2 t (col 0 l)) := by
  pointwise [k0_pay143, k0_pay92]
  exact congrArg (fun c => k0_pay89 z gu x5 (ix2 t c)) (Fin.ext (by simp [col]))
theorem df_1 (t l : Fin 128) : k0_pay140 (k0_pay93 z gu x5) (ix2 t l) = k0_pay89 z gu x5 (ix2 t (col 1 l)) := by
  pointwise [k0_pay140, k0_pay93]; rfl
theorem df_2 (t l : Fin 128) : k0_pay139 (k0_pay94 z gu x5) (ix2 t l) = k0_pay89 z gu x5 (ix2 t (col 2 l)) := by
  pointwise [k0_pay139, k0_pay94]; rfl
theorem df_3 (t l : Fin 128) : k0_pay137 (k0_pay95 z gu x5) (ix2 t l) = k0_pay89 z gu x5 (ix2 t (col 3 l)) := by
  pointwise [k0_pay137, k0_pay95]; rfl
theorem df_4 (t l : Fin 128) : k0_pay134 (k0_pay96 z gu x5) (ix2 t l) = k0_pay89 z gu x5 (ix2 t (col 4 l)) := by
  pointwise [k0_pay134, k0_pay96]; rfl
theorem df_5 (t l : Fin 128) : k0_pay133 (k0_pay97 z gu x5) (ix2 t l) = k0_pay89 z gu x5 (ix2 t (col 5 l)) := by
  pointwise [k0_pay133, k0_pay97]; rfl
theorem df_6 (t l : Fin 128) : k0_pay129 (k0_pay98 z gu x5) (ix2 t l) = k0_pay89 z gu x5 (ix2 t (col 6 l)) := by
  pointwise [k0_pay129, k0_pay98]; rfl
theorem df_7 (t l : Fin 128) : k0_pay126 (k0_pay99 z gu x5) (ix2 t l) = k0_pay89 z gu x5 (ix2 t (col 7 l)) := by
  pointwise [k0_pay126, k0_pay99]; rfl
theorem df_8 (t l : Fin 128) : k0_pay125 (k0_pay100 z gu x5) (ix2 t l) = k0_pay89 z gu x5 (ix2 t (col 8 l)) := by
  pointwise [k0_pay125, k0_pay100]; rfl
theorem df_9 (t l : Fin 128) : k0_pay122 (k0_pay101 z gu x5) (ix2 t l) = k0_pay89 z gu x5 (ix2 t (col 9 l)) := by
  pointwise [k0_pay122, k0_pay101]; rfl
theorem df_10 (t l : Fin 128) : k0_pay119 (k0_pay102 z gu x5) (ix2 t l) = k0_pay89 z gu x5 (ix2 t (col 10 l)) := by
  pointwise [k0_pay119, k0_pay102]; rfl
theorem df_11 (t l : Fin 128) : k0_pay118 (k0_pay103 z gu x5) (ix2 t l) = k0_pay89 z gu x5 (ix2 t (col 11 l)) := by
  pointwise [k0_pay118, k0_pay103]; rfl
theorem df_12 (t l : Fin 128) : k0_pay114 (k0_pay104 z gu x5) (ix2 t l) = k0_pay89 z gu x5 (ix2 t (col 12 l)) := by
  pointwise [k0_pay114, k0_pay104]; rfl
theorem df_13 (t l : Fin 128) : k0_pay112 (k0_pay105 z gu x5) (ix2 t l) = k0_pay89 z gu x5 (ix2 t (col 13 l)) := by
  pointwise [k0_pay112, k0_pay105]; rfl
theorem df_14 (t l : Fin 128) : k0_pay111 (k0_pay106 z gu x5) (ix2 t l) = k0_pay89 z gu x5 (ix2 t (col 14 l)) := by
  pointwise [k0_pay111, k0_pay106]; rfl
theorem df_15 (t l : Fin 128) : k0_pay107 z gu x5 (ix2 t l) = k0_pay89 z gu x5 (ix2 t (col 15 l)) := by
  pointwise [k0_pay107]; rfl

end Cert.KernelIdeal.Block
-- ==== Proof.KMix.lean ====
/-
  The spatial mix at one grid point: sixteen products of the masked weights with the groups' columns, side by side.
-/
module

public import proofs.«01_k».proof.Proof.KSlice

@[expose] public section

set_option maxRecDepth 16384

noncomputable section

namespace Cert.KernelIdeal.Block

open Idealize.ShloMosaic Idealize.ShloMosaic.TcCoe
open Cert.KernelIdeal Cert.KernelIdeal.Gen Cert.Gating

variable (x0 : Vec Ideal S128x6144 .f32) (x1 x2 : Vec Ideal S1x2048 .f32) (x3 : Vec Ideal S16x128x128 .f32)
  (x4 : Vec Ideal S128x128 .f32) (x5 : Vec Ideal S128x2048 .f32)

/-! ## The mix -/

/-- One product of two 128x128 matrices. -/
def product (a b : FVec Ideal S128x128 .bf16) : FVec Ideal S128x128 .f32 :=
  matmul dot_S128x128_S128x128_S128x128_1_0_0_1_n_n none a b (constant S128x128 .f32 0x00000000#32)

/-- Sixteen pieces of 128 columns side by side, read at a column: the piece of its group, at its lane. -/
theorem side_by_side (f : Fin 16 → FVec Ideal S128x128 .f32) (h) (t : Fin 128) (c : Fin 2048) :
    concatenate S128x2048 1 (List.ofFn fun n : Fin 16 => (⟨S128x128, f n⟩ : (s : Shape) × (s.Idx → Ideal .f32))) h (ix2 t c)
      = f (grp c) (ix2 t (lane c)) := by
  refine concatenate_ofFn_apply 1 f h rfl 128 rfl (ix2 t c) (grp c) rfl (ix2 t (lane c)) rfl fun b hb => ?_
  match b with
  | ⟨0, _⟩ => rfl
  | ⟨1, _⟩ => exact absurd rfl hb

/-- The product of one group. -/
def mixPiece (vn : FVec Ideal S128x2048 .f32) : Fin 16 → FVec Ideal S128x128 .f32 :=
  ![k0_pay34 (k0_pay30 x3) (k0_pay31 x1 x2 (k0_pay7 x0) (k0_pay15 x0) cRoot),
    k0_pay37 x3 vn k0_pay29, k0_pay40 x3 vn k0_pay29, k0_pay43 x3 vn k0_pay29, k0_pay46 x3 vn k0_pay29,
    k0_pay49 x3 vn k0_pay29, k0_pay54 (k0_pay50 x3 k0_pay29) (k0_pay51 vn), k0_pay57 x3 vn k0_pay29,
    k0_pay60 x3 vn k0_pay29, k0_pay63 x3 vn k0_pay29, k0_pay66 x3 vn k0_pay29, k0_pay69 x3 vn k0_pay29,
    product (k0_pay72 (k0_pay70 x3 k0_pay29)) (k0_pay73 (k0_pay71 vn)), product (k0_pay74 x3 k0_pay29) (k0_pay75 vn),
    product (k0_pay76 x3 k0_pay29) (k0_pay77 vn), product (k0_pay78 x3 k0_pay29) (k0_pay79 vn)]

theorem mix_piece (g : Fin 16) (t l : Fin 128) : mixPiece x0 x1 x2 x3 (vnVec x0 x1 x2) g (ix2 t l)
    = ∑ s, wCausal x3 g t s * vnVec x0 x1 x2 (ix2 s (col g l)) := by
  fin_cases g
  · show k0_pay34 _ _ _ = _
    pointwise [k0_pay34, w_0, vn_0]
    first | done | rfl | simp only [w_0, vn_0]; rfl
  · show k0_pay37 _ _ _ _ = _
    pointwise [k0_pay37, w_1, vn_1]
    first | done | rfl | simp only [w_1, vn_1]; rfl
  · show k0_pay40 _ _ _ _ = _
    pointwise [k0_pay40, w_2, vn_2]
    first | done | rfl | simp only [w_2, vn_2]; rfl
  · show k0_pay43 _ _ _ _ = _
    pointwise [k0_pay43, w_3, vn_3]
    first | done | rfl | simp only [w_3, vn_3]; rfl
  · show k0_pay46 _ _ _ _ = _
    pointwise [k0_pay46, w_4, vn_4]
    first | done | rfl | simp only [w_4, vn_4]; rfl
  · show k0_pay49 _ _ _ _ = _
    pointwise [k0_pay49, w_5, vn_5]
    first | done | rfl | simp only [w_5, vn_5]; rfl
  · show k0_pay54 _ _ _ = _
    pointwise [k0_pay54, w_6, vn_6]
    first | done | rfl | simp only [w_6, vn_6]; rfl
  · show k0_pay57 _ _ _ _ = _
    pointwise [k0_pay57, w_7, vn_7]
    first | done | rfl | simp only [w_7, vn_7]; rfl
  · show k0_pay60 _ _ _ _ = _
    pointwise [k0_pay60, w_8, vn_8]
    first | done | rfl | simp only [w_8, vn_8]; rfl
  · show k0_pay63 _ _ _ _ = _
    pointwise [k0_pay63, w_9, vn_9]
    first | done | rfl | simp only [w_9, vn_9]; rfl
  · show k0_pay66 _ _ _ _ = _
    pointwise [k0_pay66, w_10, vn_10]
    first | done | rfl | simp only [w_10, vn_10]; rfl
  · show k0_pay69 _ _ _ _ = _
    pointwise [k0_pay69, w_11, vn_11]
    first | done | rfl | simp only [w_11, vn_11]; rfl
  · show product _ _ _ = _
    pointwise [product, w_12, vn_12]
    first | done | rfl | simp only [w_12, vn_12]; rfl
  · show product _ _ _ = _
    pointwise [product, w_13, vn_13]
    first | done | rfl | simp only [w_13, vn_13]; rfl
  · show product _ _ _ = _
    pointwise [product, w_14, vn_14]
    first | done | rfl | simp only [w_14, vn_14]; rfl
  · show product _ _ _ = _
    pointwise [product, w_15, vn_15]
    first | done | rfl | simp only [w_15, vn_15]; rfl

/-- The sixteen products side by side: the spatial mix without the bias. -/
theorem mix_apply (t : Fin 128) (c : Fin 2048) : mixVec x0 x1 x2 x3 (vnVec x0 x1 x2) (ix2 t c)
    = ∑ s, (chunk x0 x1 x2 x3 x4 x5).wm (grp c) t s * (chunk x0 x1 x2 x3 x4 x5).vn s c := by
  have e : mixVec x0 x1 x2 x3 (vnVec x0 x1 x2) (ix2 t c)
      = mixPiece x0 x1 x2 x3 (vnVec x0 x1 x2) (grp c) (ix2 t (lane c)) :=
    side_by_side (mixPiece x0 x1 x2 x3 (vnVec x0 x1 x2))
      concatenates_S128x128_S128x128_S128x128_S128x128_S128x128_S128x128_S128x128_S128x128_S128x128_S128x128_S128x128_S128x128_S128x128_S128x128_S128x128_S128x128_S128x2048_d1 t c
  rw [e, mix_piece, col_grp_lane]
  exact Finset.sum_congr rfl fun s _ => congrArg _ (pay28_apply x0 x1 x2 x3 x4 x5 s c)

end Cert.KernelIdeal.Block
-- ==== Proof.KDvn.lean ====
/-
  The cotangent of the normalised values at one grid point: the sixteen products of the masked weights' transposes.
-/
module

public import proofs.«01_k».proof.Proof.KSlice

@[expose] public section

set_option maxRecDepth 16384

noncomputable section

namespace Cert.KernelIdeal.Block

open Idealize.ShloMosaic Idealize.ShloMosaic.TcCoe
open Cert.KernelIdeal Cert.KernelIdeal.Gen Cert.Gating

variable (x0 : Vec Ideal S128x6144 .f32) (x1 x2 : Vec Ideal S1x2048 .f32) (x3 : Vec Ideal S16x128x128 .f32)
  (x4 : Vec Ideal S128x128 .f32) (x5 : Vec Ideal S128x2048 .f32)

/-! ## Reading one piece among zeros -/

/-- A piece of 128 columns between zeros, read at column `c`: the piece where `c` is in group `k`, else zero. -/
theorem pick_mid (c : Fin 2048) (a b : Nat) (k : Fin 16) (S : EReal) (ha : a = 128 * k.val) (hb : b = a + 128)
    (X : c.val < b → ¬c.val < a → EReal) (hX : ∀ h h', grp c = k → X h h' = S) :
    (if h : c.val < b then if h' : c.val < a then 0 else X h h' else 0) = if grp c = k then S else 0 := by
  have hg : grp c = k ↔ c.val / 128 = k.val := Fin.ext_iff
  by_cases h : c.val < b
  · rw [dif_pos h]
    by_cases h' : c.val < a
    · rw [dif_pos h', if_neg (by rw [hg]; omega)]
    · have e : grp c = k := hg.mpr (by omega)
      rw [dif_neg h', if_pos e, hX h h' e]
  · rw [dif_neg h, if_neg (by rw [hg]; omega)]

/-- The same for the last piece, -/
theorem pick_last (c : Fin 2048) (S : EReal) (X : ¬c.val < 1920 → EReal) (hX : ∀ h, grp c = 15 → X h = S) :
    (if h : c.val < 1920 then 0 else X h) = if grp c = 15 then S else 0 := by
  have hg : grp c = 15 ↔ c.val / 128 = 15 := Fin.ext_iff
  by_cases h : c.val < 1920
  · rw [dif_pos h, if_neg (by rw [hg]; omega)]
  · have e : grp c = 15 := hg.mpr (by omega)
    rw [dif_neg h, if_pos e, hX h e]

/-- and for the first. -/
theorem pick_first (c : Fin 2048) (S : EReal) (X : c.val < 128 → EReal) (hX : ∀ h, grp c = 0 → X h = S) :
    (if h : c.val < 128 then X h else 0) = if grp c = 0 then S else 0 := by
  have hg : grp c = 0 ↔ c.val / 128 = 0 := Fin.ext_iff
  by_cases h : c.val < 128
  · have e : grp c = 0 := hg.mpr (by omega)
    rw [dif_pos h, if_pos e, hX h e]
  · rw [dif_neg h, if_neg (by rw [hg]; omega)]

/-- A column is the lane of its group that its offset in the group says. -/
theorem col_sub {c : Fin 2048} {k : Fin 16} (a : Nat) (ha : a = 128 * k.val) (hk : grp c = k) (h : c.val - a < 128) :
    col k ⟨c.val - a, h⟩ = c := by
  have hg : c.val / 128 = k.val := Fin.ext_iff.mp hk
  exact Fin.ext (by simp only [col]; omega)

/-- One summand out of sixteen. -/
theorem sum_pick (g : Fin 16) (S : EReal) :
    (((((((((((((((if g = 15 then S else 0) + (if g = 14 then S else 0)) + (if g = 13 then S else 0))
      + (if g = 12 then S else 0)) + (if g = 11 then S else 0)) + (if g = 10 then S else 0)) + (if g = 9 then S else 0))
      + (if g = 8 then S else 0)) + (if g = 7 then S else 0)) + (if g = 6 then S else 0)) + (if g = 5 then S else 0))
      + (if g = 4 then S else 0)) + (if g = 3 then S else 0)) + (if g = 2 then S else 0)) + (if g = 1 then S else 0))
      + (if g = 0 then S else 0) = S := by
  fin_cases g <;> simp

/-! ## The cotangent of the normalised values -/

/-- The cotangent of the normalised values: the product of the transposed causal weights with the mix's cotangent. -/
theorem dvn_apply (s : Fin 128) (c : Fin 2048) :
    k0_pay144 (k0_pay32 (k0_pay30 x3)) (dvnTail x3 x5 (k0_pay8 x0) (k0_pay13 x0))
        (k0_pay143 (k0_pay92 (k0_pay8 x0) (k0_pay13 x0) x5)) (ix2 s c)
      = (chunk x0 x1 x2 x3 x4 x5).dvn s c := by
  have hdf : ∀ t k, k0_pay89 (k0_pay8 x0) (k0_pay13 x0) x5 (ix2 t k) = (chunk x0 x1 x2 x3 x4 x5).df t k :=
    pay89_apply x0 x1 x2 x3 x4 x5
  have hw : ∀ g t s, wCausal x3 g t s = (chunk x0 x1 x2 x3 x4 x5).wm g t s := fun _ _ _ => rfl
  unfold dvnTail Chunk.dvn
  pointwise [k0_pay144, k0_pay141, k0_pay135, k0_pay127, k0_pay120, k0_pay116, k0_pay109, k0_pay124, k0_pay131, k0_pay132]
  simp only [w_0, w_1, w_2, w_3, w_4, w_5, w_6, w_7, w_8, w_9, w_10, w_11, w_12, w_13, w_14, w_15,
    df_0, df_1, df_2, df_3, df_4, df_5, df_6, df_7, df_8, df_9, df_10, df_11, df_12, df_13, df_14, df_15, hdf, hw]
  generalize hS : ∑ t, (chunk x0 x1 x2 x3 x4 x5).wm (grp c) t s * (chunk x0 x1 x2 x3 x4 x5).df t c = S
  rw [pick_last c S _ ?_, pick_first c S _ ?_,
    pick_mid c 1792 1920 14 S rfl rfl _ ?_,
    pick_mid c 1664 1792 13 S rfl rfl _ ?_,
    pick_mid c 1536 1664 12 S rfl rfl _ ?_,
    pick_mid c 1408 1536 11 S rfl rfl _ ?_,
    pick_mid c 1280 1408 10 S rfl rfl _ ?_,
    pick_mid c 1152 1280 9 S rfl rfl _ ?_,
    pick_mid c 1024 1152 8 S rfl rfl _ ?_,
    pick_mid c 896 1024 7 S rfl rfl _ ?_,
    pick_mid c 768 896 6 S rfl rfl _ ?_,
    pick_mid c 640 768 5 S rfl rfl _ ?_,
    pick_mid c 512 640 4 S rfl rfl _ ?_,
    pick_mid c 384 512 3 S rfl rfl _ ?_,
    pick_mid c 256 384 2 S rfl rfl _ ?_,
    pick_mid c 128 256 1 S rfl rfl _ ?_, sum_pick]
  all_goals
    subst hS
    intros
    rename_i e
    rw [e]
    refine Finset.sum_congr rfl fun x _ => ?_
    congr 2
  all_goals first
    | exact col_sub _ rfl e _
    | exact Fin.ext (by simp [col])

end Cert.KernelIdeal.Block
-- ==== Proof.KDw.lean ====
/-
  The cotangent of the spatial weights at one grid point.
-/
module

public import proofs.«01_k».proof.Proof.KSlice

@[expose] public section

set_option maxRecDepth 16384

noncomputable section

namespace Cert.KernelIdeal.Block

open Idealize.ShloMosaic Idealize.ShloMosaic.TcCoe
open Cert.KernelIdeal Cert.KernelIdeal.Gen Cert.Gating

variable (x0 : Vec Ideal S128x6144 .f32) (x1 x2 : Vec Ideal S1x2048 .f32) (x3 : Vec Ideal S16x128x128 .f32)
  (x4 : Vec Ideal S128x128 .f32) (x5 : Vec Ideal S128x2048 .f32)

/-! ## The cotangent of the weights -/

/-- The cotangent of the weights. -/
theorem dw_apply (g : Fin 16) (t s : Fin 128) :
    dwVec x0 x1 x2 x5 (vnVec x0 x1 x2) (k0_pay8 x0) (k0_pay13 x0) (ix3 g t s) = (chunk x0 x1 x2 x3 x4 x5).dw g t s := by
  have hvn : ∀ t k, vnVec x0 x1 x2 (ix2 t k) = (chunk x0 x1 x2 x3 x4 x5).vn t k := pay28_apply x0 x1 x2 x3 x4 x5
  have hdf : ∀ t k, k0_pay89 (k0_pay8 x0) (k0_pay13 x0) x5 (ix2 t k) = (chunk x0 x1 x2 x3 x4 x5).df t k :=
    pay89_apply x0 x1 x2 x3 x4 x5
  unfold dwVec Chunk.dw Chunk.dwFull
  pointwise [k0_pay145, k0_pay142, k0_pay136, k0_pay128, k0_pay121, k0_pay113, k0_pay108, k0_pay110, k0_pay115, k0_pay117,
    k0_pay123, k0_pay130, k0_pay138]
  simp only [df_0, df_1, df_2, df_3, df_4, df_5, df_6, df_7, df_8, df_9, df_10, df_11, df_12, df_13, df_14, df_15, vn_0, vn_1,
    vn_2, vn_3, vn_4, vn_5, vn_6, vn_7, vn_8, vn_9, vn_10, vn_11, vn_12, vn_13, vn_14, vn_15, hdf, hvn, select_mask]
  fin_cases g <;> simp <;> rfl

end Cert.KernelIdeal.Block
-- ==== Proof.KOut.lean ====
/-
  What one grid point writes, entry by entry: the gradients of the chunk's input, and the chunk's parts of the gradients of
  the layer norm's scale and shift and of the bias.
-/
module

public import proofs.«01_k».proof.Proof.KMix
public import proofs.«01_k».proof.Proof.KDvn
public import proofs.«01_k».proof.Proof.KDw

@[expose] public section

set_option maxRecDepth 16384

noncomputable section

namespace Cert.KernelIdeal.Block

open Idealize.ShloMosaic Idealize.ShloMosaic.TcCoe
open Cert.KernelIdeal Cert.KernelIdeal.Gen Cert.Gating

variable (x0 : Vec Ideal S128x6144 .f32) (x1 x2 : Vec Ideal S1x2048 .f32) (x3 : Vec Ideal S16x128x128 .f32)
  (x4 : Vec Ideal S128x128 .f32) (x5 : Vec Ideal S128x2048 .f32)

/-! ## The bias -/

/-- A sum over the columns, group by group. -/
theorem sum_cols (F : Fin 2048 → EReal) : ∑ c, F c = ∑ g, ∑ l, F (col g l) := by
  rw [← Fintype.sum_prod_type']
  refine Fintype.sum_equiv ⟨fun c => (grp c, lane c), fun q => col q.1 q.2, fun c => col_grp_lane c, fun q => ?_⟩ _ _
    fun c => by simp only [Equiv.coe_fn_mk, col_grp_lane]
  exact Prod.ext (grp_col q.1 q.2) (Fin.ext (by simp only [lane, col]; omega))

/-- The mix with the bias of its group, which the selector's product picks. -/
theorem f_apply (t : Fin 128) (c : Fin 2048) :
    k0_pay85 (k0_pay5 x4) (mixVec x0 x1 x2 x3 (vnVec x0 x1 x2)) rowNumbers k0_pay81
        k0_pay82 k0_pay83 (ix2 t c)
      = (chunk x0 x1 x2 x3 x4 x5).f t c := by
  pointwise [k0_pay85, k0_pay5, mix_apply x0 x1 x2 x3 x4 x5, selector_apply]
  unfold Chunk.f
  congr 1
  have hlt : (grp c).val < 128 := by have := (grp c).isLt; omega
  rw [Finset.sum_eq_single (⟨(grp c).val, hlt⟩ : Fin 128)]
  · simp; rfl
  · intro l _ hl
    rw [if_neg fun e => hl (Fin.ext e), mul_zero]
  · intro h; exact absurd (Finset.mem_univ _) h

/-- The bias's part: the sum of the mix's cotangent over each group's columns. -/
theorem db_apply (t l : Fin 128) :
    k0_pay91 (k0_pay8 x0) (k0_pay13 x0) rowNumbers k0_pay81 k0_pay82 k0_pay83 x5
        (ix2 t l)
      = (chunk x0 x1 x2 x3 x4 x5).dbPad t l := by
  pointwise [k0_pay91, pay89_apply x0 x1 x2 x3 x4 x5, selector_apply]
  rw [sum_cols]
  simp only [grp_col]
  unfold Chunk.dbPad
  by_cases h : l.val < 16
  · rw [dif_pos h, Finset.sum_eq_single (⟨l.val, h⟩ : Fin 16)]
    · simp; rfl
    · intro g _ hg
      refine Finset.sum_eq_zero fun k _ => ?_
      rw [if_neg fun e => hg (Fin.ext e.symm), mul_zero]
    · intro h'; exact absurd (Finset.mem_univ _) h'
  · rw [dif_neg h]
    refine Finset.sum_eq_zero fun g _ => Finset.sum_eq_zero fun k _ => ?_
    rw [if_neg fun e => h (by have := g.isLt; omega), mul_zero]

/-! ## The gate -/

/-- The gradient of `z`. -/
theorem dz_apply (t : Fin 128) (c : Fin 2048) :
    k0_pay88 (k0_pay5 x4) (k0_pay8 x0) (k0_pay13 x0) (mixVec x0 x1 x2 x3 (vnVec x0 x1 x2))
        rowNumbers k0_pay81 k0_pay82 k0_pay83 x5 (ix2 t c)
      = (chunk x0 x1 x2 x3 x4 x5).dz t c := by
  pointwise [k0_pay88, k0_pay86, f_apply x0 x1 x2 x3 x4 x5, pay8_apply, pay13_apply]
  rfl

/-- The cotangent of gelu of `u`. -/
theorem dgu_apply (t : Fin 128) (c : Fin 2048) :
    k0_pay90 (k0_pay5 x4) (k0_pay8 x0) (mixVec x0 x1 x2 x3 (vnVec x0 x1 x2))
        rowNumbers k0_pay81 k0_pay82 k0_pay83 x5 (ix2 t c)
      = (chunk x0 x1 x2 x3 x4 x5).dgate t c * (chunk x0 x1 x2 x3 x4 x5).f t c := by
  pointwise [k0_pay90, f_apply x0 x1 x2 x3 x4 x5, pay87_apply x0 x1 x2 x3 x4 x5]

/-! ## The layer norm's gradient -/

/-- The first group's masked weights, the products of the other groups, and the first group's cotangent: what the layer
    norm's gradient is made from. -/
def w0Vec : FVec Ideal S128x128 .bf16 := k0_pay32 (k0_pay30 x3)
def tailVec : FVec Ideal S128x2048 .f32 := dvnTail x3 x5 (k0_pay8 x0) (k0_pay13 x0)
def df0Vec : FVec Ideal S128x128 .bf16 := k0_pay143 (k0_pay92 (k0_pay8 x0) (k0_pay13 x0) x5)

theorem dvn_apply' (s : Fin 128) (c : Fin 2048) : k0_pay144 (w0Vec x3) (tailVec x0 x3 x5) (df0Vec x0 x5) (ix2 s c)
    = (chunk x0 x1 x2 x3 x4 x5).dvn s c := dvn_apply x0 x1 x2 x3 x4 x5 s c

/-- The shift's part. -/
theorem dlb_apply (c : Fin 2048) : k0_pay146 (w0Vec x3) (tailVec x0 x3 x5) (df0Vec x0 x5) (ix2 0 c)
    = (chunk x0 x1 x2 x3 x4 x5).dlb c := by
  pointwise [k0_pay146, dvn_apply' x0 x1 x2 x3 x4 x5]; rfl

/-- The scale's part. -/
theorem dlg_apply (c : Fin 2048) :
    k0_pay147 (k0_pay27 (k0_pay7 x0) (k0_pay15 x0) cRoot) (w0Vec x3) (tailVec x0 x3 x5) (df0Vec x0 x5) (ix2 0 c)
      = (chunk x0 x1 x2 x3 x4 x5).dlg c := by
  pointwise [k0_pay147, dvn_apply' x0 x1 x2 x3 x4 x5, pay27_apply]; rfl

/-- The cotangent that reaches the distances through the product with the reciprocal root. -/
theorem direct_apply (s : Fin 128) (c : Fin 2048) :
    k0_pay149 x1 (k0_pay25 (k0_pay7 x0) (k0_pay15 x0) cRoot) (w0Vec x3) (tailVec x0 x3 x5) (df0Vec x0 x5) (ix2 s c)
      = dDirect (vRow x0 s) (chunk x0 x1 x2 x3 x4 x5).lg ((chunk x0 x1 x2 x3 x4 x5).dvn s) c := by
  pointwise [k0_pay149, k0_pay148, dvn_apply' x0 x1 x2 x3 x4 x5, pay25_apply]; rfl

/-- The cotangent that reaches the distances through the variance. -/
theorem square_apply (s : Fin 128) (c : Fin 2048) :
    k0_pay150 x1 (k0_pay22 (k0_pay7 x0) (k0_pay15 x0) cRoot) (k0_pay23 (k0_pay7 x0) (k0_pay15 x0) cRoot)
        (k0_pay26 (k0_pay7 x0) (k0_pay15 x0) cRoot) (w0Vec x3) (tailVec x0 x3 x5) (df0Vec x0 x5) (ix2 s c)
      = dSquare (vRow x0 s) (chunk x0 x1 x2 x3 x4 x5).lg ((chunk x0 x1 x2 x3 x4 x5).dvn s) c := by
  pointwise [k0_pay150, k0_pay148, dvn_apply' x0 x1 x2 x3 x4 x5, pay22_apply, pay23_apply, pay26_apply]
  simp only [Fin.sum_univ_one, pay26_apply]
  rfl

/-- The two together. -/
theorem both_apply (s : Fin 128) (c : Fin 2048) :
    k0_pay151 x1 (k0_pay22 (k0_pay7 x0) (k0_pay15 x0) cRoot) (k0_pay23 (k0_pay7 x0) (k0_pay15 x0) cRoot)
        (k0_pay25 (k0_pay7 x0) (k0_pay15 x0) cRoot) (k0_pay26 (k0_pay7 x0) (k0_pay15 x0) cRoot)
        (w0Vec x3) (tailVec x0 x3 x5) (df0Vec x0 x5) (ix2 s c)
      = dDirect (vRow x0 s) (chunk x0 x1 x2 x3 x4 x5).lg ((chunk x0 x1 x2 x3 x4 x5).dvn s) c
        + dSquare (vRow x0 s) (chunk x0 x1 x2 x3 x4 x5).lg ((chunk x0 x1 x2 x3 x4 x5).dvn s) c := by
  pointwise [k0_pay151, direct_apply x0 x1 x2 x3 x4 x5, square_apply x0 x1 x2 x3 x4 x5]

/-- The cotangent that reaches every entry of a row through the mean. -/
theorem through_mean_apply (s : Fin 128) :
    k0_pay152 x1 (k0_pay22 (k0_pay7 x0) (k0_pay15 x0) cRoot) (k0_pay23 (k0_pay7 x0) (k0_pay15 x0) cRoot)
        (k0_pay25 (k0_pay7 x0) (k0_pay15 x0) cRoot) (k0_pay26 (k0_pay7 x0) (k0_pay15 x0) cRoot)
        (w0Vec x3) (tailVec x0 x3 x5) (df0Vec x0 x5) (ix2 s 0)
      = Ideal.div
          ((∑ k, -dDirect (vRow x0 s) (chunk x0 x1 x2 x3 x4 x5).lg ((chunk x0 x1 x2 x3 x4 x5).dvn s) k)
            + (∑ k, -dSquare (vRow x0 s) (chunk x0 x1 x2 x3 x4 x5).lg ((chunk x0 x1 x2 x3 x4 x5).dvn s) k)) kCols := by
  pointwise [k0_pay152, direct_apply x0 x1 x2 x3 x4 x5, square_apply x0 x1 x2 x3 x4 x5]
  simp only [Fin.sum_univ_one, zero_sub]
  rfl

/-! ## The input's gradient -/

/-- What the point writes to the gradient of its input. -/
def dpVec : FVec Ideal S128x6144 .bf16 :=
  k0_pay153 (k0_pay6 x0) (k0_pay7 x0) (k0_pay9 x0) (k0_pay11 x0) (k0_pay12 x0) (k0_pay14 x0) (k0_pay17 (k0_pay15 x0) cRoot)
    (k0_pay18 (k0_pay15 x0) cRoot)
    (k0_pay88 (k0_pay5 x4) (k0_pay8 x0) (k0_pay13 x0) (mixVec x0 x1 x2 x3 (vnVec x0 x1 x2))
      rowNumbers k0_pay81 k0_pay82 k0_pay83 x5)
    (k0_pay90 (k0_pay5 x4) (k0_pay8 x0) (mixVec x0 x1 x2 x3 (vnVec x0 x1 x2))
      rowNumbers k0_pay81 k0_pay82 k0_pay83 x5)
    (k0_pay151 x1 (k0_pay22 (k0_pay7 x0) (k0_pay15 x0) cRoot) (k0_pay23 (k0_pay7 x0) (k0_pay15 x0) cRoot)
      (k0_pay25 (k0_pay7 x0) (k0_pay15 x0) cRoot) (k0_pay26 (k0_pay7 x0) (k0_pay15 x0) cRoot)
      (w0Vec x3) (tailVec x0 x3 x5) (df0Vec x0 x5))
    (k0_pay152 x1 (k0_pay22 (k0_pay7 x0) (k0_pay15 x0) cRoot) (k0_pay23 (k0_pay7 x0) (k0_pay15 x0) cRoot)
      (k0_pay25 (k0_pay7 x0) (k0_pay15 x0) cRoot) (k0_pay26 (k0_pay7 x0) (k0_pay15 x0) cRoot)
      (w0Vec x3) (tailVec x0 x3 x5) (df0Vec x0 x5))

theorem dp_u (t : Fin 128) (c : Fin 2048) : dpVec x0 x1 x2 x3 x4 x5 (ix2 t (uCol c)) = (chunk x0 x1 x2 x3 x4 x5).du t c := by
  have h1 : c.val < 4096 := by omega
  unfold dpVec uCol
  pointwise [k0_pay153, pay6_apply, pay9_apply, pay11_apply, pay12_apply, dgu_apply x0 x1 x2 x3 x4 x5]
  split_ifs <;> first | (exfalso; omega) | skip
  all_goals
    simp only [add_zero, zero_add]
    rfl

theorem dp_v (t : Fin 128) (c : Fin 2048) : dpVec x0 x1 x2 x3 x4 x5 (ix2 t (vCol c)) = (chunk x0 x1 x2 x3 x4 x5).dv t c := by
  have h1 : c.val < 4096 := by omega
  unfold dpVec vCol
  pointwise [k0_pay153, pay7_apply, pay14_apply, pay17_apply, pay18_apply, both_apply x0 x1 x2 x3 x4 x5,
    through_mean_apply x0 x1 x2 x3 x4 x5]
  split_ifs <;> first | (exfalso; omega) | skip
  all_goals
    simp only [add_zero, zero_add]
    rfl

theorem dp_z (t : Fin 128) (c : Fin 2048) : dpVec x0 x1 x2 x3 x4 x5 (ix2 t (zCol c)) = (chunk x0 x1 x2 x3 x4 x5).dz t c := by
  unfold dpVec zCol
  pointwise [k0_pay153, dz_apply x0 x1 x2 x3 x4 x5]
  rw [dif_neg (by omega), add_zero]

end Cert.KernelIdeal.Block
-- ==== Proof.KCase.lean ====
/-
  What the body leaves in its five output buffers: at the first grid point the chunk's own values, at every later point
  the chunk's gradient of its input, and what was there before plus the chunk's parts of the others.
-/
module

public import proofs.«01_k».proof.Proof.Gen.KernelIdeal.Value
public import proofs.«01_k».proof.Proof.KOut

@[expose] public section

set_option maxRecDepth 16384

noncomputable section

namespace Cert.KernelIdeal.Block

open Idealize.ShloMosaic Idealize.ShloMosaic.TcCoe Idealize.ShloMosaic.Tactic
open Cert.KernelIdeal Cert.KernelIdeal.Gen Cert.Gating

theorem zeros2 : (![0, 0] : Fin 2 → Nat) = fun _ => 0 := funext fun a => by fin_cases a <;> rfl
theorem zeros3 : (![0, 0, 0] : Fin 3 → Nat) = fun _ => 0 := funext fun a => by fin_cases a <;> rfl

variable (c : Dev nD) (i : grid0.Coords)
  (a1 : Memref sig .tc .vmem S128x6144 .f32) (h1 : a1.IsWhole)
  (a2 : Memref sig .tc .vmem S1x2048 .f32) (h2 : a2.IsWhole)
  (a3 : Memref sig .tc .vmem S1x2048 .f32) (h3 : a3.IsWhole)
  (a4 : Memref sig .tc .vmem S16x128x128 .f32) (h4 : a4.IsWhole)
  (a5 : Memref sig .tc .vmem S128x128 .f32) (h5 : a5.IsWhole)
  (a6 : Memref sig .tc .vmem S128x2048 .f32) (h6 : a6.IsWhole)
  (a7 : Memref sig .tc .vmem S128x6144 .bf16) (h7 : a7.IsWhole)
  (a8 : Memref sig .tc .vmem S1x2048 .f32) (h8 : a8.IsWhole)
  (a9 : Memref sig .tc .vmem S1x2048 .f32) (h9 : a9.IsWhole)
  (a10 : Memref sig .tc .vmem S16x128x128 .f32) (h10 : a10.IsWhole)
  (a11 : Memref sig .tc .vmem S128x128 .f32) (h11 : a11.IsWhole)
variable (x0 : Vec Ideal S128x6144 .f32) (x1 x2 : Vec Ideal S1x2048 .f32) (x3 : Vec Ideal S16x128x128 .f32)
  (x4 : Vec Ideal S128x128 .f32) (x5 : Vec Ideal S128x2048 .f32)
  (xo7 xo8 : Vec Ideal S1x2048 .f32) (xo9 : Vec Ideal S16x128x128 .f32) (xo10 : Vec Ideal S128x128 .f32)

/-- The chunk's parts of the gradients of the scale, of the shift, of the weights and of the bias. -/
def dlgVec : FVec Ideal S1x2048 .f32 :=
  k0_pay147 (k0_pay27 (k0_pay7 x0) (k0_pay15 x0) cRoot) (w0Vec x3) (tailVec x0 x3 x5) (df0Vec x0 x5)
def dlbVec : FVec Ideal S1x2048 .f32 := k0_pay146 (w0Vec x3) (tailVec x0 x3 x5) (df0Vec x0 x5)
def dwPart : FVec Ideal S16x128x128 .f32 := dwVec x0 x1 x2 x5 (vnVec x0 x1 x2) (k0_pay8 x0) (k0_pay13 x0)
def dbVec : FVec Ideal S128x128 .f32 :=
  k0_pay91 (k0_pay8 x0) (k0_pay13 x0) rowNumbers k0_pay81 k0_pay82 k0_pay83 x5

/-! ## The first grid point -/

section
variable (hc0 : cond0_0 i) (hc1 : ¬cond0_1 i) (hc2 : cond0_2 i) (hc3 : ¬cond0_3 i) (hc4 : cond0_4 i) (hc5 : ¬cond0_5 i) (hc6 : cond0_6 i) (hc7 : ¬cond0_7 i)

theorem dp_first :
    out0_A_6 c i a1 h1 a2 h2 a3 h3 a4 h4 a5 h5 a6 h6 a7 h7 a8 h8 a9 h9 a10 h10 a11 h11
        hc0 hc1 hc2 hc3 hc4 hc5 hc6 hc7 x0 x1 x2 x3 x4 x5
      = dpVec x0 x1 x2 x3 x4 x5 := by
  unfold out0_A_6
  rw [View.read_writes_eq_canon _ _ _ (cover0_A_6 c i a1 h1 a2 h2 a3 h3 a4 h4 a5 h5 a6 h6 a7 h7 a8 h8 a9 h9 a10 h10 a11 h11
    hc0 hc1 hc2 hc3 hc4 hc5 hc6 hc7 x0 x1 x2 x3 x4 x5)]
  unfold kernelRun0_A
  dsimp only
  try sl_unfold_words
  rw [View.canon_unit_zero (S := S128x6144) zeros2]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S128x6144) zeros2, View.ld_unit_zero (S := S1x2048) zeros2,
    View.ld_unit_zero (S := S128x2048) zeros2, View.ld_unit_zero (S := S128x128) zeros2,
    View.ld_unit_zero (S := S16x128x128) zeros3, shapeCast_self]
  rfl

theorem dlg_first :
    out0_A_7 c i a1 h1 a2 h2 a3 h3 a4 h4 a5 h5 a6 h6 a7 h7 a8 h8 a9 h9 a10 h10 a11 h11
        hc0 hc1 hc2 hc3 hc4 hc5 hc6 hc7 x0 x1 x2 x3 x4 x5
      = dlgVec x0 x3 x5 := by
  unfold out0_A_7
  rw [View.read_writes_eq_canon _ _ _ (cover0_A_7 c i a1 h1 a2 h2 a3 h3 a4 h4 a5 h5 a6 h6 a7 h7 a8 h8 a9 h9 a10 h10 a11 h11
    hc0 hc1 hc2 hc3 hc4 hc5 hc6 hc7 x0 x1 x2 x3 x4 x5)]
  unfold kernelRun0_A
  dsimp only
  try sl_unfold_words
  rw [View.canon_unit_zero (S := S1x2048) zeros2]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S128x6144) zeros2, View.ld_unit_zero (S := S1x2048) zeros2,
    View.ld_unit_zero (S := S128x2048) zeros2, View.ld_unit_zero (S := S128x128) zeros2,
    View.ld_unit_zero (S := S16x128x128) zeros3, shapeCast_self]
  rfl

theorem dlb_first :
    out0_A_8 c i a1 h1 a2 h2 a3 h3 a4 h4 a5 h5 a6 h6 a7 h7 a8 h8 a9 h9 a10 h10 a11 h11
        hc0 hc1 hc2 hc3 hc4 hc5 hc6 hc7 x0 x1 x2 x3 x4 x5
      = dlbVec x0 x3 x5 := by
  unfold out0_A_8
  rw [View.read_writes_eq_canon _ _ _ (cover0_A_8 c i a1 h1 a2 h2 a3 h3 a4 h4 a5 h5 a6 h6 a7 h7 a8 h8 a9 h9 a10 h10 a11 h11
    hc0 hc1 hc2 hc3 hc4 hc5 hc6 hc7 x0 x1 x2 x3 x4 x5)]
  unfold kernelRun0_A
  dsimp only
  try sl_unfold_words
  rw [View.canon_unit_zero (S := S1x2048) zeros2]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S128x6144) zeros2, View.ld_unit_zero (S := S1x2048) zeros2,
    View.ld_unit_zero (S := S128x2048) zeros2, View.ld_unit_zero (S := S128x128) zeros2,
    View.ld_unit_zero (S := S16x128x128) zeros3, shapeCast_self]
  rfl

theorem dw_first :
    out0_A_9 c i a1 h1 a2 h2 a3 h3 a4 h4 a5 h5 a6 h6 a7 h7 a8 h8 a9 h9 a10 h10 a11 h11
        hc0 hc1 hc2 hc3 hc4 hc5 hc6 hc7 x0 x1 x2 x3 x4 x5
      = dwPart x0 x1 x2 x5 := by
  unfold out0_A_9
  rw [View.read_writes_eq_canon _ _ _ (cover0_A_9 c i a1 h1 a2 h2 a3 h3 a4 h4 a5 h5 a6 h6 a7 h7 a8 h8 a9 h9 a10 h10 a11 h11
    hc0 hc1 hc2 hc3 hc4 hc5 hc6 hc7 x0 x1 x2 x3 x4 x5)]
  unfold kernelRun0_A
  dsimp only
  try sl_unfold_words
  rw [View.canon_unit_zero (S := S16x128x128) zeros3]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S128x6144) zeros2, View.ld_unit_zero (S := S1x2048) zeros2,
    View.ld_unit_zero (S := S128x2048) zeros2, View.ld_unit_zero (S := S128x128) zeros2,
    View.ld_unit_zero (S := S16x128x128) zeros3, shapeCast_self]
  rfl

theorem db_first :
    out0_A_10 c i a1 h1 a2 h2 a3 h3 a4 h4 a5 h5 a6 h6 a7 h7 a8 h8 a9 h9 a10 h10 a11 h11
        hc0 hc1 hc2 hc3 hc4 hc5 hc6 hc7 x0 x1 x2 x3 x4 x5
      = dbVec x0 x5 := by
  unfold out0_A_10
  rw [View.read_writes_eq_canon _ _ _ (cover0_A_10 c i a1 h1 a2 h2 a3 h3 a4 h4 a5 h5 a6 h6 a7 h7 a8 h8 a9 h9 a10 h10 a11 h11
    hc0 hc1 hc2 hc3 hc4 hc5 hc6 hc7 x0 x1 x2 x3 x4 x5)]
  unfold kernelRun0_A
  dsimp only
  try sl_unfold_words
  rw [View.canon_unit_zero (S := S128x128) zeros2]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S128x6144) zeros2, View.ld_unit_zero (S := S1x2048) zeros2,
    View.ld_unit_zero (S := S128x2048) zeros2, View.ld_unit_zero (S := S128x128) zeros2,
    View.ld_unit_zero (S := S16x128x128) zeros3, shapeCast_self]
  rfl

end

/-! ## A later grid point -/

section
variable (hc0 : ¬cond0_0 i) (hc1 : cond0_1 i) (hc2 : ¬cond0_2 i) (hc3 : cond0_3 i) (hc4 : ¬cond0_4 i) (hc5 : cond0_5 i) (hc6 : ¬cond0_6 i) (hc7 : cond0_7 i)

theorem dp_later :
    out0_B_6 c i a1 h1 a2 h2 a3 h3 a4 h4 a5 h5 a6 h6 a7 h7 a8 h8 a9 h9 a10 h10 a11 h11
        hc0 hc1 hc2 hc3 hc4 hc5 hc6 hc7 x0 x1 x2 x3 x4 x5 xo7 xo8 xo9 xo10
      = dpVec x0 x1 x2 x3 x4 x5 := by
  unfold out0_B_6
  rw [View.read_writes_eq_canon _ _ _ (cover0_B_6 c i a1 h1 a2 h2 a3 h3 a4 h4 a5 h5 a6 h6 a7 h7 a8 h8 a9 h9 a10 h10 a11 h11
    hc0 hc1 hc2 hc3 hc4 hc5 hc6 hc7 x0 x1 x2 x3 x4 x5 xo7 xo8 xo9 xo10)]
  unfold kernelRun0_B
  dsimp only
  try sl_unfold_words
  rw [View.canon_unit_zero (S := S128x6144) zeros2]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S128x6144) zeros2, View.ld_unit_zero (S := S1x2048) zeros2,
    View.ld_unit_zero (S := S128x2048) zeros2, View.ld_unit_zero (S := S128x128) zeros2,
    View.ld_unit_zero (S := S16x128x128) zeros3, shapeCast_self]
  rfl

theorem dlg_later :
    out0_B_7 c i a1 h1 a2 h2 a3 h3 a4 h4 a5 h5 a6 h6 a7 h7 a8 h8 a9 h9 a10 h10 a11 h11
        hc0 hc1 hc2 hc3 hc4 hc5 hc6 hc7 x0 x1 x2 x3 x4 x5 xo7 xo8 xo9 xo10
      = k0_pay1 (dlgVec x0 x3 x5) xo7 := by
  unfold out0_B_7
  rw [View.read_writes_eq_canon _ _ _ (cover0_B_7 c i a1 h1 a2 h2 a3 h3 a4 h4 a5 h5 a6 h6 a7 h7 a8 h8 a9 h9 a10 h10 a11 h11
    hc0 hc1 hc2 hc3 hc4 hc5 hc6 hc7 x0 x1 x2 x3 x4 x5 xo7 xo8 xo9 xo10)]
  unfold kernelRun0_B
  dsimp only
  try sl_unfold_words
  rw [View.canon_unit_zero (S := S1x2048) zeros2]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S128x6144) zeros2, View.ld_unit_zero (S := S1x2048) zeros2,
    View.ld_unit_zero (S := S128x2048) zeros2, View.ld_unit_zero (S := S128x128) zeros2,
    View.ld_unit_zero (S := S16x128x128) zeros3, shapeCast_self]
  rfl

theorem dlb_later :
    out0_B_8 c i a1 h1 a2 h2 a3 h3 a4 h4 a5 h5 a6 h6 a7 h7 a8 h8 a9 h9 a10 h10 a11 h11
        hc0 hc1 hc2 hc3 hc4 hc5 hc6 hc7 x0 x1 x2 x3 x4 x5 xo7 xo8 xo9 xo10
      = k0_pay2 (dlbVec x0 x3 x5) xo8 := by
  unfold out0_B_8
  rw [View.read_writes_eq_canon _ _ _ (cover0_B_8 c i a1 h1 a2 h2 a3 h3 a4 h4 a5 h5 a6 h6 a7 h7 a8 h8 a9 h9 a10 h10 a11 h11
    hc0 hc1 hc2 hc3 hc4 hc5 hc6 hc7 x0 x1 x2 x3 x4 x5 xo7 xo8 xo9 xo10)]
  unfold kernelRun0_B
  dsimp only
  try sl_unfold_words
  rw [View.canon_unit_zero (S := S1x2048) zeros2]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S128x6144) zeros2, View.ld_unit_zero (S := S1x2048) zeros2,
    View.ld_unit_zero (S := S128x2048) zeros2, View.ld_unit_zero (S := S128x128) zeros2,
    View.ld_unit_zero (S := S16x128x128) zeros3, shapeCast_self]
  rfl

theorem dw_later :
    out0_B_9 c i a1 h1 a2 h2 a3 h3 a4 h4 a5 h5 a6 h6 a7 h7 a8 h8 a9 h9 a10 h10 a11 h11
        hc0 hc1 hc2 hc3 hc4 hc5 hc6 hc7 x0 x1 x2 x3 x4 x5 xo7 xo8 xo9 xo10
      = k0_pay3 (dwPart x0 x1 x2 x5) xo9 := by
  unfold out0_B_9
  rw [View.read_writes_eq_canon _ _ _ (cover0_B_9 c i a1 h1 a2 h2 a3 h3 a4 h4 a5 h5 a6 h6 a7 h7 a8 h8 a9 h9 a10 h10 a11 h11
    hc0 hc1 hc2 hc3 hc4 hc5 hc6 hc7 x0 x1 x2 x3 x4 x5 xo7 xo8 xo9 xo10)]
  unfold kernelRun0_B
  dsimp only
  try sl_unfold_words
  rw [View.canon_unit_zero (S := S16x128x128) zeros3]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S128x6144) zeros2, View.ld_unit_zero (S := S1x2048) zeros2,
    View.ld_unit_zero (S := S128x2048) zeros2, View.ld_unit_zero (S := S128x128) zeros2,
    View.ld_unit_zero (S := S16x128x128) zeros3, shapeCast_self]
  rfl

theorem db_later :
    out0_B_10 c i a1 h1 a2 h2 a3 h3 a4 h4 a5 h5 a6 h6 a7 h7 a8 h8 a9 h9 a10 h10 a11 h11
        hc0 hc1 hc2 hc3 hc4 hc5 hc6 hc7 x0 x1 x2 x3 x4 x5 xo7 xo8 xo9 xo10
      = k0_pay4 (dbVec x0 x5) xo10 := by
  unfold out0_B_10
  rw [View.read_writes_eq_canon _ _ _ (cover0_B_10 c i a1 h1 a2 h2 a3 h3 a4 h4 a5 h5 a6 h6 a7 h7 a8 h8 a9 h9 a10 h10 a11 h11
    hc0 hc1 hc2 hc3 hc4 hc5 hc6 hc7 x0 x1 x2 x3 x4 x5 xo7 xo8 xo9 xo10)]
  unfold kernelRun0_B
  dsimp only
  try sl_unfold_words
  rw [View.canon_unit_zero (S := S128x128) zeros2]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S128x6144) zeros2, View.ld_unit_zero (S := S1x2048) zeros2,
    View.ld_unit_zero (S := S128x2048) zeros2, View.ld_unit_zero (S := S128x128) zeros2,
    View.ld_unit_zero (S := S16x128x128) zeros3, shapeCast_self]
  rfl

end

end Cert.KernelIdeal.Block
-- ==== Proof.Whole.lean ====
/-
  The results over all 32 chunks: the input's gradient row by row, and the sums over the chunks of the gradients of the
  layer norm's scale and shift, of the weights and of the bias.
-/
module

public import proofs.«01_k».proof.Proof.Spec

@[expose] public section

noncomputable section

namespace Cert.Gating

open Idealize.ShloMosaic Idealize.ShloMosaic.TcCoe

/-- The gradient of a row of the input: the gradients of `u`, of `v` and of `z` side by side. -/
def Chunk.dp (K : Chunk) (t : Fin 128) (k : Fin 6144) : EReal :=
  if h : k.val < 2048 then K.du t ⟨k.val, h⟩
  else if h' : k.val < 4096 then K.dv t ⟨k.val - 2048, by omega⟩
  else K.dz t ⟨k.val - 4096, by omega⟩

/-- Every column of the input is a column of `u`, of `v` or of `z`. -/
theorem col_cases {P : Fin 6144 → Prop} (hu : ∀ c, P (uCol c)) (hv : ∀ c, P (vCol c)) (hz : ∀ c, P (zCol c)) (k : Fin 6144) :
    P k := by
  by_cases h : k.val < 2048
  · exact hu ⟨k.val, h⟩
  · by_cases h' : k.val < 4096
    · have e : vCol ⟨k.val - 2048, by omega⟩ = k := Fin.ext (by simp only [vCol]; omega)
      exact e ▸ hv ⟨k.val - 2048, by omega⟩
    · have e : zCol ⟨k.val - 4096, by omega⟩ = k := Fin.ext (by simp only [zCol]; omega)
      exact e ▸ hz ⟨k.val - 4096, by omega⟩

theorem Chunk.dp_u (K : Chunk) (t : Fin 128) (c : Fin 2048) : K.dp t (uCol c) = K.du t c := by
  unfold Chunk.dp uCol
  rw [dif_pos c.isLt]
theorem Chunk.dp_v (K : Chunk) (t : Fin 128) (c : Fin 2048) : K.dp t (vCol c) = K.dv t c := by
  unfold Chunk.dp vCol
  rw [dif_neg (by simp), dif_pos (by simp only; omega)]
  exact congrArg (K.dv t) (Fin.ext (by simp))
theorem Chunk.dp_z (K : Chunk) (t : Fin 128) (c : Fin 2048) : K.dp t (zCol c) = K.dz t c := by
  unfold Chunk.dp zCol
  rw [dif_neg (by simp only; omega), dif_neg (by simp)]
  exact congrArg (K.dz t) (Fin.ext (by simp))

/-- The chunk a row is in, and its place there. -/
def chunkNo (r : Fin 4096) : Fin 32 := ⟨r.val / 128, by omega⟩
def rowIn (r : Fin 4096) : Fin 128 := ⟨r.val % 128, by omega⟩

theorem row_chunk (r : Fin 4096) : row (chunkNo r) (rowIn r) = r := Fin.ext (by simp only [row, chunkNo, rowIn]; omega)
theorem chunkNo_row (n : Fin 32) (s : Fin 128) : chunkNo (row n s) = n := Fin.ext (by simp only [row, chunkNo]; omega)
theorem rowIn_row (n : Fin 32) (s : Fin 128) : rowIn (row n s) = s := Fin.ext (by simp only [row, rowIn]; omega)

/-- A sum over the rows, chunk by chunk. -/
theorem sum_rows (F : Fin 4096 → EReal) : ∑ r, F r = ∑ n, ∑ s, F (row n s) := by
  rw [← Fintype.sum_prod_type']
  refine Fintype.sum_equiv ⟨fun r => (chunkNo r, rowIn r), fun q => row q.1 q.2, fun r => row_chunk r, fun q => ?_⟩ _ _
    fun r => by simp only [Equiv.coe_fn_mk, row_chunk]
  exact Prod.ext (chunkNo_row q.1 q.2) (rowIn_row q.1 q.2)

/-- Arrays of two and of three axes agree where they agree entry by entry. -/
theorem ext2 {n0 n1 : Nat} {f g : (⟨2, ![n0, n1]⟩ : Shape).Idx → EReal} (h : ∀ a b, f (ix2 a b) = g (ix2 a b)) : f = g :=
  funext fun i => by rw [eq_ix2 i]; exact h _ _
theorem ext3 {n0 n1 n2 : Nat} {f g : (⟨3, ![n0, n1, n2]⟩ : Shape).Idx → EReal}
    (h : ∀ a b c, f (ix3 a b c) = g (ix3 a b c)) : f = g :=
  funext fun i => by rw [eq_ix3 i]; exact h _ _ _

/-- The arguments, entry by entry. -/
structure Arrays where
  p : Fin 4096 → Fin 6144 → EReal
  lg : Fin 2048 → EReal
  lb : Fin 2048 → EReal
  w : Fin 16 → Fin 128 → Fin 128 → EReal
  b : Fin 16 → Fin 128 → EReal
  dout : Fin 4096 → Fin 2048 → EReal

namespace Arrays
variable (A : Arrays)

/-- Chunk `n`. -/
def chunk (n : Fin 32) : Chunk := chunkOf A.p A.lg A.lb A.w A.b A.dout n

/-- The five results. -/
def dp (r : Fin 4096) (k : Fin 6144) : EReal := (A.chunk (chunkNo r)).dp (rowIn r) k
def dlg (c : Fin 2048) : EReal := ∑ n, (A.chunk n).dlg c
def dlb (c : Fin 2048) : EReal := ∑ n, (A.chunk n).dlb c
def dw (g : Fin 16) (t s : Fin 128) : EReal := ∑ n, (A.chunk n).dw g t s
def dbPad (t l : Fin 128) : EReal := ∑ n, (A.chunk n).dbPad t l

end Arrays

end Cert.Gating
-- ==== Proof.KGrid.lean ====
/-
  The kernel's results over the whole grid. Grid point `t` works on chunk `t`; the gradient of the input is written a chunk
  at a time, and the other four results are running sums that the last point writes back.
-/
module

public import proofs.«01_k».proof.Proof.KCase
public import proofs.«01_k».proof.Proof.Whole

@[expose] public section

set_option maxRecDepth 16384

noncomputable section

namespace Cert.KernelIdeal.Grid

open Idealize.ShloMosaic Idealize.ShloMosaic.TcCoe Idealize.ShloMosaic.Tactic
open Idealize.ShloMosaic.Pipeline (Dat)
open Cert.KernelIdeal Cert.KernelIdeal.Gen Cert.KernelIdeal.Block Cert.Gating

variable (m : (ℓ : Loc nD τ sig) → Buf (Elt Ideal) ℓ) (c : Dev nD)

/-- The arguments, as arrays. -/
def arg0 : Vec Ideal S4096x6144 .f32 := m ((c : Thread nD τ).loc main_arg0)
def arg1 : Vec Ideal S1x2048 .f32 := m ((c : Thread nD τ).loc main_arg1)
def arg2 : Vec Ideal S1x2048 .f32 := m ((c : Thread nD τ).loc main_arg2)
def arg3 : Vec Ideal S16x128x128 .f32 := m ((c : Thread nD τ).loc main_arg3)
def arg4 : Vec Ideal S16x128 .f32 := m ((c : Thread nD τ).loc main_arg4)
def arg5 : Vec Ideal S4096x2048 .f32 := m ((c : Thread nD τ).loc main_arg5)

/-- The arguments, entry by entry. -/
def arrays : Arrays where
  p r k := arg0 m c (ix2 r k)
  lg k := arg1 m c (ix2 0 k)
  lb k := arg2 m c (ix2 0 k)
  w g t s := arg3 m c (ix3 g t s)
  b g t := arg4 m c (ix2 g t)
  dout r k := arg5 m c (ix2 r k)

/-! ## What each grid point reads -/

theorem N_eq : cfg0.N = 32 := N_0

/-- The chunk a grid point works on. -/
def pt (t : Fin cfg0.N) : Fin 32 := ⟨t.val, lt_of_lt_of_eq t.isLt N_eq⟩

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 ∧ win0_3.index t 2 = 0 := by decide +kernel
theorem index4 : ∀ t : Fin grid0.N, win0_4.index t 0 = 0 ∧ win0_4.index t 1 = 0 := by decide +kernel
theorem index5 : ∀ t : Fin grid0.N, win0_5.index t 0 = t.val ∧ win0_5.index t 1 = 0 := by decide +kernel

theorem block0 (t : Fin cfg0.N) (s : Fin 128) (k : Fin 6144) :
    (iblk m c 0 t : Vec Ideal S128x6144 .f32) (ix2 s k) = arg0 m c (ix2 (row (pt t) s) k) := by
  unfold iblk
  rw [View.read_apply]
  show V m c main_arg0 _ = arg0 m c _
  rw [V_main_arg0]
  unfold arg0
  congr 1
  funext a
  apply Fin.ext
  match a with
  | ⟨0, _⟩ => show win0_0.index t 0 * 128 + 1 * s.val = 128 * t.val + s.val; rw [(index0 t).1]; omega
  | ⟨1, _⟩ => show win0_0.index t 1 * 6144 + 1 * k.val = k.val; rw [(index0 t).2]; omega

theorem block1 (t : Fin cfg0.N) (k : Fin 2048) :
    (iblk m c 1 t : Vec Ideal S1x2048 .f32) (ix2 0 k) = arg1 m c (ix2 0 k) := by
  unfold iblk
  rw [View.read_apply]
  show V m c main_arg1 _ = arg1 m c _
  rw [V_main_arg1]
  unfold arg1
  congr 1
  funext a
  apply Fin.ext
  match a with
  | ⟨0, _⟩ => show win0_1.index t 0 * 1 + 1 * 0 = 0; rw [(index1 t).1]
  | ⟨1, _⟩ => show win0_1.index t 1 * 2048 + 1 * k.val = k.val; rw [(index1 t).2]; omega

theorem block2 (t : Fin cfg0.N) (k : Fin 2048) :
    (iblk m c 2 t : Vec Ideal S1x2048 .f32) (ix2 0 k) = arg2 m c (ix2 0 k) := by
  unfold iblk
  rw [View.read_apply]
  show V m c main_arg2 _ = arg2 m c _
  rw [V_main_arg2]
  unfold arg2
  congr 1
  funext a
  apply Fin.ext
  match a with
  | ⟨0, _⟩ => show win0_2.index t 0 * 1 + 1 * 0 = 0; rw [(index2 t).1]
  | ⟨1, _⟩ => show win0_2.index t 1 * 2048 + 1 * k.val = k.val; rw [(index2 t).2]; omega

theorem block3 (t : Fin cfg0.N) (g : Fin 16) (i j : Fin 128) :
    (iblk m c 3 t : Vec Ideal S16x128x128 .f32) (ix3 g i j) = arg3 m c (ix3 g i j) := by
  unfold iblk
  rw [View.read_apply]
  show V m c main_arg3 _ = arg3 m c _
  rw [V_main_arg3]
  unfold arg3
  congr 1
  funext a
  apply Fin.ext
  match a with
  | ⟨0, _⟩ => show win0_3.index t 0 * 16 + 1 * g.val = g.val; rw [(index3 t).1]; omega
  | ⟨1, _⟩ => show win0_3.index t 1 * 128 + 1 * i.val = i.val; rw [(index3 t).2.1]; omega
  | ⟨2, _⟩ => show win0_3.index t 2 * 128 + 1 * j.val = j.val; rw [(index3 t).2.2]; omega

/-- The bias the kernel is handed: transposed, with zeros in the lanes past the groups. -/
def bias : Vec Ideal S128x128 .f32 :=
  pad S128x128 ![0, 0] ![0, 112] ![0, 0] (transpose S128x16 [1, 0] (arg4 m c) transposes_S16x128_S128x16_1_0)
    (sitofp (F := Ideal) .f32 (constantI S_ 32 0#32)) pads_S128x16_S128x128_000_01120 h_S_

theorem V_bias : V m c main_v1 = bias m c := rfl

theorem bias_apply (t : Fin 128) (g : Fin 16) : bias m c (ix2 t ⟨g.val, by omega⟩) = arg4 m c (ix2 g t) := by
  have h := g.isLt
  unfold bias
  pointwise []
  first | done | rfl | rw [dif_pos h]

theorem block4 (t : Fin cfg0.N) (i l : Fin 128) :
    (iblk m c 4 t : Vec Ideal S128x128 .f32) (ix2 i l) = bias m c (ix2 i l) := by
  unfold iblk
  rw [View.read_apply]
  show V m c main_v1 _ = bias m c _
  rw [V_bias]
  congr 1
  funext a
  apply Fin.ext
  match a with
  | ⟨0, _⟩ => show win0_4.index t 0 * 128 + 1 * i.val = i.val; rw [(index4 t).1]; omega
  | ⟨1, _⟩ => show win0_4.index t 1 * 128 + 1 * l.val = l.val; rw [(index4 t).2]; omega

theorem block5 (t : Fin cfg0.N) (s : Fin 128) (k : Fin 2048) :
    (iblk m c 5 t : Vec Ideal S128x2048 .f32) (ix2 s k) = arg5 m c (ix2 (row (pt t) s) k) := by
  unfold iblk
  rw [View.read_apply]
  show V m c main_arg5 _ = arg5 m c _
  rw [V_main_arg5]
  unfold arg5
  congr 1
  funext a
  apply Fin.ext
  match a with
  | ⟨0, _⟩ => show win0_5.index t 0 * 128 + 1 * s.val = 128 * t.val + s.val; rw [(index5 t).1]; omega
  | ⟨1, _⟩ => show win0_5.index t 1 * 2048 + 1 * k.val = k.val; rw [(index5 t).2]; omega

/-- The blocks a grid point reads hold its chunk. -/
theorem chunk_eq (t : Fin cfg0.N) :
    chunk (iblk m c 0 t) (iblk m c 1 t) (iblk m c 2 t) (iblk m c 3 t) (iblk m c 4 t) (iblk m c 5 t)
      = (arrays m c).chunk (pt t) := by
  unfold chunk Arrays.chunk chunkOf arrays
  congr 1
  · exact funext fun s => funext fun k => block0 m c t s (uCol k)
  · exact funext fun s => funext fun k => block0 m c t s (vCol k)
  · exact funext fun s => funext fun k => block0 m c t s (zCol k)
  · exact funext fun s => funext fun k => block5 m c t s k
  · exact funext fun k => block1 m c t k
  · exact funext fun k => block2 m c t k
  · exact funext fun g => funext fun i => funext fun j => block3 m c t g i j
  · exact funext fun i => funext fun g => (block4 m c t i _).trans (bias_apply m c i g)

/-! ## What a point's values are -/

theorem dp_point (t : Fin cfg0.N) (s : Fin 128) (k : Fin 6144) :
    dpVec (iblk m c 0 t) (iblk m c 1 t) (iblk m c 2 t) (iblk m c 3 t) (iblk m c 4 t) (iblk m c 5 t) (ix2 s k)
      = ((arrays m c).chunk (pt t)).dp s k := by
  rw [← chunk_eq m c t]
  revert k
  refine fun k => col_cases (P := fun k => dpVec _ _ _ _ _ _ (ix2 s k) = Chunk.dp _ s k) (fun k => ?_) (fun k => ?_) (fun k => ?_) k
  · rw [Chunk.dp_u]; exact dp_u ..
  · rw [Chunk.dp_v]; exact dp_v ..
  · rw [Chunk.dp_z]; exact dp_z ..

theorem dlg_point (t : Fin cfg0.N) (k : Fin 2048) :
    dlgVec (iblk m c 0 t) (iblk m c 3 t) (iblk m c 5 t) (ix2 0 k) = ((arrays m c).chunk (pt t)).dlg k := by
  rw [← chunk_eq m c t]; exact dlg_apply ..
theorem dlb_point (t : Fin cfg0.N) (k : Fin 2048) :
    dlbVec (iblk m c 0 t) (iblk m c 3 t) (iblk m c 5 t) (ix2 0 k) = ((arrays m c).chunk (pt t)).dlb k := by
  rw [← chunk_eq m c t]; exact dlb_apply ..
theorem dw_point (t : Fin cfg0.N) (g : Fin 16) (i j : Fin 128) :
    dwPart (iblk m c 0 t) (iblk m c 1 t) (iblk m c 2 t) (iblk m c 5 t) (ix3 g i j) = ((arrays m c).chunk (pt t)).dw g i j := by
  rw [← chunk_eq m c t]; exact dw_apply ..
theorem db_point (t : Fin cfg0.N) (i l : Fin 128) :
    dbVec (iblk m c 0 t) (iblk m c 5 t) (ix2 i l) = ((arrays m c).chunk (pt t)).dbPad i l := by
  rw [← chunk_eq m c t]; exact db_apply ..

/-! ## The running sums -/

/-- Chunk `n`, for every number. -/
def chunkNat (n : ℕ) : Chunk := (arrays m c).chunk ⟨n % 32, Nat.mod_lt _ (by decide)⟩

theorem chunk_pt (n : ℕ) (h : n < cfg0.N) : (arrays m c).chunk (pt ⟨n, h⟩) = chunkNat m c n := by
  unfold chunkNat
  congr 1
  exact Fin.ext (Nat.mod_eq_of_lt (lt_of_lt_of_eq h N_eq)).symm

/-- After point `n` the buffers hold the chunk's gradient of the input and the sums over the chunks up to `n`. -/
structure Holds (n : ℕ) (o : Vec Ideal S128x6144 .bf16 × Vec Ideal S1x2048 .f32 × Vec Ideal S1x2048 .f32
    × Vec Ideal S16x128x128 .f32 × Vec Ideal S128x128 .f32) : Prop where
  dp : ∀ s k, o.1 (ix2 s k) = (chunkNat m c n).dp s k
  dlg : ∀ k, o.2.1 (ix2 0 k) = ∑ j ∈ Finset.range (n + 1), (chunkNat m c j).dlg k
  dlb : ∀ k, o.2.2.1 (ix2 0 k) = ∑ j ∈ Finset.range (n + 1), (chunkNat m c j).dlb k
  dw : ∀ g i j, o.2.2.2.1 (ix3 g i j) = ∑ q ∈ Finset.range (n + 1), (chunkNat m c q).dw g i j
  db : ∀ i l, o.2.2.2.2 (ix2 i l) = ∑ q ∈ Finset.range (n + 1), (chunkNat m c q).dbPad i l

theorem outs_hold : ∀ (n : ℕ) (h : n < cfg0.N), Holds m c n (outsAt0 m c n h)
  | 0, h => by
    have h1 : ¬1 ≤ 0 := by decide
    have e := outsAt0_A m c ⟨0, h⟩ rfl h1 rfl h1 rfl h1 rfl h1
    rw [dp_first, dlg_first, dlb_first, dw_first, db_first] at e
    rw [show outsAt0 m c 0 h = _ from e]
    constructor
    · intro s k; exact (dp_point m c ⟨0, h⟩ s k).trans (by rw [chunk_pt])
    · intro k; rw [Finset.sum_range_one]; exact (dlg_point m c ⟨0, h⟩ k).trans (by rw [chunk_pt])
    · intro k; rw [Finset.sum_range_one]; exact (dlb_point m c ⟨0, h⟩ k).trans (by rw [chunk_pt])
    · intro g i j; rw [Finset.sum_range_one]; exact (dw_point m c ⟨0, h⟩ g i j).trans (by rw [chunk_pt])
    · intro i l; rw [Finset.sum_range_one]; exact (db_point m c ⟨0, h⟩ i l).trans (by rw [chunk_pt])
  | n + 1, h => by
    have hN : n + 1 < 32 := by rw [← N_eq]; exact h
    have ih := outs_hold n (Nat.lt_of_succ_lt h)
    have hn : ¬(n + 1) % 32 = 0 := by omega
    have hp : 1 ≤ n + 1 := by omega
    have e := outsAt0_B m c ⟨n + 1, h⟩ hn hp hn hp hn hp hn hp
    rw [dp_later, dlg_later, dlb_later, dw_later, db_later] at e
    rw [show outsAt0 m c (n + 1) h = _ from e]
    constructor
    · intro s k; exact (dp_point m c ⟨n + 1, h⟩ s k).trans (by rw [chunk_pt])
    · intro k
      rw [Finset.sum_range_succ, ← ih.dlg k, ← chunk_pt m c (n + 1) h, ← dlg_point m c ⟨n + 1, h⟩ k]
      pointwise [k0_pay1]
      first | done | rfl
    · intro k
      rw [Finset.sum_range_succ, ← ih.dlb k, ← chunk_pt m c (n + 1) h, ← dlb_point m c ⟨n + 1, h⟩ k]
      pointwise [k0_pay2]
      first | done | rfl
    · intro g i j
      rw [Finset.sum_range_succ, ← ih.dw g i j, ← chunk_pt m c (n + 1) h, ← dw_point m c ⟨n + 1, h⟩ g i j]
      pointwise [k0_pay3]
      first | done | rfl
    · intro i l
      rw [Finset.sum_range_succ, ← ih.db i l, ← chunk_pt m c (n + 1) h, ← db_point m c ⟨n + 1, h⟩ i l]
      pointwise [k0_pay4]
      first | done | rfl

end Cert.KernelIdeal.Grid
-- ==== Proof.KArr.lean ====
/-
  The kernel's five result arrays, and its run with the results named.
-/
module

public import proofs.«01_k».proof.Proof.KGrid

@[expose] public section

set_option maxRecDepth 16384

noncomputable section

namespace Cert.KernelIdeal.Grid

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Block Cert.KernelIdeal.Value Cert.Gating

variable (m : (ℓ : Loc nD τ sig) → Buf (Elt Ideal) ℓ) (c : Dev nD)

/-- The five results, as arrays. -/
def res0 : Vec Ideal S4096x6144 .bf16 := fun i => (arrays m c).dp (i 0) (i 1)
def res1 : Vec Ideal S1x2048 .f32 := fun i => (arrays m c).dlg (i 1)
def res2 : Vec Ideal S1x2048 .f32 := fun i => (arrays m c).dlb (i 1)
def res3 : Vec Ideal S16x128x128 .f32 := fun i => (arrays m c).dw (i 0) (i 1) (i 2)
def res4 : Vec Ideal S128x128 .f32 := fun i => (arrays m c).dbPad (i 0) (i 1)

/-! ## The gradient of the input -/

theorem index6 : ∀ t : Fin grid0.N, win0_6.index t 0 = t.val ∧ win0_6.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 ∧ win0_9.index t 2 = 0 := by decide +kernel
theorem index10 : ∀ t : Fin grid0.N, win0_10.index t 0 = 0 ∧ win0_10.index t 1 = 0 := by decide +kernel
theorem size6 : ∀ t : Fin grid0.N, win0_6.xsize (grid0.coords t) 0 = 128 ∧ win0_6.xsize (grid0.coords t) 1 = 6144 := by
  decide +kernel

theorem written6 (t : Fin cfg0.N) (_ : (cfg0.win 6).flush t = true) :
    (dats m 0 c).flushed 6 t = ((cfg0.win 6).blk t).view.read (Elt Ideal) (res0 m c) := by
  rw [flushed6]
  funext j
  rw [View.read_apply]
  have h0 : (j 0).val < 128 := lt_of_lt_of_eq (j 0).isLt (size6 t).1
  have h1 : (j 1).val < 6144 := lt_of_lt_of_eq (j 1).isLt (size6 t).2
  have e := (outs_hold m c t.val t.isLt).dp ⟨(j 0).val, h0⟩ ⟨(j 1).val, h1⟩
  rw [← chunk_pt m c t.val t.isLt] at e
  refine Eq.trans ?_ (e.trans ?_)
  · show (outsAt0 m c t.val t.isLt).1 _ = (outsAt0 m c t.val t.isLt).1 _
    refine congrArg _ (funext fun a => ?_)
    match a with
    | ⟨0, _⟩ => rfl
    | ⟨1, _⟩ => rfl
  · show _ = (arrays m c).dp ⟨win0_6.index t 0 * 128 + 1 * (j 0).val, _⟩ ⟨win0_6.index t 1 * 6144 + 1 * (j 1).val, _⟩
    unfold Arrays.dp
    refine congr (congr (congrArg (fun n => ((arrays m c).chunk n).dp) ?_) ?_) ?_
    · exact Fin.ext (by simp only [pt, chunkNo, (index6 t).1]; omega)
    · exact Fin.ext (by simp only [rowIn, (index6 t).1]; omega)
    · exact Fin.ext (by simp only [(index6 t).2]; omega)

theorem final6 : (dats m 0 c).arrAt 6 cfg0.N = res0 m c :=
  (dats m 0 c).arrAt_eq_of_cover 6 (res0 m c) (written6 m c) fun i => by
    have h0 : (i 0 : Nat) < 4096 := (i 0).isLt
    have h1 : (i 1 : Nat) < 6144 := (i 1).isLt
    have hN : (i 0 : Nat) / 128 < cfg0.N := by rw [N_eq]; omega
    refine ⟨⟨(i 0 : Nat) / 128, hN⟩, flush0_6 _, ?_⟩
    show i ∈ ((View.whole main_v2_0).slice (win0_6.rect ⟨(i 0 : Nat) / 128, hN⟩)).set
    rw [View.set_slice_whole, Rect.mem_set_unit]
    intro a
    match a with
    | ⟨0, _⟩ =>
      show win0_6.index ⟨(i 0 : Nat) / 128, hN⟩ 0 * 128 ≤ (i 0 : Nat)
        ∧ (i 0 : Nat) < win0_6.index ⟨(i 0 : Nat) / 128, hN⟩ 0 * 128 + win0_6.xsize (grid0.coords ⟨(i 0 : Nat) / 128, hN⟩) 0
      rw [(index6 _).1, (size6 _).1]; show (i 0 : Nat) / 128 * 128 ≤ _ ∧ _ < (i 0 : Nat) / 128 * 128 + 128; omega
    | ⟨1, _⟩ =>
      show win0_6.index ⟨(i 0 : Nat) / 128, hN⟩ 1 * 6144 ≤ (i 1 : Nat)
        ∧ (i 1 : Nat) < win0_6.index ⟨(i 0 : Nat) / 128, hN⟩ 1 * 6144 + win0_6.xsize (grid0.coords ⟨(i 0 : Nat) / 128, hN⟩) 1
      rw [(index6 _).2, (size6 _).2]; omega

/-! ## The sums -/

/-- A sum over the first 32 numbers is the sum over the chunks. -/
theorem sum_chunks (f : Chunk → EReal) : ∑ q ∈ Finset.range 32, f (chunkNat m c q) = ∑ n, f ((arrays m c).chunk n) := by
  rw [Finset.sum_range]
  exact Finset.sum_congr rfl fun n _ => congrArg f (congrArg _ (Fin.ext (Nat.mod_eq_of_lt n.isLt)))

/-- The last grid point. -/
def tLast : Fin cfg0.N := ⟨31, by rw [N_eq]; decide⟩

theorem last_holds : Holds m c 31 (outsAt0 m c tLast.val tLast.isLt) := outs_hold m c 31 tLast.isLt

theorem out7 : (outsAt0 m c tLast.val tLast.isLt).2.1 = res1 m c := by
  refine ext2 fun a k => ?_
  obtain rfl : a = 0 := Subsingleton.elim _ _
  exact ((last_holds m c).dlg k).trans (sum_chunks m c fun K => K.dlg k)
theorem out8 : (outsAt0 m c tLast.val tLast.isLt).2.2.1 = res2 m c := by
  refine ext2 fun a k => ?_
  obtain rfl : a = 0 := Subsingleton.elim _ _
  exact ((last_holds m c).dlb k).trans (sum_chunks m c fun K => K.dlb k)
theorem out9 : (outsAt0 m c tLast.val tLast.isLt).2.2.2.1 = res3 m c := by
  refine ext3 fun g i j => ?_
  exact ((last_holds m c).dw g i j).trans (sum_chunks m c fun K => K.dw g i j)
theorem out10 : (outsAt0 m c tLast.val tLast.isLt).2.2.2.2 = res4 m c := by
  refine ext2 fun i l => ?_
  exact ((last_holds m c).db i l).trans (sum_chunks m c fun K => K.dbPad i l)

theorem size7 : ∀ t : Fin grid0.N, win0_7.xsize (grid0.coords t) 0 = 1 ∧ win0_7.xsize (grid0.coords t) 1 = 2048 := by
  decide +kernel

theorem written7 (t : Fin cfg0.N) (hf : (cfg0.win 7).flush t = true) :
    (dats m 0 c).flushed 7 t = ((cfg0.win 7).blk t).view.read (Elt Ideal) (res1 m c) := by
  have h31 : t.val = 31 := by have := (flush0_7 t).mp hf; have := lt_of_lt_of_eq t.isLt N_eq; omega
  obtain rfl : t = tLast := Fin.ext h31
  show (cfg0.win 7).cut (grid0.coords tLast) ((dats m 0 c).after 7 tLast) = _
  rw [after0_7, out7]
  have hz : (fun a => win0_7.index tLast a * main_v2_1.ty.shape.size a) = fun _ => 0 := funext fun a => by
    match a with
    | ⟨0, _⟩ => show win0_7.index tLast 0 * 1 = 0; rw [(index7 _).1]
    | ⟨1, _⟩ => show win0_7.index tLast 1 * 2048 = 0; rw [(index7 _).2]
  exact (Memref.read_access_unit_zero (Elt Ideal) main_v2_1 hz (fun a => by rw [congrFun hz a]; simp) (res1 m c)).symm

theorem final7 : (dats m 0 c).arrAt 7 cfg0.N = res1 m c :=
  (dats m 0 c).arrAt_eq_of_cover 7 (res1 m c) (written7 m c) fun i =>
    ⟨tLast, (flush0_7 tLast).mpr rfl, by
      show i ∈ ((View.whole main_v2_1).slice (win0_7.rect tLast)).set
      rw [View.set_slice_whole, Rect.mem_set_unit]
      intro a
      match a with
      | ⟨0, _⟩ =>
        have h : (i 0 : Nat) < 1 := (i 0).isLt
        show win0_7.index tLast 0 * 1 ≤ (i 0 : Nat)
          ∧ (i 0 : Nat) < win0_7.index tLast 0 * 1 + win0_7.xsize (grid0.coords tLast) 0
        rw [(index7 _).1, (size7 _).1]; omega
      | ⟨1, _⟩ =>
        have h : (i 1 : Nat) < 2048 := (i 1).isLt
        show win0_7.index tLast 1 * 2048 ≤ (i 1 : Nat)
          ∧ (i 1 : Nat) < win0_7.index tLast 1 * 2048 + win0_7.xsize (grid0.coords tLast) 1
        rw [(index7 _).2, (size7 _).2]; omega⟩

theorem size8 : ∀ t : Fin grid0.N, win0_8.xsize (grid0.coords t) 0 = 1 ∧ win0_8.xsize (grid0.coords t) 1 = 2048 := by
  decide +kernel

theorem written8 (t : Fin cfg0.N) (hf : (cfg0.win 8).flush t = true) :
    (dats m 0 c).flushed 8 t = ((cfg0.win 8).blk t).view.read (Elt Ideal) (res2 m c) := by
  have h31 : t.val = 31 := by have := (flush0_8 t).mp hf; have := lt_of_lt_of_eq t.isLt N_eq; omega
  obtain rfl : t = tLast := Fin.ext h31
  show (cfg0.win 8).cut (grid0.coords tLast) ((dats m 0 c).after 8 tLast) = _
  rw [after0_8, out8]
  have hz : (fun a => win0_8.index tLast a * main_v2_2.ty.shape.size a) = fun _ => 0 := funext fun a => by
    match a with
    | ⟨0, _⟩ => show win0_8.index tLast 0 * 1 = 0; rw [(index8 _).1]
    | ⟨1, _⟩ => show win0_8.index tLast 1 * 2048 = 0; rw [(index8 _).2]
  exact (Memref.read_access_unit_zero (Elt Ideal) main_v2_2 hz (fun a => by rw [congrFun hz a]; simp) (res2 m c)).symm

theorem final8 : (dats m 0 c).arrAt 8 cfg0.N = res2 m c :=
  (dats m 0 c).arrAt_eq_of_cover 8 (res2 m c) (written8 m c) fun i =>
    ⟨tLast, (flush0_8 tLast).mpr rfl, by
      show i ∈ ((View.whole main_v2_2).slice (win0_8.rect tLast)).set
      rw [View.set_slice_whole, Rect.mem_set_unit]
      intro a
      match a with
      | ⟨0, _⟩ =>
        have h : (i 0 : Nat) < 1 := (i 0).isLt
        show win0_8.index tLast 0 * 1 ≤ (i 0 : Nat)
          ∧ (i 0 : Nat) < win0_8.index tLast 0 * 1 + win0_8.xsize (grid0.coords tLast) 0
        rw [(index8 _).1, (size8 _).1]; omega
      | ⟨1, _⟩ =>
        have h : (i 1 : Nat) < 2048 := (i 1).isLt
        show win0_8.index tLast 1 * 2048 ≤ (i 1 : Nat)
          ∧ (i 1 : Nat) < win0_8.index tLast 1 * 2048 + win0_8.xsize (grid0.coords tLast) 1
        rw [(index8 _).2, (size8 _).2]; omega⟩

theorem size9 : ∀ t : Fin grid0.N, win0_9.xsize (grid0.coords t) 0 = 16 ∧ win0_9.xsize (grid0.coords t) 1 = 128 ∧ win0_9.xsize (grid0.coords t) 2 = 128 := by
  decide +kernel

theorem written9 (t : Fin cfg0.N) (hf : (cfg0.win 9).flush t = true) :
    (dats m 0 c).flushed 9 t = ((cfg0.win 9).blk t).view.read (Elt Ideal) (res3 m c) := by
  have h31 : t.val = 31 := by have := (flush0_9 t).mp hf; have := lt_of_lt_of_eq t.isLt N_eq; omega
  obtain rfl : t = tLast := Fin.ext h31
  show (cfg0.win 9).cut (grid0.coords tLast) ((dats m 0 c).after 9 tLast) = _
  rw [after0_9, out9]
  have hz : (fun a => win0_9.index tLast a * main_v2_3.ty.shape.size a) = fun _ => 0 := funext fun a => by
    match a with
    | ⟨0, _⟩ => show win0_9.index tLast 0 * 16 = 0; rw [(index9 _).1]
    | ⟨1, _⟩ => show win0_9.index tLast 1 * 128 = 0; rw [(index9 _).2.1]
    | ⟨2, _⟩ => show win0_9.index tLast 2 * 128 = 0; rw [(index9 _).2.2]
  exact (Memref.read_access_unit_zero (Elt Ideal) main_v2_3 hz (fun a => by rw [congrFun hz a]; simp) (res3 m c)).symm

theorem final9 : (dats m 0 c).arrAt 9 cfg0.N = res3 m c :=
  (dats m 0 c).arrAt_eq_of_cover 9 (res3 m c) (written9 m c) fun i =>
    ⟨tLast, (flush0_9 tLast).mpr rfl, by
      show i ∈ ((View.whole main_v2_3).slice (win0_9.rect tLast)).set
      rw [View.set_slice_whole, Rect.mem_set_unit]
      intro a
      match a with
      | ⟨0, _⟩ =>
        have h : (i 0 : Nat) < 16 := (i 0).isLt
        show win0_9.index tLast 0 * 16 ≤ (i 0 : Nat)
          ∧ (i 0 : Nat) < win0_9.index tLast 0 * 16 + win0_9.xsize (grid0.coords tLast) 0
        rw [(index9 _).1, (size9 _).1]; omega
      | ⟨1, _⟩ =>
        have h : (i 1 : Nat) < 128 := (i 1).isLt
        show win0_9.index tLast 1 * 128 ≤ (i 1 : Nat)
          ∧ (i 1 : Nat) < win0_9.index tLast 1 * 128 + win0_9.xsize (grid0.coords tLast) 1
        rw [(index9 _).2.1, (size9 _).2.1]; omega
      | ⟨2, _⟩ =>
        have h : (i 2 : Nat) < 128 := (i 2).isLt
        show win0_9.index tLast 2 * 128 ≤ (i 2 : Nat)
          ∧ (i 2 : Nat) < win0_9.index tLast 2 * 128 + win0_9.xsize (grid0.coords tLast) 2
        rw [(index9 _).2.2, (size9 _).2.2]; omega⟩

theorem size10 : ∀ t : Fin grid0.N, win0_10.xsize (grid0.coords t) 0 = 128 ∧ win0_10.xsize (grid0.coords t) 1 = 128 := by
  decide +kernel

theorem written10 (t : Fin cfg0.N) (hf : (cfg0.win 10).flush t = true) :
    (dats m 0 c).flushed 10 t = ((cfg0.win 10).blk t).view.read (Elt Ideal) (res4 m c) := by
  have h31 : t.val = 31 := by have := (flush0_10 t).mp hf; have := lt_of_lt_of_eq t.isLt N_eq; omega
  obtain rfl : t = tLast := Fin.ext h31
  show (cfg0.win 10).cut (grid0.coords tLast) ((dats m 0 c).after 10 tLast) = _
  rw [after0_10, out10]
  have hz : (fun a => win0_10.index tLast a * main_v2_4.ty.shape.size a) = fun _ => 0 := funext fun a => by
    match a with
    | ⟨0, _⟩ => show win0_10.index tLast 0 * 128 = 0; rw [(index10 _).1]
    | ⟨1, _⟩ => show win0_10.index tLast 1 * 128 = 0; rw [(index10 _).2]
  exact (Memref.read_access_unit_zero (Elt Ideal) main_v2_4 hz (fun a => by rw [congrFun hz a]; simp) (res4 m c)).symm

theorem final10 : (dats m 0 c).arrAt 10 cfg0.N = res4 m c :=
  (dats m 0 c).arrAt_eq_of_cover 10 (res4 m c) (written10 m c) fun i =>
    ⟨tLast, (flush0_10 tLast).mpr rfl, by
      show i ∈ ((View.whole main_v2_4).slice (win0_10.rect tLast)).set
      rw [View.set_slice_whole, Rect.mem_set_unit]
      intro a
      match a with
      | ⟨0, _⟩ =>
        have h : (i 0 : Nat) < 128 := (i 0).isLt
        show win0_10.index tLast 0 * 128 ≤ (i 0 : Nat)
          ∧ (i 0 : Nat) < win0_10.index tLast 0 * 128 + win0_10.xsize (grid0.coords tLast) 0
        rw [(index10 _).1, (size10 _).1]; omega
      | ⟨1, _⟩ =>
        have h : (i 1 : Nat) < 128 := (i 1).isLt
        show win0_10.index tLast 1 * 128 ≤ (i 1 : Nat)
          ∧ (i 1 : Nat) < win0_10.index tLast 1 * 128 + win0_10.xsize (grid0.coords tLast) 1
        rw [(index10 _).2, (size10 _).2]; omega⟩

/-! ## The run -/

/-- Every run ends with the five results and with the arguments unchanged. -/
theorem run_whole (ρ : Dev nD → PrngReg) : θ_run defs (onTc (τ := τ) (main (F := Ideal))) ⟨m, fun _ => 0, ρ⟩ fun r => ∀ c : Dev nD,
      r.2.mem ((c : Thread nD τ).loc main_v2_0) = res0 m c
      ∧ r.2.mem ((c : Thread nD τ).loc main_v2_1) = res1 m c
      ∧ r.2.mem ((c : Thread nD τ).loc main_v2_2) = res2 m c
      ∧ r.2.mem ((c : Thread nD τ).loc main_v2_3) = res3 m c
      ∧ r.2.mem ((c : Thread nD τ).loc main_v2_4) = res4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (run_blocks m ρ)
  obtain ⟨e0, e1, e2, e3, e4, ha⟩ := h c
  exact ⟨e0.trans (final6 m c), e1.trans (final7 m c), e2.trans (final8 m c), e3.trans (final9 m c), e4.trans (final10 m c), ha⟩

end Cert.KernelIdeal.Grid
-- ==== Proof.RRow.lean ====
/-
  The reference's row-by-row values, read down to scalars: gelu of `u` and `v`, the layer norm of a row, the gate `silu z` and
  the cotangent of the mix.
-/
module

public import proofs.«01_k».proof.Proof.Gen.ReferenceIdeal.Run
public import proofs.«01_k».proof.Proof.Whole
public import Idealize.ShloMosaic.Lib.Tactic.CleanTypes

@[expose] public section

set_option maxRecDepth 16384

noncomputable section

namespace Cert.ReferenceIdeal.Rows

open Idealize.ShloMosaic Idealize.ShloMosaic.TcCoe Idealize.ShloMosaic.Tactic
open Cert.ReferenceIdeal Cert.ReferenceIdeal.Gen Cert.ReferenceIdeal.Value Cert.Gating

variable (V0 : Valuation τ sig (Elt Ideal))

def arg0 : Vec Ideal S4096x6144 .f32 := V0 (Proc.devRef .tc main_arg0)
def arg1 : Vec Ideal S1x2048 .f32 := V0 (Proc.devRef .tc main_arg1)
def arg2 : Vec Ideal S1x2048 .f32 := V0 (Proc.devRef .tc main_arg2)
def arg3 : Vec Ideal S16x128x128 .f32 := V0 (Proc.devRef .tc main_arg3)
def arg4 : Vec Ideal S16x128 .f32 := V0 (Proc.devRef .tc main_arg4)
def arg5 : Vec Ideal S4096x2048 .f32 := V0 (Proc.devRef .tc main_arg5)

/-- The arguments, entry by entry. -/
def arrays : Arrays where
  p r k := arg0 V0 (ix2 r k)
  lg k := arg1 V0 (ix2 0 k)
  lb k := arg2 V0 (ix2 0 k)
  w g t s := arg3 V0 (ix3 g t s)
  b g t := arg4 V0 (ix2 g t)
  dout r k := arg5 V0 (ix2 r k)

variable (r : Fin 4096) (c : Fin 2048)

/-- The row's `u`, `v` and `z`. -/
def uRow (c : Fin 2048) : EReal := arg0 V0 (ix2 r (uCol c))
def vRow (c : Fin 2048) : EReal := arg0 V0 (ix2 r (vCol c))
def zRow (c : Fin 2048) : EReal := arg0 V0 (ix2 r (zCol c))

/-- The cube, the other way around. -/
theorem cube (x : EReal) : x * x * x = x * (x * x) := mul_comm _ _

theorem v0_apply : (res_main_v0 V0 : Vec Ideal S4096x2048 .f32) (ix2 r c) = uRow V0 r c := by
  unfold res_main_v0; clean_types; pointwise []; rfl
theorem v1_apply : (res_main_v1 V0 : Vec Ideal S4096x2048 .f32) (ix2 r c) = vRow V0 r c := by
  unfold res_main_v1; clean_types; pointwise []; rfl
theorem v2_apply : (res_main_v2 V0 : Vec Ideal S4096x2048 .f32) (ix2 r c) = zRow V0 r c := by
  unfold res_main_v2; clean_types; pointwise []; rfl
theorem v13_apply : (res_main_v13 V0 : Vec Ideal S4096x2048 .f32) (ix2 r c) = th (uRow V0 r c) := by
  unfold res_main_v13; clean_types; pointwise [v0_apply, cube]; rfl
theorem v22_apply : (res_main_v22 V0 : Vec Ideal S4096x2048 .f32) (ix2 r c) = gate (uRow V0 r c) := by
  unfold res_main_v22; clean_types; pointwise [v13_apply]; rfl
theorem v23_apply : (res_main_v23 V0 : Vec Ideal S4096x2048 .f32) (ix2 r c) = gelu (uRow V0 r c) := by
  unfold res_main_v23; clean_types; pointwise [v0_apply, v22_apply]; rfl
theorem v34_apply : (res_main_v34 V0 : Vec Ideal S4096x2048 .f32) (ix2 r c) = th (vRow V0 r c) := by
  unfold res_main_v34; clean_types; pointwise [v1_apply, cube]; rfl
theorem v43_apply : (res_main_v43 V0 : Vec Ideal S4096x2048 .f32) (ix2 r c) = gate (vRow V0 r c) := by
  unfold res_main_v43; clean_types; pointwise [v34_apply]; rfl
theorem v44_apply : (res_main_v44 V0 : Vec Ideal S4096x2048 .f32) (ix2 r c) = gelu (vRow V0 r c) := by
  unfold res_main_v44; clean_types; pointwise [v1_apply, v43_apply]; rfl
theorem v48_apply : (res_main_v48 V0 : Vec Ideal S4096x1 .f32) (ix2 r 0) = mean (vRow V0 r) := by
  unfold res_main_v48; clean_types; pointwise [v44_apply]; rfl
theorem v50_apply : (res_main_v50 V0 : Vec Ideal S4096x2048 .f32) (ix2 r c) = dif (vRow V0 r) c := by
  unfold res_main_v50; clean_types; pointwise [v44_apply, v48_apply]; rfl
theorem v59_apply : (res_main_v59 V0 : Vec Ideal S4096x2048 .f32) (ix2 r c) = dif (vRow V0 r) c := by
  unfold res_main_v59; clean_types; pointwise [v44_apply, v48_apply]; rfl
theorem v61_apply : (res_main_v61 V0 : Vec Ideal S4096x1 .f32) (ix2 r 0) = var (vRow V0 r) := by
  unfold res_main_v61; clean_types; pointwise [v50_apply]; rfl
theorem v62_apply : (res_main_v62 V0 : Vec Ideal S4096x1 .f32) (ix2 r 0) = rs (vRow V0 r) := by
  unfold res_main_v62; clean_types; pointwise [v61_apply]; rfl
theorem v67_apply : (res_main_v67 V0 : Vec Ideal S4096x2048 .f32) (ix2 r c) = xhat (vRow V0 r) c := by
  unfold res_main_v67; clean_types; pointwise [v59_apply, v62_apply]; rfl

theorem v87_2_apply : (res_main_v87_2 V0 : Vec Ideal S4096x2048 .f32) (ix2 r c) = Ideal.logistic (zRow V0 r c) := by
  unfold res_main_v87_2; clean_types; pointwise [v2_apply]; rfl
theorem v87_0_apply : (res_main_v87_0 V0 : Vec Ideal S4096x2048 .f32) (ix2 r c) = silu (zRow V0 r c) := by
  unfold res_main_v87_0; clean_types; pointwise [v2_apply, v87_2_apply]; rfl
theorem v90_apply : (res_main_v90 V0 : Vec Ideal S4096x2048 .f32) (ix2 r c) = arg5 V0 (ix2 r c) * silu (zRow V0 r c) := by
  unfold res_main_v90; clean_types; pointwise [v87_0_apply]; rfl

end Cert.ReferenceIdeal.Rows
-- ==== Proof.RMix.lean ====
/-
  The reference's spatial mix and its gradient, read down to scalars: the masked weights, the mix of the normalised values, and
  the cotangents of the mix and of the normalised values. Row `s` of chunk `n` is row `128 n + s`.
-/
module

public import proofs.«01_k».proof.Proof.RRow

@[expose] public section

set_option maxRecDepth 16384

noncomputable section

namespace Cert.ReferenceIdeal.Rows

open Idealize.ShloMosaic Idealize.ShloMosaic.TcCoe Idealize.ShloMosaic.Tactic
open Cert.ReferenceIdeal Cert.ReferenceIdeal.Gen Cert.ReferenceIdeal.Value Cert.Gating

variable (V0 : Valuation τ sig (Elt Ideal)) (n : Fin 32) (t s : Fin 128) (g : Fin 16) (l : Fin 128) (c : Fin 2048)

/-! ## Places -/

theorem row_place (h : n.val * 128 + s.val < 4096) : (⟨n.val * 128 + s.val, h⟩ : Fin 4096) = row n s :=
  Fin.ext (by simp only [row]; omega)
theorem col_place (h : g.val * 128 + l.val < 2048) : (⟨g.val * 128 + l.val, h⟩ : Fin 2048) = col g l :=
  Fin.ext (by simp only [col]; omega)
theorem chunk_place (h : (row n s).val / 128 < 32) : (⟨(row n s).val / 128, h⟩ : Fin 32) = n := chunkNo_row n s
theorem in_place (h : (row n s).val % 128 < 128) : (⟨(row n s).val % 128, h⟩ : Fin 128) = s := rowIn_row n s
theorem grp_place (h : c.val / 128 < 16) : (⟨c.val / 128, h⟩ : Fin 16) = grp c := rfl
theorem lane_place (h : c.val % 128 < 128) : (⟨c.val % 128, h⟩ : Fin 128) = lane c := rfl

/-! ## The forward pass -/

theorem v72_apply : (res_main_v72 V0 : Vec Ideal S32x128x16x128 .f32) (ix4 n s g l) = ((arrays V0).chunk n).vn s (col g l) := by
  unfold res_main_v72; clean_types; pointwise [v67_apply]
  rw [row_place, col_place]; rfl

/-- A number below 2048 is its 32-bit word's. -/
theorem toInt_small {k : Nat} (h : k < 2048) : (BitVec.ofNat 32 k).toInt = k := by
  rw [BitVec.toInt_eq_toNat_cond, BitVec.toNat_ofNat, Nat.mod_eq_of_lt (by omega), if_pos (by omega)]

theorem v77_1_apply : (res_main_v77_1 V0 : IVec S16x128x128 1) (ix3 g t s) = if s ≤ t then 1#1 else 0#1 := by
  have hs := toInt_small (show s.val < 2048 by omega)
  have ht := toInt_small (show t.val < 2048 by omega)
  unfold res_main_v77_1; clean_types; pointwise []
  rw [show IntOp.addi (BitVec.ofNat 32 t.val) 0#32 = BitVec.ofNat 32 t.val from BitVec.add_zero _]
  by_cases h : s ≤ t
  · rw [if_pos h, IntOp.cmpi_sge.mpr (by rw [hs, ht]; exact_mod_cast h)]; rfl
  · have h1 : ¬IntOp.cmpi .sge (BitVec.ofNat 32 t.val) (BitVec.ofNat 32 s.val) = 1#1 := by
      rw [IntOp.cmpi_sge, hs, ht]
      exact_mod_cast h
    rw [if_neg h]
    generalize IntOp.cmpi .sge (BitVec.ofNat 32 t.val) (BitVec.ofNat 32 s.val) = b at h1
    revert b
    decide

/-- The masked weights. -/
def wMask : EReal := if s ≤ t then arg3 V0 (ix3 g t s) else 0

theorem select_mask (a b : EReal) : Scalar.select ((res_main_v77_1 V0 : IVec S16x128x128 1) (ix3 g t s)) a b = if s ≤ t then a else b := by
  rw [v77_1_apply]
  by_cases h : s ≤ t
  · rw [if_pos h, if_pos h]; rfl
  · rw [if_neg h, if_neg h]; rfl

theorem v77_0_apply : (res_main_v77_0 V0 : Vec Ideal S16x128x128 .f32) (ix3 g t s) = wMask V0 t s g := by
  unfold res_main_v77_0; clean_types; pointwise []
  exact select_mask ..

theorem v94_apply : (res_main_v94 V0 : Vec Ideal S32x128x16x128 .f32) (ix4 n s g l) = ((arrays V0).chunk n).df s (col g l) := by
  unfold res_main_v94; clean_types; pointwise [v23_apply, v90_apply]
  rw [row_place, col_place]; rfl

theorem v85_apply : (res_main_v85 V0 : Vec Ideal S4096x2048 .f32) (ix2 (row n t) c) = ((arrays V0).chunk n).f t c := by
  unfold res_main_v85; clean_types; pointwise [v72_apply, v77_0_apply]
  simp only [chunk_place, in_place, grp_place, lane_place, col_grp_lane]
  exact congrArg (· + arg4 V0 (ix2 (grp c) t)) (Finset.sum_congr rfl fun s _ => mul_comm _ _)

/-! ## The cotangents -/

theorem v101_apply : (res_main_v101 V0 : Vec Ideal S16x32x128x128 .f32) (ix4 g n l s) = ((arrays V0).chunk n).df s (col g l) := by
  unfold res_main_v101; clean_types; pointwise [v94_apply]

theorem v106_apply : (res_main_v106 V0 : Vec Ideal S4096x2048 .f32) (ix2 (row n t) c) = ((arrays V0).chunk n).dvn t c := by
  unfold res_main_v106; clean_types; pointwise [v101_apply, v77_0_apply]
  simp only [chunk_place, in_place, grp_place, lane_place, col_grp_lane]
  exact Finset.sum_congr rfl fun s _ => mul_comm _ _

end Cert.ReferenceIdeal.Rows
-- ==== Proof.ROut.lean ====
/-
  The reference's gradients, read down to scalars: the layer norm's and gelu's gradients, the gradients of `u`, `v` and `z`,
  and the sums over all rows of the gradients of the scale, the shift, the weights and the bias.
-/
module

public import proofs.«01_k».proof.Proof.RMix

@[expose] public section

set_option maxRecDepth 16384

noncomputable section

namespace Cert.ReferenceIdeal.Rows

open Idealize.ShloMosaic Idealize.ShloMosaic.TcCoe Idealize.ShloMosaic.Tactic
open Cert.ReferenceIdeal Cert.ReferenceIdeal.Gen Cert.ReferenceIdeal.Value Cert.Gating

variable (V0 : Valuation τ sig (Elt Ideal)) (n : Fin 32) (t s : Fin 128) (g : Fin 16) (l : Fin 128) (c : Fin 2048)

/-! ## The layer norm's gradient -/

theorem v113_apply : (res_main_v113 V0 : Vec Ideal S4096x2048 .f32) (ix2 (row n t) c)
    = ((arrays V0).chunk n).dvn t c * (arrays V0).lg c := by
  unfold res_main_v113; clean_types; pointwise [v106_apply]; rfl
theorem v118_apply : (res_main_v118 V0 : Vec Ideal S4096x2048 .f32) (ix2 (row n t) c)
    = dDirect (vRow V0 (row n t)) (arrays V0).lg (((arrays V0).chunk n).dvn t) c := by
  unfold res_main_v118; clean_types; pointwise [v113_apply, v62_apply]; rfl
theorem v127_apply : (res_main_v127 V0 : Vec Ideal S4096x2048 .f32) (ix2 (row n t) c)
    = dSquare (vRow V0 (row n t)) (arrays V0).lg (((arrays V0).chunk n).dvn t) c := by
  unfold res_main_v127; clean_types; pointwise [v113_apply, v62_apply, v61_apply, v59_apply, v50_apply]
  simp only [Fin.sum_univ_one, v62_apply, v61_apply]
  rfl
theorem v137_apply : (res_main_v137 V0 : Vec Ideal S4096x2048 .f32) (ix2 (row n t) c)
    = normBwd (vRow V0 (row n t)) (arrays V0).lg (((arrays V0).chunk n).dvn t) c := by
  unfold res_main_v137; clean_types; pointwise [v118_apply, v127_apply]
  simp only [Fin.sum_univ_one]
  rfl

/-! ## gelu's gradient -/

theorem v93_apply : (res_main_v93 V0 : Vec Ideal S4096x2048 .f32) (ix2 (row n t) c)
    = ((arrays V0).chunk n).dgate t c * ((arrays V0).chunk n).f t c := by
  unfold res_main_v93; clean_types; pointwise [v90_apply, v85_apply]; rfl
theorem v144_apply : (res_main_v144 V0 : Vec Ideal S4096x2048 .f32) (ix2 (row n t) c)
    = geluInner (vRow V0 (row n t) c) (normBwd (vRow V0 (row n t)) (arrays V0).lg (((arrays V0).chunk n).dvn t) c) := by
  unfold res_main_v144; clean_types; pointwise [v1_apply, v137_apply, v34_apply]; rfl
theorem v156_apply : (res_main_v156 V0 : Vec Ideal S4096x2048 .f32) (ix2 (row n t) c)
    = geluInner (uRow V0 (row n t) c) (((arrays V0).chunk n).dgate t c * ((arrays V0).chunk n).f t c) := by
  unfold res_main_v156; clean_types; pointwise [v0_apply, v93_apply, v13_apply]; rfl
theorem v89_apply : (res_main_v89 V0 : Vec Ideal S4096x2048 .f32) (ix2 (row n t) c)
    = (gelu (uRow V0 (row n t) c) * ((arrays V0).chunk n).f t c) * arg5 V0 (ix2 (row n t) c) := by
  unfold res_main_v89 res_main_v86; clean_types; pointwise [v23_apply, v85_apply]; rfl

/-! ## Sums over the first and the last of four axes -/

section Outer
variable {n0 n1 n2 n3 : Nat} (h : (⟨4, ![n0, n1, n2, n3]⟩ : Shape).ReducesTo [0, 3] ⟨2, ![n1, n2]⟩)

/-- The places that are summed to `(a, b)` are those with `a` and `b` in the middle. -/
theorem outer_fiber (a : Fin n1) (b : Fin n2) (i : (⟨4, ![n0, n1, n2, n3]⟩ : Shape).Idx) :
    h.drop i = ix2 a b ↔ ∃ k : Fin n0 × Fin n3, ix4 k.1 a b k.2 = i := by
  constructor
  · intro e
    refine ⟨(i 0, i 3), ?_⟩
    funext q; apply Fin.ext
    match q with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext q
    apply Fin.ext
    match q with
    | ⟨0, _⟩ => rfl
    | ⟨1, _⟩ => rfl

theorem sum_outer (v : (⟨4, ![n0, n1, n2, n3]⟩ : Shape).Idx → EReal) (init : EReal) (a : Fin n1) (b : Fin n2) :
    Ideal.hostReduceAdd h v init (ix2 a b) = init + ∑ k : Fin n0, ∑ l : Fin n3, v (ix4 k a b l) := by
  refine congrArg (init + ·) ((Finset.sum_filter_eq_sum_of_fiber _ (fun k : Fin n0 × Fin n3 => ix4 k.1 a b k.2)
    (fun _ _ e => Prod.ext (congrFun e 0) (congrFun e 3)) (outer_fiber h a b) v).trans ?_)
  simp only [Fintype.sum_prod_type]

end Outer

/-! ## The five results -/

/-- The three gradients side by side. -/
def dpVec : FVec Ideal S4096x6144 .bf16 :=
  truncf .bf16 ((concatenate S4096x6144 1 [
    ⟨S4096x2048, ((addf (addf (mulf (res_main_v93 V0) (res_main_v22 V0)) (res_main_v156 V0)) (mulf (mulf (broadcastInDim S4096x2048 ![] bcast_S_S4096x2048 (constant S_ .f32 0x3D372713#32)) (res_main_v156 V0)) (mulf (broadcastInDim S4096x2048 ![] bcast_S_S4096x2048 (constant S_ .f32 0x40400000#32)) (mulf (res_main_v0 V0) (res_main_v0 V0))))) : (⟨S4096x2048, .f32⟩ : BufTy).Contents (Elt Ideal))⟩,
    ⟨S4096x2048, ((addf (addf (mulf (res_main_v137 V0) (res_main_v43 V0)) (res_main_v144 V0)) (mulf (mulf (broadcastInDim S4096x2048 ![] bcast_S_S4096x2048 (constant S_ .f32 0x3D372713#32)) (res_main_v144 V0)) (mulf (broadcastInDim S4096x2048 ![] bcast_S_S4096x2048 (constant S_ .f32 0x40400000#32)) (mulf (res_main_v1 V0) (res_main_v1 V0))))) : (⟨S4096x2048, .f32⟩ : BufTy).Contents (Elt Ideal))⟩,
    ⟨S4096x2048, ((addf (mulf (res_main_v89 V0) (res_main_v87_2 V0)) (mulf (mulf (res_main_v2 V0) (res_main_v89 V0)) (mulf (res_main_v87_2 V0) (subf (broadcastInDim S4096x2048 ![] bcast_S_S4096x2048 (constant S_ .f32 0x3F800000#32)) (res_main_v87_2 V0))))) : (⟨S4096x2048, .f32⟩ : BufTy).Contents (Elt Ideal))⟩]
    concatenates_S4096x2048_S4096x2048_S4096x2048_S4096x6144_d1 : (⟨S4096x6144, .f32⟩ : BufTy).Contents (Elt Ideal))) bitsLt_bf16_f32

theorem dp_u : dpVec V0 (ix2 (row n t) (uCol c)) = ((arrays V0).chunk n).du t c := by
  have h1 : c.val < 4096 := by omega
  unfold dpVec uCol; clean_types
  pointwise [v93_apply, v22_apply, v156_apply, v0_apply]
  rfl
theorem dp_v : dpVec V0 (ix2 (row n t) (vCol c)) = ((arrays V0).chunk n).dv t c := by
  unfold dpVec vCol; clean_types
  pointwise [v137_apply, v43_apply, v144_apply, v1_apply]
  rfl
theorem dp_z : dpVec V0 (ix2 (row n t) (zCol c)) = ((arrays V0).chunk n).dz t c := by
  unfold dpVec zCol; clean_types
  pointwise [v89_apply, v87_2_apply, v2_apply]
  rw [dif_neg (by omega), dif_neg (by omega)]
  have e : ∀ h, (⟨4096 + c.val - 2048 - 2048, h⟩ : Fin 2048) = c := fun h => Fin.ext (by simp only; omega)
  simp only [e]
  rfl

theorem dp_eq : dpVec V0 = fun i => (arrays V0).dp (i 0) (i 1) := by
  refine ext2 fun r k => ?_
  show dpVec V0 (ix2 r k) = ((arrays V0).chunk (chunkNo r)).dp (rowIn r) k
  refine (congrArg (fun q => dpVec V0 (ix2 q k)) (row_chunk r).symm).trans ?_
  revert k
  refine col_cases (fun k => ?_) (fun k => ?_) (fun k => ?_)
  · exact (dp_u ..).trans (Chunk.dp_u ..).symm
  · exact (dp_v ..).trans (Chunk.dp_v ..).symm
  · exact (dp_z ..).trans (Chunk.dp_z ..).symm

/-- The gradient of the scale. -/
def dlgVec : FVec Ideal S1x2048 .f32 :=
  shapeCast _ (Host.reduceAdd (mulf (res_main_v67 V0) (res_main_v106 V0)) (constant S_ .f32 0x00000000#32) reducesTo_S4096x2048_S2048_d0 h_S_) shapeCasts_S2048_S1x2048

theorem dlg_eq : dlgVec V0 = fun i => (arrays V0).dlg (i 1) := by
  refine ext2 fun a k => ?_
  unfold dlgVec; clean_types
  pointwise [v67_apply]
  rw [sum_rows]
  exact Finset.sum_congr rfl fun n _ => Finset.sum_congr rfl fun s _ => congrArg (_ * ·) (v106_apply V0 n s k)

/-- The gradient of the shift. -/
def dlbVec : FVec Ideal S1x2048 .f32 :=
  shapeCast _ (Host.reduceAdd (res_main_v106 V0) (constant S_ .f32 0x00000000#32) reducesTo_S4096x2048_S2048_d0 h_S_) shapeCasts_S2048_S1x2048

theorem dlb_eq : dlbVec V0 = fun i => (arrays V0).dlb (i 1) := by
  refine ext2 fun a k => ?_
  unfold dlbVec; clean_types
  pointwise []
  rw [sum_rows]
  exact Finset.sum_congr rfl fun n _ => Finset.sum_congr rfl fun s _ => v106_apply V0 n s k

/-- The gradient of the weights. -/
def dwVec : FVec Ideal S16x128x128 .f32 :=
  select (res_main_v77_1 V0 : IVec S16x128x128 1) (Host.dotGeneral (φ₁ := .f32) (φ₂ := .f32) dot_S16x32x128x128_S32x128x16x128_S16x128x128_12_03_3_1_0_2 none (res_main_v101 V0 : FVec Ideal S16x32x128x128 .f32) (res_main_v72 V0 : FVec Ideal S32x128x16x128 .f32) : FVec Ideal S16x128x128 .f32) (broadcastInDim S16x128x128 ![] bcast_S_S16x128x128 (constant S_ .f32 0x00000000#32))

theorem dw_eq : dwVec V0 = fun i => (arrays V0).dw (i 0) (i 1) (i 2) := by
  refine ext3 fun g t s => ?_
  unfold dwVec; clean_types
  pointwise [v101_apply, v72_apply]
  rw [select_mask]
  show _ = ∑ n, ((arrays V0).chunk n).dw g t s
  by_cases h : s ≤ t
  · simp only [Chunk.dw, if_pos h]; rfl
  · simp only [Chunk.dw, if_neg h, Finset.sum_const_zero]

/-- The gradient of the bias, with zeros in the lanes past the groups. -/
def dbVec : FVec Ideal S128x128 .f32 :=
  pad S128x128 ![0, 0] ![0, 112] ![0, 0] (transpose S128x16 [1, 0] (transpose S16x128 [1, 0] (Host.reduceAdd (broadcastInDim S128x16x1 ![0, 1] bcast_S128x16_S128x16x1_0_1 (Host.reduceAdd (shapeCast _ (Host.reduceAdd (res_main_v94 V0) (constant S_ .f32 0x00000000#32) reducesTo_S32x128x16x128_S128x16_d0_3 h_S_) shapeCasts_S128x16_S1x128x16x1) (constant S_ .f32 0x00000000#32) reducesTo_S1x128x16x1_S128x16_d0_3 h_S_)) (constant S_ .f32 0x00000000#32) reducesTo_S128x16x1_S128x16_d2 h_S_) transposes_S128x16_S16x128_1_0) transposes_S16x128_S128x16_1_0) (sitofp .f32 (constantI S_ 32 0#32)) pads_S128x16_S128x128_000_01120 h_S_

theorem db_eq : dbVec V0 = fun i => (arrays V0).dbPad (i 0) (i 1) := by
  refine ext2 fun t l => ?_
  unfold dbVec; clean_types
  pointwise [v94_apply, sum_outer]
  simp only [Fin.sum_univ_one]
  show _ = ∑ n, ((arrays V0).chunk n).dbPad t l
  by_cases h : l.val < 16
  · simp only [Chunk.dbPad, dif_pos h]; rfl
  · simp only [Chunk.dbPad, dif_neg h, Finset.sum_const_zero]
    show (((0#32 : BitVec 32).toInt : ℝ) : EReal) = 0
    norm_num

end Cert.ReferenceIdeal.Rows
-- ==== Proof.GateClaims.lean ====
/-
  The claims about the gradient of the chunked spatial gating: the kernel and its reference end with equal arrays, because both
  hold the gradients that Spec.lean and Whole.lean write down, of arguments that agree.
-/
module

public import proofs.«01_k».proof.Defs
public import proofs.«01_k».proof.Proof.Gen.Kernel.Frame
public import proofs.«01_k».proof.Proof.KArr
public import proofs.«01_k».proof.Proof.ROut
public import Idealize.ShloMosaic.Lib.Quiescent

@[expose] public section

set_option maxRecDepth 16384

noncomputable section

open Idealize.ShloMosaic Idealize.ShloMosaic.TcCoe Idealize.SL.Sem Idealize.ShloMosaic.StableHlo

namespace Cert.Proof.GateClaims

theorem frame_kernel : Cert.quiescent_Kernel := fun m ρ _ => Cert.Kernel.Gen.frame m ρ
theorem frame_ideal : Cert.quiescent_KernelIdeal := fun m ρ _ => Cert.KernelIdeal.Gen.frame m ρ
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Grid.res0 m c, fun c => Cert.KernelIdeal.Grid.res1 m c, fun c => Cert.KernelIdeal.Grid.res2 m c,
    fun c => Cert.KernelIdeal.Grid.res3 m c, fun c => Cert.KernelIdeal.Grid.res4 m c, Cert.KernelIdeal.Grid.run_whole m ρ, ?_⟩
  refine (θ_run Cert.ReferenceIdeal.defs _ _).mono (fun r h c => ?_) (Cert.ReferenceIdeal.Value.run (F := Ideal) m' ρ')
  have e : Cert.ReferenceIdeal.Rows.arrays (launchContents m' c) = Cert.KernelIdeal.Grid.arrays m c := by
    obtain ⟨h0, h1, h2, h3, h4, h5⟩ := hagree c
    unfold Cert.ReferenceIdeal.Rows.arrays Cert.KernelIdeal.Grid.arrays
    congr 1
    · exact funext fun i => funext fun j => congrFun h0 (ix2 i j)
    · exact funext fun j => congrFun h1 (ix2 0 j)
    · exact funext fun j => congrFun h2 (ix2 0 j)
    · exact funext fun i => funext fun j => funext fun k => congrFun h3 (ix3 i j k)
    · exact funext fun i => funext fun j => congrFun h4 (ix2 i j)
    · exact funext fun i => funext fun j => congrFun h5 (ix2 i j)
  obtain ⟨e0, e1, e2, e3, e4, ha⟩ := h c
  refine ⟨e0.trans ?_, e1.trans ?_, e2.trans ?_, e3.trans ?_, e4.trans ?_, ha⟩
  · exact (Cert.ReferenceIdeal.Rows.dp_eq (launchContents m' c)).trans (by rw [e]; rfl)
  · exact (Cert.ReferenceIdeal.Rows.dlg_eq (launchContents m' c)).trans (by rw [e]; rfl)
  · exact (Cert.ReferenceIdeal.Rows.dlb_eq (launchContents m' c)).trans (by rw [e]; rfl)
  · exact (Cert.ReferenceIdeal.Rows.dw_eq (launchContents m' c)).trans (by rw [e]; rfl)
  · exact (Cert.ReferenceIdeal.Rows.db_eq (launchContents m' c)).trans (by rw [e]; rfl)

end Cert.Proof.GateClaims
-- ==== Proof.MixerOutInput.lean ====
/-
  The gradient of a mixer's output projection with respect to its input: each grid point multiplies 1024 rows of the
  incoming gradient by 1024 rows of the weights, over the whole of their 2048 columns.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Kernel2Ideal.Product

open Idealize.ShloMosaic Idealize.ShloMosaic.TcCoe Idealize.ShloMosaic.Tactic Idealize.SL.Sem
open Cert.Kernel2Ideal Cert.Kernel2Ideal.Gen Cert.Kernel2Ideal.Value

/-- The product, as an array. -/
def res (w : Vec Ideal S2048x2048 .bf16) (d : Vec Ideal S4096x2048 .bf16) : Vec Ideal S4096x2048 .f32 :=
  fun i => ∑ k : Fin 2048, d (ix2 (i 0) k) * w (ix2 (i 1) k)

theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, t.val % 2] := (by decide +kernel : ∀ t : Fin grid0.N, _)

variable (m : (ℓ : Loc nD τ sig) → Buf (Elt Ideal) ℓ) (c : Dev nD)

/-- The array after the run. -/
theorem final : (dats m 0 c).arrAt 2 cfg0.N = res (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, res]
  blk_point [iblk, V_main_arg0, V_main_arg1, index0, index1, index2]

end Cert.Kernel2Ideal.Product

namespace Cert.Proof.MixerOutInput

open Idealize.ShloMosaic Idealize.ShloMosaic.TcCoe Idealize.ShloMosaic.Tactic Idealize.SL.Sem Idealize.ShloMosaic.StableHlo

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal := trivial

open Cert.Kernel2Ideal.Product in
theorem value (w : Vec Ideal Cert.Reference2Ideal.S2048x2048 .bf16) (d : Vec Ideal Cert.Reference2Ideal.S4096x2048 .bf16) :
    Host.dotGeneral (F := Ideal) (φ₁ := .f32) (φ₂ := .f32) Cert.Reference2Ideal.dot_S4096x2048_S2048x2048_S4096x2048_1_1_0_0_n_n none
      (extf .f32 d Cert.Reference2Ideal.Gen.bitsLt_bf16_f32) (extf .f32 w Cert.Reference2Ideal.Gen.bitsLt_bf16_f32) = res w d := by
  funext i
  rw [eq_ix2 i]
  pointwise []
  rfl

open Cert.Kernel2Ideal.Product in
theorem algebraic : Cert.algebraic_Kernel2Ideal_Reference2Ideal := by
  intro m ρ m' ρ' _ hagree
  refine ⟨fun c => res (m ((c.tc : Thread _ _).loc Cert.Kernel2Ideal.main_arg0)) (m ((c.tc : Thread _ _).loc Cert.Kernel2Ideal.main_arg1)),
    (θ_run Cert.Kernel2Ideal.defs _ _).mono (fun r h c => ⟨(h c).1.trans (final m c), (h c).2⟩)
      (Cert.Kernel2Ideal.Value.run_blocks m ρ), ?_⟩
  refine (θ_run Cert.Reference2Ideal.defs _ _).mono (fun r h c => ⟨(h c).1.trans ((value _ _).trans ?_), (h c).2⟩)
    (Cert.Reference2Ideal.Value.run (F := Ideal) m' ρ')
  obtain ⟨e0, e1⟩ := hagree c
  exact congrArg₂ res e0 e1

end Cert.Proof.MixerOutInput
-- ==== Proof.MixerOutWeights.lean ====
/-
  The gradient of an output projection's weights, read off its program and off the reference.

  The kernel multiplies the transposed mixer output with the output's gradient in tiles of
  `1024 × 512` over all `4096` rows at once; the reference forms the same sums in one product and
  transposes it.
-/

module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Kernel3Ideal.Product
open Idealize.ShloMosaic Idealize.ShloMosaic.TcCoe Idealize.ShloMosaic.Tactic Idealize.SL.Sem
open Cert.Kernel3Ideal Cert.Kernel3Ideal.Gen Cert.Kernel3Ideal.Value

/-- The weights' gradient, as an array. -/
def res (u : Vec Ideal S4096x2048 .bf16) (d : Vec Ideal S4096x2048 .bf16) :
    Vec Ideal S2048x2048 .f32 :=
  fun i => ∑ k : Fin 4096, u (ix2 k (i 0)) * d (ix2 k (i 1))

/-- The step's column block of the mixer output. -/
theorem index0 : ∀ t : Fin cfg0.N, win0_0.index t = ![0, t.val / 4] :=
  (by decide +kernel : ∀ t : Fin grid0.N, _)

/-- The step's column block of the output's gradient. -/
theorem index1 : ∀ t : Fin cfg0.N, win0_1.index t = ![0, t.val % 4] :=
  (by decide +kernel : ∀ t : Fin grid0.N, _)

/-- The step's tile of the result. -/
theorem index2 : ∀ t : Fin cfg0.N, win0_2.index t = ![t.val / 4, t.val % 4] :=
  (by decide +kernel : ∀ t : Fin grid0.N, _)

variable (m : (ℓ : Loc nD τ sig) → Buf (Elt Ideal) ℓ) (c : Dev nD)

/-- The array the kernel leaves is the weights' gradient. -/
theorem final : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, res]
  blk_point [iblk, V_main_arg0, V_main_arg1, index0, index1, index2]

end Cert.Kernel3Ideal.Product

namespace Cert.Proof.MixerOutWeights
open Idealize.ShloMosaic Idealize.ShloMosaic.TcCoe Idealize.ShloMosaic.Tactic Idealize.SL.Sem
open Idealize.ShloMosaic.StableHlo

/-- The kernel runs to the end and keeps its operands. -/
theorem frame_kernel : Cert.quiescent_Kernel3 := fun m ρ _ => Cert.Kernel3.Gen.frame m ρ

/-- So does the kernel over the extended reals. -/
theorem frame_ideal : Cert.quiescent_Kernel3Ideal := fun m ρ _ => Cert.Kernel3Ideal.Gen.frame m ρ

/-- So does the reference. -/
theorem frame_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- No operation of the kernel was replaced. -/
theorem preserves : Cert.preserves_Kernel3_Kernel3Ideal := trivial

open Cert.Kernel3Ideal.Product in
/-- The reference's transposed product is the same array of sums. -/
theorem value (u : Vec Ideal Cert.Reference3Ideal.S4096x2048 .bf16)
    (d : Vec Ideal Cert.Reference3Ideal.S4096x2048 .bf16) :
    transpose Cert.Reference3Ideal.S2048x2048 [1, 0]
      (Host.dotGeneral (F := Ideal) (φ₁ := .f32) (φ₂ := .f32)
        Cert.Reference3Ideal.dot_S4096x2048_S4096x2048_S2048x2048_0_0_1_1_n_n none
        (extf .f32 d Cert.Reference3Ideal.Gen.bitsLt_bf16_f32)
        (extf .f32 u Cert.Reference3Ideal.Gen.bitsLt_bf16_f32))
      Cert.Reference3Ideal.Gen.transposes_S2048x2048_S2048x2048_1_0 = res u d := by
  funext i
  rw [eq_ix2 i]
  pointwise [res]
  exact Finset.sum_congr rfl fun k _ => mul_comm _ _

open Cert.Kernel3Ideal.Product in
/-- Kernel and reference, started on the same operands, end with the same gradient. -/
theorem algebraic : Cert.algebraic_Kernel3Ideal_Reference3Ideal := by
  intro m ρ m' ρ' _ hagree
  refine ⟨fun c => res (m ((c.tc : Thread _ Cert.Kernel3Ideal.τ).loc Cert.Kernel3Ideal.main_arg0))
      (m ((c.tc : Thread _ Cert.Kernel3Ideal.τ).loc Cert.Kernel3Ideal.main_arg1)),
    (θ_run Cert.Kernel3Ideal.defs _ _).mono (fun r h c => ⟨(h c).1.trans (final m c), (h c).2⟩)
      (Cert.Kernel3Ideal.Value.run_blocks m ρ), ?_⟩
  refine (θ_run Cert.Reference3Ideal.defs _ _).mono
    (fun r h c => ⟨(h c).1.trans ((value _ _).trans ?_), (h c).2⟩)
    (Cert.Reference3Ideal.Value.run (F := Ideal) m' ρ')
  obtain ⟨e0, e1⟩ := hagree c
  exact congrArg₂ res e0 e1

end Cert.Proof.MixerOutWeights

end
-- ==== Proof.GateInWeights.lean ====
/-
  The gradient of a gating input projection's weights, read off its program and off the reference.

  The kernel multiplies the transposed layer input with the projection's gradient in tiles of
  `1024 × 512` over all `4096` rows at once and writes each tile into the block of the parameter
  its columns belong to; the reference forms the whole product, transposes it, cuts it into the
  four blocks of columns and stacks them.
-/

module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Kernel4Ideal.Product
open Idealize.ShloMosaic Idealize.ShloMosaic.TcCoe Idealize.ShloMosaic.Tactic Idealize.SL.Sem
open Cert.Kernel4Ideal Cert.Kernel4Ideal.Gen Cert.Kernel4Ideal.Value

/-- The weights' gradient in four blocks of columns, as an array. -/
def res (h : Vec Ideal S4096x2048 .bf16) (d : Vec Ideal S4096x6144 .bf16) :
    Vec Ideal S4x2048x1536 .f32 :=
  fun i => ∑ k : Fin 4096, h (ix2 k (i 1))
    * d (ix2 k ⟨(i 0).val * 1536 + (i 2).val, by
        have h0 : (i 0).val < 4 := (i 0).isLt
        have h2 : (i 2).val < 1536 := (i 2).isLt
        omega⟩)

/-- The step's column block of the layer input. -/
theorem index0 : ∀ t : Fin cfg0.N, win0_0.index t = ![0, t.val / 12] :=
  (by decide +kernel : ∀ t : Fin grid0.N, _)

/-- The step's column block of the projection's gradient. -/
theorem index1 : ∀ t : Fin cfg0.N, win0_1.index t = ![0, t.val % 12] :=
  (by decide +kernel : ∀ t : Fin grid0.N, _)

/-- The step's tile of the result. -/
theorem index2 : ∀ t : Fin cfg0.N, win0_2.index t = ![t.val % 12 / 3, t.val / 12, t.val % 3] :=
  (by decide +kernel : ∀ t : Fin grid0.N, _)

variable (m : (ℓ : Loc nD τ sig) → Buf (Elt Ideal) ℓ) (c : Dev nD)

/-- The array the kernel leaves is the weights' gradient. -/
theorem final : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, res]
  blk_point [iblk, V_main_arg0, V_main_arg1, index0, index1, index2]

end Cert.Kernel4Ideal.Product

namespace Cert.Proof.GateInWeights
open Idealize.ShloMosaic Idealize.ShloMosaic.TcCoe Idealize.ShloMosaic.Tactic Idealize.SL.Sem
open Idealize.ShloMosaic.StableHlo

/-- The kernel runs to the end and keeps its operands. -/
theorem frame_kernel : Cert.quiescent_Kernel4 := fun m ρ _ => Cert.Kernel4.Gen.frame m ρ

/-- So does the kernel over the extended reals. -/
theorem frame_ideal : Cert.quiescent_Kernel4Ideal := fun m ρ _ => Cert.Kernel4Ideal.Gen.frame m ρ

/-- So does the reference. -/
theorem frame_reference : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- No operation of the kernel was replaced. -/
theorem preserves : Cert.preserves_Kernel4_Kernel4Ideal := trivial

open Cert.Kernel4Ideal.Product in
/-- Kernel and reference, started on the same operands, end with the same gradient. -/
theorem algebraic : Cert.algebraic_Kernel4Ideal_Reference4Ideal := by
  intro m ρ m' ρ' _ hagree
  refine ⟨fun c => res (m ((c.tc : Thread _ Cert.Kernel4Ideal.τ).loc Cert.Kernel4Ideal.main_arg0))
      (m ((c.tc : Thread _ Cert.Kernel4Ideal.τ).loc Cert.Kernel4Ideal.main_arg1)),
    (θ_run Cert.Kernel4Ideal.defs _ _).mono (fun r h c => ⟨(h c).1.trans (final m c), (h c).2⟩)
      (Cert.Kernel4Ideal.Value.run_blocks m ρ), ?_⟩
  refine (θ_run Cert.Reference4Ideal.defs _ _).mono
    (fun r h c => ⟨(h c).1.trans ?_, (h c).2⟩)
    (Cert.Reference4Ideal.Value.run (F := Ideal) m' ρ')
  obtain ⟨e0, e1⟩ := hagree c
  refine Eq.trans ?_ (congrArg₂ res e0 e1)
  funext i
  obtain ⟨i0, i1, i2, rfl⟩ : ∃ a b d, i = ix3 a b d := ⟨i 0, i 1, i 2, eq_ix3 i⟩
  have hi : i0 = 0 ∨ i0 = 1 ∨ i0 = 2 ∨ i0 = 3 := by
    have h : ∀ a : Fin 4, a = 0 ∨ a = 1 ∨ a = 2 ∨ a = 3 := by decide
    exact h i0
  rcases hi with rfl | rfl | rfl | rfl <;>
    · pointwise [res]
      exact Finset.sum_congr rfl fun k _ => mul_comm _ _

end Cert.Proof.GateInWeights

end
-- ==== Proof.GateJoin.lean ====
/-
  The gating input weights joined from their four blocks of columns, read at an entry.
-/

module

public import proofs.«01_k».proof.Proof.Gen.Reference10Ideal.Run
public import Idealize.ShloMosaic.Lib.Pipeline.ValueKit
public import Idealize.ShloMosaic.Lib.Pointwise

@[expose] public section

set_option maxRecDepth 16384

noncomputable section

namespace Cert.Proof.GateJoin
open Idealize.ShloMosaic Idealize.ShloMosaic.TcCoe Idealize.ShloMosaic.Tactic Idealize.SL.Sem
open Cert.Reference10Ideal Cert.Reference10Ideal.Gen

/-- The four blocks of columns side by side. -/
def joined (w : Vec Ideal S4x2048x1536 .bf16) : Vec Ideal S2048x6144 .bf16 :=
  concatenate S2048x6144 1 [
    ⟨S2048x1536, shapeCast S2048x1536 (extractStridedSlice S1x2048x1536 ![0, 0, 0] w
      slices_S4x2048x1536_S1x2048x1536_0_0_0) shapeCasts_S1x2048x1536_S2048x1536⟩,
    ⟨S2048x1536, shapeCast S2048x1536 (extractStridedSlice S1x2048x1536 ![1, 0, 0] w
      slices_S4x2048x1536_S1x2048x1536_1_0_0) shapeCasts_S1x2048x1536_S2048x1536⟩,
    ⟨S2048x1536, shapeCast S2048x1536 (extractStridedSlice S1x2048x1536 ![2, 0, 0] w
      slices_S4x2048x1536_S1x2048x1536_2_0_0) shapeCasts_S1x2048x1536_S2048x1536⟩,
    ⟨S2048x1536, shapeCast S2048x1536 (extractStridedSlice S1x2048x1536 ![3, 0, 0] w
      slices_S4x2048x1536_S1x2048x1536_3_0_0) shapeCasts_S1x2048x1536_S2048x1536⟩]
    concatenates_S2048x1536_S2048x1536_S2048x1536_S2048x1536_S2048x6144_d1

/-- Column `j` of the joined weights is column `j % 1536` of block `j / 1536`. -/
theorem joined_apply (w : Vec Ideal S4x2048x1536 .bf16) (k : Fin 2048) (j : Fin 6144) :
    joined w (ix2 k j) = w (ix3 (⟨j.val / 1536, by omega⟩ : Fin 4) k ⟨j.val % 1536, by omega⟩) := by
  unfold joined
  pointwise []
  have hj : j.val < 6144 := j.isLt
  split_ifs <;> blk_ext

end Cert.Proof.GateJoin

end
-- ==== Proof.Halves.lean ====
/-
  A sum over `2 n` terms, taken in two halves.
-/

module

public import Mathlib.Algebra.BigOperators.Fin

@[expose] public section

namespace Cert.Proof

/-- The sum of the first `n` terms plus the sum of the last `n` is the whole sum. -/
theorem sum_halves {M : Type} [AddCommMonoid M] {n N : ℕ} (hN : N = n + n) (f : Fin N → M) :
    ∑ k : Fin N, f k
      = ∑ k : Fin n, f ⟨k.val, by omega⟩ + ∑ k : Fin n, f ⟨n + k.val, by omega⟩ := by
  subst hN
  exact Fin.sum_univ_add f

end Cert.Proof
-- ==== Proof.GateInInput.lean ====
/-
  The gradient of a gating layer's projected input, read off its program and off the reference.

  The kernel multiplies the projection's gradient with the weights, transposed block by block
  beforehand, in tiles of `1024 × 1024`. A tile takes two grid steps, each over half of the `6144` columns: the first puts
  its sums into a scratch block, the second adds its own to them and writes the tile. The reference
  joins the weights' blocks and forms one product.
-/

module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.GateJoin
public import proofs.«01_k».proof.Proof.Halves
public import Idealize.ShloMosaic.Lib.Pipeline.ValueKit
public import Idealize.ShloMosaic.Lib.Pointwise
public import Idealize.ShloMosaic.Lib.Quiescent

@[expose] public section

set_option maxRecDepth 16384

noncomputable section

namespace Cert.Kernel5Ideal.Product
open Idealize.ShloMosaic Idealize.ShloMosaic.TcCoe Idealize.ShloMosaic.Tactic Idealize.SL.Sem
open Cert.Kernel5Ideal Cert.Kernel5Ideal.Gen Cert.Kernel5Ideal.Value

/-- The input's gradient, as an array. -/
def res (w : Vec Ideal S4x2048x1536 .bf16) (d : Vec Ideal S4096x6144 .bf16) :
    Vec Ideal S4096x2048 .f32 :=
  fun i => ∑ k : Fin 6144, d (ix2 (i 0) k)
    * w (ix3 (⟨k.val / 1536, by omega⟩ : Fin 4) (i 1) ⟨k.val % 1536, by omega⟩)

/-- The step's block of the projection's gradient. -/
theorem index0 : ∀ t : Fin cfg0.N, win0_0.index t = ![t.val / 4, t.val % 2] :=
  (by decide +kernel : ∀ t : Fin grid0.N, _)

/-- The step's block of the weights. -/
theorem index1 : ∀ t : Fin cfg0.N, win0_1.index t = ![t.val % 2, t.val / 2 % 2] :=
  (by decide +kernel : ∀ t : Fin grid0.N, _)

/-- The step's tile of the result. -/
theorem index2 : ∀ t : Fin cfg0.N, win0_2.index t = ![t.val / 4, t.val / 2 % 2] :=
  (by decide +kernel : ∀ t : Fin grid0.N, _)

variable (m : (ℓ : Loc nD τ sig) → Buf (Elt Ideal) ℓ) (c : Dev nD)

/-- What a tile's second step writes: the first step's sums plus its own. -/
theorem second (s t : Fin cfg0.N) (hst : s.val = t.val - 1) (ht : t.val % 2 = 1) :
    (outsAt0 m c t.val t.isLt).1
      = k0_pay3 (iblk m c 0 t) (iblk m c 1 t) (k0_pay2 (iblk m c 0 s) (iblk m c 1 s)) := by
  have e : (outsAt0 m c (t.val - 1) (Nat.lt_of_le_of_lt (Nat.sub_le _ _) t.isLt)).2
      = k0_pay2 (iblk m c 0 s) (iblk m c 1 s) := by
    have hs : outsAt0 m c (t.val - 1) (Nat.lt_of_le_of_lt (Nat.sub_le _ _) t.isLt)
        = outsAt0 m c s.val s.isLt := by
      congr 1
      exact hst.symm
    rw [hs, outsAt0_A m c s (by omega) (by omega) (by omega)]
    funext y
    frame_out
  rw [outsAt0_B m c t (by omega) ht ht, e]
  funext y
  frame_out
  exact congrFun (congrArg (k0_pay3 _ _) (Memref.IsWhole.read_unread _ _)) y

/-- The array the kernel leaves is the input's gradient. -/
theorem final : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  let s : Fin cfg0.N := ⟨t.val - 1, Nat.lt_of_le_of_lt (Nat.sub_le _ _) t.isLt⟩
  have hs : s.val = t.val - 1 := rfl
  blk_simp
  rw [after0_2, second m c s t hs ht]
  pointwise [k0_pay1, k0_pay2, k0_pay3, res]
  rw [Cert.Proof.sum_halves (n := 3072) rfl]
  blk_point [iblk, V, V_main_arg1, index0, index1, index2]

end Cert.Kernel5Ideal.Product

namespace Cert.Proof.GateInInput
open Idealize.ShloMosaic Idealize.ShloMosaic.TcCoe Idealize.ShloMosaic.Tactic Idealize.SL.Sem
open Idealize.ShloMosaic.StableHlo

/-- The kernel runs to the end and keeps its operands. -/
theorem frame_kernel : Cert.quiescent_Kernel5 := fun m ρ _ => Cert.Kernel5.Gen.frame m ρ

/-- So does the kernel over the extended reals. -/
theorem frame_ideal : Cert.quiescent_Kernel5Ideal := fun m ρ _ => Cert.Kernel5Ideal.Gen.frame m ρ

/-- So does the reference. -/
theorem frame_reference : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- No operation of the kernel was replaced. -/
theorem preserves : Cert.preserves_Kernel5_Kernel5Ideal := trivial

open Cert.Kernel5Ideal.Product Cert.Proof.GateJoin in
/-- The reference's product is the same array of sums. -/
theorem value (w : Vec Ideal Cert.Reference5Ideal.S4x2048x1536 .bf16)
    (d : Vec Ideal Cert.Reference5Ideal.S4096x6144 .bf16) :
    Host.dotGeneral (F := Ideal) (φ₁ := .f32) (φ₂ := .f32)
      Cert.Reference5Ideal.dot_S4096x6144_S2048x6144_S4096x2048_1_1_0_0_n_n none
      (extf .f32 d Cert.Reference5Ideal.Gen.bitsLt_bf16_f32)
      (extf .f32 (joined w) Cert.Reference5Ideal.Gen.bitsLt_bf16_f32) = res w d := by
  funext i
  rw [eq_ix2 i]
  pointwise [joined_apply]
  rfl

open Cert.Kernel5Ideal.Product in
/-- Kernel and reference, started on the same operands, end with the same gradient. -/
theorem algebraic : Cert.algebraic_Kernel5Ideal_Reference5Ideal := by
  intro m ρ m' ρ' _ hagree
  refine ⟨fun c => res (m ((c.tc : Thread _ Cert.Kernel5Ideal.τ).loc Cert.Kernel5Ideal.main_arg0))
      (m ((c.tc : Thread _ Cert.Kernel5Ideal.τ).loc Cert.Kernel5Ideal.main_arg1)),
    (θ_run Cert.Kernel5Ideal.defs _ _).mono
      (fun r h c => ⟨(h c).1.trans ((Cert.Kernel5Ideal.Value.final2 m c).symm.trans (final m c)), (h c).2⟩)
      (Cert.Kernel5Ideal.Value.run m ρ), ?_⟩
  refine (θ_run Cert.Reference5Ideal.defs _ _).mono
    (fun r h c => ⟨(h c).1.trans ((value _ _).trans ?_), (h c).2⟩)
    (Cert.Reference5Ideal.Value.run (F := Ideal) m' ρ')
  obtain ⟨e0, e1⟩ := hagree c
  exact congrArg₂ res e0 e1

end Cert.Proof.GateInInput

end
-- ==== Proof.AttnInWeights.lean ====
/-
  The gradient of an attention input projection's weights, read off its program and off the reference.

  The kernel multiplies the transposed layer input with the projection's gradient in tiles of
  `1024 × 384` over all `4096` rows at once and writes each tile into the block of the parameter
  its columns belong to; the reference forms the whole product, transposes it, cuts it into the
  four blocks of columns and stacks them.
-/

module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Kernel6Ideal.Product
open Idealize.ShloMosaic Idealize.ShloMosaic.TcCoe Idealize.ShloMosaic.Tactic Idealize.SL.Sem
open Cert.Kernel6Ideal Cert.Kernel6Ideal.Gen Cert.Kernel6Ideal.Value

/-- The weights' gradient in four blocks of columns, as an array. -/
def res (h : Vec Ideal S4096x2048 .bf16) (d : Vec Ideal S4096x4608 .bf16) :
    Vec Ideal S4x2048x1152 .f32 :=
  fun i => ∑ k : Fin 4096, h (ix2 k (i 1))
    * d (ix2 k ⟨(i 0).val * 1152 + (i 2).val, by
        have h0 : (i 0).val < 4 := (i 0).isLt
        have h2 : (i 2).val < 1152 := (i 2).isLt
        omega⟩)

/-- The step's column block of the layer input. -/
theorem index0 : ∀ t : Fin cfg0.N, win0_0.index t = ![0, t.val / 12] :=
  (by decide +kernel : ∀ t : Fin grid0.N, _)

/-- The step's column block of the projection's gradient. -/
theorem index1 : ∀ t : Fin cfg0.N, win0_1.index t = ![0, t.val % 12] :=
  (by decide +kernel : ∀ t : Fin grid0.N, _)

/-- The step's tile of the result. -/
theorem index2 : ∀ t : Fin cfg0.N, win0_2.index t = ![t.val % 12 / 3, t.val / 12, t.val % 3] :=
  (by decide +kernel : ∀ t : Fin grid0.N, _)

variable (m : (ℓ : Loc nD τ sig) → Buf (Elt Ideal) ℓ) (c : Dev nD)

/-- The array the kernel leaves is the weights' gradient. -/
theorem final : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, res]
  blk_point [iblk, V_main_arg0, V_main_arg1, index0, index1, index2]

end Cert.Kernel6Ideal.Product

namespace Cert.Proof.AttnInWeights
open Idealize.ShloMosaic Idealize.ShloMosaic.TcCoe Idealize.ShloMosaic.Tactic Idealize.SL.Sem
open Idealize.ShloMosaic.StableHlo

/-- The kernel runs to the end and keeps its operands. -/
theorem frame_kernel : Cert.quiescent_Kernel6 := fun m ρ _ => Cert.Kernel6.Gen.frame m ρ

/-- So does the kernel over the extended reals. -/
theorem frame_ideal : Cert.quiescent_Kernel6Ideal := fun m ρ _ => Cert.Kernel6Ideal.Gen.frame m ρ

/-- So does the reference. -/
theorem frame_reference : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- No operation of the kernel was replaced. -/
theorem preserves : Cert.preserves_Kernel6_Kernel6Ideal := trivial

open Cert.Kernel6Ideal.Product in
/-- Kernel and reference, started on the same operands, end with the same gradient. -/
theorem algebraic : Cert.algebraic_Kernel6Ideal_Reference6Ideal := by
  intro m ρ m' ρ' _ hagree
  refine ⟨fun c => res (m ((c.tc : Thread _ Cert.Kernel6Ideal.τ).loc Cert.Kernel6Ideal.main_arg0))
      (m ((c.tc : Thread _ Cert.Kernel6Ideal.τ).loc Cert.Kernel6Ideal.main_arg1)),
    (θ_run Cert.Kernel6Ideal.defs _ _).mono (fun r h c => ⟨(h c).1.trans (final m c), (h c).2⟩)
      (Cert.Kernel6Ideal.Value.run_blocks m ρ), ?_⟩
  refine (θ_run Cert.Reference6Ideal.defs _ _).mono
    (fun r h c => ⟨(h c).1.trans ?_, (h c).2⟩)
    (Cert.Reference6Ideal.Value.run (F := Ideal) m' ρ')
  obtain ⟨e0, e1⟩ := hagree c
  refine Eq.trans ?_ (congrArg₂ res e0 e1)
  funext i
  obtain ⟨i0, i1, i2, rfl⟩ : ∃ a b d, i = ix3 a b d := ⟨i 0, i 1, i 2, eq_ix3 i⟩
  have hi : i0 = 0 ∨ i0 = 1 ∨ i0 = 2 ∨ i0 = 3 := by
    have h : ∀ a : Fin 4, a = 0 ∨ a = 1 ∨ a = 2 ∨ a = 3 := by decide
    exact h i0
  rcases hi with rfl | rfl | rfl | rfl <;>
    · pointwise [res]
      exact Finset.sum_congr rfl fun k _ => mul_comm _ _

end Cert.Proof.AttnInWeights

end
-- ==== Proof.AttnJoin.lean ====
/-
  The attention input weights joined from their four blocks of columns, read at an entry.
-/

module

public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.Proof.AttnJoin
open Idealize.ShloMosaic Idealize.ShloMosaic.TcCoe Idealize.ShloMosaic.Tactic Idealize.SL.Sem
open Cert.Reference7Ideal Cert.Reference7Ideal.Gen

/-- The four blocks of columns side by side. -/
def joined (w : Vec Ideal S4x2048x1152 .bf16) : Vec Ideal S2048x4608 .bf16 :=
  concatenate S2048x4608 1 [
    ⟨S2048x1152, shapeCast S2048x1152 (extractStridedSlice S1x2048x1152 ![0, 0, 0] w
      slices_S4x2048x1152_S1x2048x1152_0_0_0) shapeCasts_S1x2048x1152_S2048x1152⟩,
    ⟨S2048x1152, shapeCast S2048x1152 (extractStridedSlice S1x2048x1152 ![1, 0, 0] w
      slices_S4x2048x1152_S1x2048x1152_1_0_0) shapeCasts_S1x2048x1152_S2048x1152⟩,
    ⟨S2048x1152, shapeCast S2048x1152 (extractStridedSlice S1x2048x1152 ![2, 0, 0] w
      slices_S4x2048x1152_S1x2048x1152_2_0_0) shapeCasts_S1x2048x1152_S2048x1152⟩,
    ⟨S2048x1152, shapeCast S2048x1152 (extractStridedSlice S1x2048x1152 ![3, 0, 0] w
      slices_S4x2048x1152_S1x2048x1152_3_0_0) shapeCasts_S1x2048x1152_S2048x1152⟩]
    concatenates_S2048x1152_S2048x1152_S2048x1152_S2048x1152_S2048x4608_d1

/-- Column `j` of the joined weights is column `j % 1152` of block `j / 1152`. -/
theorem joined_apply (w : Vec Ideal S4x2048x1152 .bf16) (k : Fin 2048) (j : Fin 4608) :
    joined w (ix2 k j) = w (ix3 (⟨j.val / 1152, by omega⟩ : Fin 4) k ⟨j.val % 1152, by omega⟩) := by
  unfold joined
  pointwise []
  have hj : j.val < 4608 := j.isLt
  split_ifs <;> blk_ext

end Cert.Proof.AttnJoin

end
-- ==== Proof.AttnInInput.lean ====
/-
  The gradient of an attention layer's projected input, read off its program and off the reference.

  The kernel multiplies the projection's gradient with the weights, transposed block by block
  beforehand, in tiles of `1024 × 1024`. A tile takes two grid steps, each over half of the `4608` columns: the first puts
  its sums into a scratch block, the second adds its own to them and writes the tile. The reference
  joins the weights' blocks and forms one product.
-/

module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.AttnJoin
public import proofs.«01_k».proof.Proof.Halves
public import Idealize.ShloMosaic.Lib.Pipeline.ValueKit
public import Idealize.ShloMosaic.Lib.Pointwise
public import Idealize.ShloMosaic.Lib.Quiescent

@[expose] public section

set_option maxRecDepth 16384

noncomputable section

namespace Cert.Kernel7Ideal.Product
open Idealize.ShloMosaic Idealize.ShloMosaic.TcCoe Idealize.ShloMosaic.Tactic Idealize.SL.Sem
open Cert.Kernel7Ideal Cert.Kernel7Ideal.Gen Cert.Kernel7Ideal.Value

/-- The input's gradient, as an array. -/
def res (w : Vec Ideal S4x2048x1152 .bf16) (d : Vec Ideal S4096x4608 .bf16) :
    Vec Ideal S4096x2048 .f32 :=
  fun i => ∑ k : Fin 4608, d (ix2 (i 0) k)
    * w (ix3 (⟨k.val / 1152, by omega⟩ : Fin 4) (i 1) ⟨k.val % 1152, by omega⟩)

/-- The step's block of the projection's gradient. -/
theorem index0 : ∀ t : Fin cfg0.N, win0_0.index t = ![t.val / 4, t.val % 2] :=
  (by decide +kernel : ∀ t : Fin grid0.N, _)

/-- The step's block of the weights. -/
theorem index1 : ∀ t : Fin cfg0.N, win0_1.index t = ![t.val % 2, t.val / 2 % 2] :=
  (by decide +kernel : ∀ t : Fin grid0.N, _)

/-- The step's tile of the result. -/
theorem index2 : ∀ t : Fin cfg0.N, win0_2.index t = ![t.val / 4, t.val / 2 % 2] :=
  (by decide +kernel : ∀ t : Fin grid0.N, _)

variable (m : (ℓ : Loc nD τ sig) → Buf (Elt Ideal) ℓ) (c : Dev nD)

/-- What a tile's second step writes: the first step's sums plus its own. -/
theorem second (s t : Fin cfg0.N) (hst : s.val = t.val - 1) (ht : t.val % 2 = 1) :
    (outsAt0 m c t.val t.isLt).1
      = k0_pay3 (iblk m c 0 t) (iblk m c 1 t) (k0_pay2 (iblk m c 0 s) (iblk m c 1 s)) := by
  have e : (outsAt0 m c (t.val - 1) (Nat.lt_of_le_of_lt (Nat.sub_le _ _) t.isLt)).2
      = k0_pay2 (iblk m c 0 s) (iblk m c 1 s) := by
    have hs : outsAt0 m c (t.val - 1) (Nat.lt_of_le_of_lt (Nat.sub_le _ _) t.isLt)
        = outsAt0 m c s.val s.isLt := by
      congr 1
      exact hst.symm
    rw [hs, outsAt0_A m c s (by omega) (by omega) (by omega)]
    funext y
    frame_out
  rw [outsAt0_B m c t (by omega) ht ht, e]
  funext y
  frame_out
  exact congrFun (congrArg (k0_pay3 _ _) (Memref.IsWhole.read_unread _ _)) y

/-- The array the kernel leaves is the input's gradient. -/
theorem final : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  let s : Fin cfg0.N := ⟨t.val - 1, Nat.lt_of_le_of_lt (Nat.sub_le _ _) t.isLt⟩
  have hs : s.val = t.val - 1 := rfl
  blk_simp
  rw [after0_2, second m c s t hs ht]
  pointwise [k0_pay1, k0_pay2, k0_pay3, res]
  rw [Cert.Proof.sum_halves (n := 2304) rfl]
  blk_point [iblk, V, V_main_arg1, index0, index1, index2]

end Cert.Kernel7Ideal.Product

namespace Cert.Proof.AttnInInput
open Idealize.ShloMosaic Idealize.ShloMosaic.TcCoe Idealize.ShloMosaic.Tactic Idealize.SL.Sem
open Idealize.ShloMosaic.StableHlo

/-- The kernel runs to the end and keeps its operands. -/
theorem frame_kernel : Cert.quiescent_Kernel7 := fun m ρ _ => Cert.Kernel7.Gen.frame m ρ

/-- So does the kernel over the extended reals. -/
theorem frame_ideal : Cert.quiescent_Kernel7Ideal := fun m ρ _ => Cert.Kernel7Ideal.Gen.frame m ρ

/-- So does the reference. -/
theorem frame_reference : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

/-- No operation of the kernel was replaced. -/
theorem preserves : Cert.preserves_Kernel7_Kernel7Ideal := trivial

open Cert.Kernel7Ideal.Product Cert.Proof.AttnJoin in
/-- The reference's product is the same array of sums. -/
theorem value (w : Vec Ideal Cert.Reference7Ideal.S4x2048x1152 .bf16)
    (d : Vec Ideal Cert.Reference7Ideal.S4096x4608 .bf16) :
    Host.dotGeneral (F := Ideal) (φ₁ := .f32) (φ₂ := .f32)
      Cert.Reference7Ideal.dot_S4096x4608_S2048x4608_S4096x2048_1_1_0_0_n_n none
      (extf .f32 d Cert.Reference7Ideal.Gen.bitsLt_bf16_f32)
      (extf .f32 (joined w) Cert.Reference7Ideal.Gen.bitsLt_bf16_f32) = res w d := by
  funext i
  rw [eq_ix2 i]
  pointwise [joined_apply]
  rfl

open Cert.Kernel7Ideal.Product in
/-- Kernel and reference, started on the same operands, end with the same gradient. -/
theorem algebraic : Cert.algebraic_Kernel7Ideal_Reference7Ideal := by
  intro m ρ m' ρ' _ hagree
  refine ⟨fun c => res (m ((c.tc : Thread _ Cert.Kernel7Ideal.τ).loc Cert.Kernel7Ideal.main_arg0))
      (m ((c.tc : Thread _ Cert.Kernel7Ideal.τ).loc Cert.Kernel7Ideal.main_arg1)),
    (θ_run Cert.Kernel7Ideal.defs _ _).mono
      (fun r h c => ⟨(h c).1.trans ((Cert.Kernel7Ideal.Value.final2 m c).symm.trans (final m c)), (h c).2⟩)
      (Cert.Kernel7Ideal.Value.run m ρ), ?_⟩
  refine (θ_run Cert.Reference7Ideal.defs _ _).mono
    (fun r h c => ⟨(h c).1.trans ((value _ _).trans ?_), (h c).2⟩)
    (Cert.Reference7Ideal.Value.run (F := Ideal) m' ρ')
  obtain ⟨e0, e1⟩ := hagree c
  exact congrArg₂ res e0 e1

end Cert.Proof.AttnInInput

end
-- ==== Proof.RwkvInWeights.lean ====
/-
  The gradient of a recurrent layer's input weights, read off its program and off the reference.

  The kernel multiplies the transposed layer input with the projection's gradient in tiles of
  `1024 × 512` over all `4096` rows at once; the reference forms the same sums in one product and
  transposes it.
-/

module

public import proofs.«01_k».proof.Defs
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Kernel8Ideal.Product
open Idealize.ShloMosaic Idealize.ShloMosaic.TcCoe Idealize.ShloMosaic.Tactic Idealize.SL.Sem
open Cert.Kernel8Ideal Cert.Kernel8Ideal.Gen Cert.Kernel8Ideal.Value

/-- The weights' gradient, as an array. -/
def res (h : Vec Ideal S4096x2048 .bf16) (d : Vec Ideal S4096x8192 .bf16) :
    Vec Ideal S2048x8192 .f32 :=
  fun i => ∑ k : Fin 4096, h (ix2 k (i 0)) * d (ix2 k (i 1))

/-- The step's column block of the layer input. -/
theorem index0 : ∀ t : Fin cfg0.N, win0_0.index t = ![0, t.val / 16] :=
  (by decide +kernel : ∀ t : Fin grid0.N, _)

/-- The step's column block of the projection's gradient. -/
theorem index1 : ∀ t : Fin cfg0.N, win0_1.index t = ![0, t.val % 16] :=
  (by decide +kernel : ∀ t : Fin grid0.N, _)

/-- The step's tile of the result. -/
theorem index2 : ∀ t : Fin cfg0.N, win0_2.index t = ![t.val / 16, t.val % 16] :=
  (by decide +kernel : ∀ t : Fin grid0.N, _)

variable (m : (ℓ : Loc nD τ sig) → Buf (Elt Ideal) ℓ) (c : Dev nD)

/-- The array the kernel leaves is the weights' gradient. -/
theorem final : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, res]
  blk_point [iblk, V_main_arg0, V_main_arg1, index0, index1, index2]

end Cert.Kernel8Ideal.Product

namespace Cert.Proof.RwkvInWeights
open Idealize.ShloMosaic Idealize.ShloMosaic.TcCoe Idealize.ShloMosaic.Tactic Idealize.SL.Sem
open Idealize.ShloMosaic.StableHlo

/-- The kernel runs to the end and keeps its operands. -/
theorem frame_kernel : Cert.quiescent_Kernel8 := fun m ρ _ => Cert.Kernel8.Gen.frame m ρ

/-- So does the kernel over the extended reals. -/
theorem frame_ideal : Cert.quiescent_Kernel8Ideal := fun m ρ _ => Cert.Kernel8Ideal.Gen.frame m ρ

/-- So does the reference. -/
theorem frame_reference : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run (F := Ideal) m ρ)

/-- No operation of the kernel was replaced. -/
theorem preserves : Cert.preserves_Kernel8_Kernel8Ideal := trivial

open Cert.Kernel8Ideal.Product in
/-- The reference's transposed product is the same array of sums. -/
theorem value (h : Vec Ideal Cert.Reference8Ideal.S4096x2048 .bf16)
    (d : Vec Ideal Cert.Reference8Ideal.S4096x8192 .bf16) :
    transpose Cert.Reference8Ideal.S2048x8192 [1, 0]
      (Host.dotGeneral (F := Ideal) (φ₁ := .f32) (φ₂ := .f32)
        Cert.Reference8Ideal.dot_S4096x8192_S4096x2048_S8192x2048_0_0_1_1_n_n none
        (extf .f32 d Cert.Reference8Ideal.Gen.bitsLt_bf16_f32)
        (extf .f32 h Cert.Reference8Ideal.Gen.bitsLt_bf16_f32))
      Cert.Reference8Ideal.Gen.transposes_S8192x2048_S2048x8192_1_0 = res h d := by
  funext i
  rw [eq_ix2 i]
  pointwise [res]
  exact Finset.sum_congr rfl fun k _ => mul_comm _ _

open Cert.Kernel8Ideal.Product in
/-- Kernel and reference, started on the same operands, end with the same gradient. -/
theorem algebraic : Cert.algebraic_Kernel8Ideal_Reference8Ideal := by
  intro m ρ m' ρ' _ hagree
  refine ⟨fun c => res (m ((c.tc : Thread _ Cert.Kernel8Ideal.τ).loc Cert.Kernel8Ideal.main_arg0))
      (m ((c.tc : Thread _ Cert.Kernel8Ideal.τ).loc Cert.Kernel8Ideal.main_arg1)),
    (θ_run Cert.Kernel8Ideal.defs _ _).mono (fun r h c => ⟨(h c).1.trans (final m c), (h c).2⟩)
      (Cert.Kernel8Ideal.Value.run_blocks m ρ), ?_⟩
  refine (θ_run Cert.Reference8Ideal.defs _ _).mono
    (fun r h c => ⟨(h c).1.trans ((value _ _).trans ?_), (h c).2⟩)
    (Cert.Reference8Ideal.Value.run (F := Ideal) m' ρ')
  obtain ⟨e0, e1⟩ := hagree c
  exact congrArg₂ res e0 e1

end Cert.Proof.RwkvInWeights

end
-- ==== Proof.RwkvInInput.lean ====
/-
  The gradient of a recurrent layer's projected input, read off its program and off the reference.

  The kernel multiplies the projection's gradient with the transposed weights in tiles of
  `1024 × 1024`. A tile takes two grid steps, each over half of the `8192` columns: the first puts
  its sums into a scratch block, the second adds its own to them and writes the tile. The reference
  forms one product.
-/

module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.Halves
public import Idealize.ShloMosaic.Lib.Pipeline.ValueKit
public import Idealize.ShloMosaic.Lib.Pointwise
public import Idealize.ShloMosaic.Lib.Quiescent

@[expose] public section

set_option maxRecDepth 16384

noncomputable section

namespace Cert.Kernel9Ideal.Product
open Idealize.ShloMosaic Idealize.ShloMosaic.TcCoe Idealize.ShloMosaic.Tactic Idealize.SL.Sem
open Cert.Kernel9Ideal Cert.Kernel9Ideal.Gen Cert.Kernel9Ideal.Value

/-- The input's gradient, as an array. -/
def res (w : Vec Ideal S2048x8192 .bf16) (d : Vec Ideal S4096x8192 .bf16) :
    Vec Ideal S4096x2048 .f32 :=
  fun i => ∑ k : Fin 8192, d (ix2 (i 0) k) * w (ix2 (i 1) k)

/-- The step's block of the projection's gradient. -/
theorem index0 : ∀ t : Fin cfg0.N, win0_0.index t = ![t.val / 4, t.val % 2] :=
  (by decide +kernel : ∀ t : Fin grid0.N, _)

/-- The step's block of the weights. -/
theorem index1 : ∀ t : Fin cfg0.N, win0_1.index t = ![t.val / 2 % 2, t.val % 2] :=
  (by decide +kernel : ∀ t : Fin grid0.N, _)

/-- The step's tile of the result. -/
theorem index2 : ∀ t : Fin cfg0.N, win0_2.index t = ![t.val / 4, t.val / 2 % 2] :=
  (by decide +kernel : ∀ t : Fin grid0.N, _)

variable (m : (ℓ : Loc nD τ sig) → Buf (Elt Ideal) ℓ) (c : Dev nD)

/-- What a tile's second step writes: the first step's sums plus its own. -/
theorem second (s t : Fin cfg0.N) (hst : s.val = t.val - 1) (ht : t.val % 2 = 1) :
    (outsAt0 m c t.val t.isLt).1
      = k0_pay3 (iblk m c 0 t) (iblk m c 1 t) (k0_pay2 (iblk m c 0 s) (iblk m c 1 s)) := by
  have e : (outsAt0 m c (t.val - 1) (Nat.lt_of_le_of_lt (Nat.sub_le _ _) t.isLt)).2
      = k0_pay2 (iblk m c 0 s) (iblk m c 1 s) := by
    have hs : outsAt0 m c (t.val - 1) (Nat.lt_of_le_of_lt (Nat.sub_le _ _) t.isLt)
        = outsAt0 m c s.val s.isLt := by
      congr 1
      exact hst.symm
    rw [hs, outsAt0_A m c s (by omega) (by omega) (by omega)]
    funext y
    frame_out
  rw [outsAt0_B m c t (by omega) ht ht, e]
  funext y
  frame_out
  exact congrFun (congrArg (k0_pay3 _ _) (Memref.IsWhole.read_unread _ _)) y

/-- The array the kernel leaves is the input's gradient. -/
theorem final : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  let s : Fin cfg0.N := ⟨t.val - 1, Nat.lt_of_le_of_lt (Nat.sub_le _ _) t.isLt⟩
  have hs : s.val = t.val - 1 := rfl
  blk_simp
  rw [after0_2, second m c s t hs ht]
  pointwise [k0_pay1, k0_pay2, k0_pay3, res]
  rw [Cert.Proof.sum_halves (n := 4096) rfl]
  blk_point [iblk, V_main_arg0, V_main_arg1, index0, index1, index2]

end Cert.Kernel9Ideal.Product

namespace Cert.Proof.RwkvInInput
open Idealize.ShloMosaic Idealize.ShloMosaic.TcCoe Idealize.ShloMosaic.Tactic Idealize.SL.Sem
open Idealize.ShloMosaic.StableHlo

/-- The kernel runs to the end and keeps its operands. -/
theorem frame_kernel : Cert.quiescent_Kernel9 := fun m ρ _ => Cert.Kernel9.Gen.frame m ρ

/-- So does the kernel over the extended reals. -/
theorem frame_ideal : Cert.quiescent_Kernel9Ideal := fun m ρ _ => Cert.Kernel9Ideal.Gen.frame m ρ

/-- So does the reference. -/
theorem frame_reference : Cert.quiescent_Reference9Ideal := fun m ρ _ =>
  (θ_run Cert.Reference9Ideal.defs _ _).mono
    (fun r h => ⟨fun c => (h c).2, sem_eq_zero_of_no_sems (by decide) r.2⟩)
    (Cert.Reference9Ideal.Value.run (F := Ideal) m ρ)

/-- No operation of the kernel was replaced. -/
theorem preserves : Cert.preserves_Kernel9_Kernel9Ideal := trivial

open Cert.Kernel9Ideal.Product in
/-- The reference's product is the same array of sums. -/
theorem value (w : Vec Ideal Cert.Reference9Ideal.S2048x8192 .bf16)
    (d : Vec Ideal Cert.Reference9Ideal.S4096x8192 .bf16) :
    Host.dotGeneral (F := Ideal) (φ₁ := .f32) (φ₂ := .f32)
      Cert.Reference9Ideal.dot_S4096x8192_S2048x8192_S4096x2048_1_1_0_0_n_n none
      (extf .f32 d Cert.Reference9Ideal.Gen.bitsLt_bf16_f32)
      (extf .f32 w Cert.Reference9Ideal.Gen.bitsLt_bf16_f32) = res w d := by
  funext i
  rw [eq_ix2 i]
  pointwise []
  rfl

open Cert.Kernel9Ideal.Product in
/-- Kernel and reference, started on the same operands, end with the same gradient. -/
theorem algebraic : Cert.algebraic_Kernel9Ideal_Reference9Ideal := by
  intro m ρ m' ρ' _ hagree
  refine ⟨fun c => res (m ((c.tc : Thread _ Cert.Kernel9Ideal.τ).loc Cert.Kernel9Ideal.main_arg0))
      (m ((c.tc : Thread _ Cert.Kernel9Ideal.τ).loc Cert.Kernel9Ideal.main_arg1)),
    (θ_run Cert.Kernel9Ideal.defs _ _).mono
      (fun r h c => ⟨(h c).1.trans ((Cert.Kernel9Ideal.Value.final2 m c).symm.trans (final m c)), (h c).2⟩)
      (Cert.Kernel9Ideal.Value.run m ρ), ?_⟩
  refine (θ_run Cert.Reference9Ideal.defs _ _).mono
    (fun r h c => ⟨(h c).1.trans ((value _ _).trans ?_), (h c).2⟩)
    (Cert.Reference9Ideal.Value.run (F := Ideal) m' ρ')
  obtain ⟨e0, e1⟩ := hagree c
  exact congrArg₂ res e0 e1

end Cert.Proof.RwkvInInput

end
-- ==== Proof.GateIn.lean ====
/-
  A gating layer's input projection, read off its program and off the reference.

  The kernel multiplies the normalised layer input with the weights in tiles of `1024 × 768`,
  taking each tile's columns from the block of the parameter they belong to; the reference joins
  the blocks and forms one product.
-/

module

public import proofs.«01_k».proof.Defs
public import proofs.«01_k».proof.Proof.Gen.Kernel10.Frame
public import proofs.«01_k».proof.Proof.Gen.Kernel10Ideal.Value
public import proofs.«01_k».proof.Proof.GateJoin
public import Idealize.ShloMosaic.Lib.Quiescent

@[expose] public section

set_option maxRecDepth 16384

noncomputable section

namespace Cert.Kernel10Ideal.Product
open Idealize.ShloMosaic Idealize.ShloMosaic.TcCoe Idealize.ShloMosaic.Tactic Idealize.SL.Sem
open Cert.Kernel10Ideal Cert.Kernel10Ideal.Gen Cert.Kernel10Ideal.Value

/-- The projection, as an array. -/
def res (h : Vec Ideal S4096x2048 .bf16) (w : Vec Ideal S4x2048x1536 .bf16) :
    Vec Ideal S4096x6144 .f32 :=
  fun i => ∑ k : Fin 2048, h (ix2 (i 0) k)
    * w (ix3 (⟨(i 1).val / 1536, by have h1 : (i 1).val < 6144 := (i 1).isLt; omega⟩ : Fin 4) k
        ⟨(i 1).val % 1536, by omega⟩)

/-- The step's row block of the layer input. -/
theorem index0 : ∀ t : Fin cfg0.N, win0_0.index t = ![t.val / 8, 0] :=
  (by decide +kernel : ∀ t : Fin grid0.N, _)

/-- The step's columns of the weights. -/
theorem index1 : ∀ t : Fin cfg0.N, win0_1.index t = ![t.val % 8 / 2, 0, t.val % 2] :=
  (by decide +kernel : ∀ t : Fin grid0.N, _)

/-- The step's tile of the result. -/
theorem index2 : ∀ t : Fin cfg0.N, win0_2.index t = ![t.val / 8, t.val % 8] :=
  (by decide +kernel : ∀ t : Fin grid0.N, _)

variable (m : (ℓ : Loc nD τ sig) → Buf (Elt Ideal) ℓ) (c : Dev nD)

/-- The array the kernel leaves is the projection. -/
theorem final : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, res]
  blk_point [iblk, V_main_arg0, V_main_arg1, index0, index1, index2]

end Cert.Kernel10Ideal.Product

namespace Cert.Proof.GateIn
open Idealize.ShloMosaic Idealize.ShloMosaic.TcCoe Idealize.ShloMosaic.Tactic Idealize.SL.Sem
open Idealize.ShloMosaic.StableHlo

/-- The kernel runs to the end and keeps its operands. -/
theorem frame_kernel : Cert.quiescent_Kernel10 := fun m ρ _ => Cert.Kernel10.Gen.frame m ρ

/-- So does the kernel over the extended reals. -/
theorem frame_ideal : Cert.quiescent_Kernel10Ideal := fun m ρ _ => Cert.Kernel10Ideal.Gen.frame m ρ

/-- So does the reference. -/
theorem frame_reference : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run (F := Ideal) m ρ)

/-- No operation of the kernel was replaced. -/
theorem preserves : Cert.preserves_Kernel10_Kernel10Ideal := trivial

open Cert.Kernel10Ideal.Product Cert.Proof.GateJoin in
/-- The reference's product is the same array of sums. -/
theorem value (h : Vec Ideal Cert.Reference10Ideal.S4096x2048 .bf16)
    (w : Vec Ideal Cert.Reference10Ideal.S4x2048x1536 .bf16) :
    Host.dotGeneral (F := Ideal) (φ₁ := .f32) (φ₂ := .f32)
      Cert.Reference10Ideal.dot_S4096x2048_S2048x6144_S4096x6144_1_0_0_1_n_n none
      (extf .f32 h Cert.Reference10Ideal.Gen.bitsLt_bf16_f32)
      (extf .f32 (joined w) Cert.Reference10Ideal.Gen.bitsLt_bf16_f32) = res h w := by
  funext i
  rw [eq_ix2 i]
  pointwise [joined_apply]
  rfl

open Cert.Kernel10Ideal.Product in
/-- Kernel and reference, started on the same operands, end with the same projection. -/
theorem algebraic : Cert.algebraic_Kernel10Ideal_Reference10Ideal := by
  intro m ρ m' ρ' _ hagree
  refine ⟨fun c => res (m ((c.tc : Thread _ Cert.Kernel10Ideal.τ).loc Cert.Kernel10Ideal.main_arg0))
      (m ((c.tc : Thread _ Cert.Kernel10Ideal.τ).loc Cert.Kernel10Ideal.main_arg1)),
    (θ_run Cert.Kernel10Ideal.defs _ _).mono (fun r h c => ⟨(h c).1.trans (final m c), (h c).2⟩)
      (Cert.Kernel10Ideal.Value.run_blocks m ρ), ?_⟩
  refine (θ_run Cert.Reference10Ideal.defs _ _).mono
    (fun r h c => ⟨(h c).1.trans ((value _ _).trans ?_), (h c).2⟩)
    (Cert.Reference10Ideal.Value.run (F := Ideal) m' ρ')
  obtain ⟨e0, e1⟩ := hagree c
  exact congrArg₂ res e0 e1

end Cert.Proof.GateIn

end
-- ==== Proof.MixerOut.lean ====
/-
  An output projection with its gated residual, read off its program and off the reference.

  The kernel writes two arrays in tiles of `1024 × 512`: the product of the mixer output with the
  output weights, and the residual stream plus the gate times that product.
-/

module

public import proofs.«01_k».proof.Defs
public import proofs.«01_k».proof.Proof.Gen.Kernel11.Frame
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Kernel11Ideal.Product
open Idealize.ShloMosaic Idealize.ShloMosaic.TcCoe Idealize.ShloMosaic.Tactic Idealize.SL.Sem
open Cert.Kernel11Ideal Cert.Kernel11Ideal.Gen Cert.Kernel11Ideal.Value

/-- The product, as an array. -/
def res (u : Vec Ideal S4096x2048 .bf16) (w : Vec Ideal S2048x2048 .bf16) :
    Vec Ideal S4096x2048 .f32 :=
  fun i => ∑ k : Fin 2048, u (ix2 (i 0) k) * w (ix2 k (i 1))

/-- The residual stream plus the gated product, as an array. -/
def resid (u : Vec Ideal S4096x2048 .bf16) (w : Vec Ideal S2048x2048 .bf16)
    (x : Vec Ideal S4096x2048 .f32) (g : Vec Ideal S1x2048 .f32) : Vec Ideal S4096x2048 .f32 :=
  fun i => x i + g (ix2 0 (i 1)) * res u w i

/-- The step's row block of the mixer output. -/
theorem index0 : ∀ t : Fin cfg0.N, win0_0.index t = ![t.val / 4, 0] :=
  (by decide +kernel : ∀ t : Fin grid0.N, _)

/-- The step's column block of the weights. -/
theorem index1 : ∀ t : Fin cfg0.N, win0_1.index t = ![0, t.val % 4] :=
  (by decide +kernel : ∀ t : Fin grid0.N, _)

/-- The step's tile of the residual stream. -/
theorem index2 : ∀ t : Fin cfg0.N, win0_2.index t = ![t.val / 4, t.val % 4] :=
  (by decide +kernel : ∀ t : Fin grid0.N, _)

/-- The step's columns of the gate. -/
theorem index3 : ∀ t : Fin cfg0.N, win0_3.index t = ![0, t.val % 4] :=
  (by decide +kernel : ∀ t : Fin grid0.N, _)

/-- The step's tile of the first result. -/
theorem index4 : ∀ t : Fin cfg0.N, win0_4.index t = ![t.val / 4, t.val % 4] :=
  (by decide +kernel : ∀ t : Fin grid0.N, _)

/-- The step's tile of the second result. -/
theorem index5 : ∀ t : Fin cfg0.N, win0_5.index t = ![t.val / 4, t.val % 4] :=
  (by decide +kernel : ∀ t : Fin grid0.N, _)

variable (m : (ℓ : Loc nD τ sig) → Buf (Elt Ideal) ℓ) (c : Dev nD)

/-- The first array the kernel leaves is the product. -/
theorem final : (dats m 0 c).arrAt 4 cfg0.N
    = res (m ((c : Thread nD τ).loc main_arg0)) (m ((c : Thread nD τ).loc main_arg1)) := by
  refine (dats m 0 c).arrAt_eq_of_covers 4 _ (by decide +kernel) fun t hf y => ?_
  blk_simp
  rw [after0_4]
  frame_out
  pointwise [k0_pay1, res]
  blk_point [iblk, V_main_arg0, V_main_arg1, index0, index1, index4]

/-- The second array the kernel leaves is the residual stream plus the gated product. -/
theorem final_resid : (dats m 0 c).arrAt 5 cfg0.N
    = resid (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, res, resid]
  blk_point [iblk, V_main_arg0, V_main_arg1, V_main_arg2, V_main_arg3, index0, index1, index2, index3, index5]

end Cert.Kernel11Ideal.Product

namespace Cert.Proof.MixerOut
open Idealize.ShloMosaic Idealize.ShloMosaic.TcCoe Idealize.ShloMosaic.Tactic Idealize.SL.Sem
open Idealize.ShloMosaic.StableHlo

/-- The kernel runs to the end and keeps its operands. -/
theorem frame_kernel : Cert.quiescent_Kernel11 := fun m ρ _ => Cert.Kernel11.Gen.frame m ρ

/-- So does the kernel over the extended reals. -/
theorem frame_ideal : Cert.quiescent_Kernel11Ideal := fun m ρ _ => Cert.Kernel11Ideal.Gen.frame m ρ

/-- So does the reference. -/
theorem frame_reference : Cert.quiescent_Reference11Ideal := fun m ρ _ =>
  (θ_run Cert.Reference11Ideal.defs _ _).mono
    (fun r h => ⟨fun c => (h c).2.2, sem_eq_zero_of_no_sems (by decide) r.2⟩)
    (Cert.Reference11Ideal.Value.run (F := Ideal) m ρ)

/-- No operation of the kernel was replaced. -/
theorem preserves : Cert.preserves_Kernel11_Kernel11Ideal := trivial

open Cert.Kernel11Ideal.Product in
/-- The reference's product is the same array of sums. -/
theorem value (u : Vec Ideal Cert.Reference11Ideal.S4096x2048 .bf16)
    (w : Vec Ideal Cert.Reference11Ideal.S2048x2048 .bf16) :
    Host.dotGeneral (F := Ideal) (φ₁ := .f32) (φ₂ := .f32)
      Cert.Reference11Ideal.dot_S4096x2048_S2048x2048_S4096x2048_1_0_0_1_n_n none
      (extf .f32 u Cert.Reference11Ideal.Gen.bitsLt_bf16_f32)
      (extf .f32 w Cert.Reference11Ideal.Gen.bitsLt_bf16_f32) = res u w := by
  funext i
  rw [eq_ix2 i]
  pointwise []
  rfl

open Cert.Kernel11Ideal.Product in
/-- The reference's gated residual is the same array. -/
theorem value_resid (y : Vec Ideal Cert.Reference11Ideal.S4096x2048 .f32)
    (u : Vec Ideal Cert.Reference11Ideal.S4096x2048 .bf16)
    (w : Vec Ideal Cert.Reference11Ideal.S2048x2048 .bf16)
    (x : Vec Ideal Cert.Reference11Ideal.S4096x2048 .f32)
    (g : Vec Ideal Cert.Reference11Ideal.S1x2048 .f32) (hy : y = res u w) :
    addf (F := Ideal) (φ := .f32) x (mulf (broadcastInDim Cert.Reference11Ideal.S4096x2048 ![0, 1]
      Cert.Reference11Ideal.Gen.bcast_S1x2048_S4096x2048_0_1 g) y) = resid u w x g := by
  subst hy
  funext i
  rw [eq_ix2 i]
  pointwise []
  rfl

open Cert.Kernel11Ideal.Product in
/-- Kernel and reference, started on the same operands, end with the same two arrays. -/
theorem algebraic : Cert.algebraic_Kernel11Ideal_Reference11Ideal := by
  intro m ρ m' ρ' _ hagree
  refine ⟨fun c => res (m ((c.tc : Thread _ Cert.Kernel11Ideal.τ).loc Cert.Kernel11Ideal.main_arg0))
      (m ((c.tc : Thread _ Cert.Kernel11Ideal.τ).loc Cert.Kernel11Ideal.main_arg1)),
    fun c => resid (m ((c.tc : Thread _ Cert.Kernel11Ideal.τ).loc Cert.Kernel11Ideal.main_arg0))
      (m ((c.tc : Thread _ Cert.Kernel11Ideal.τ).loc Cert.Kernel11Ideal.main_arg1))
      (m ((c.tc : Thread _ Cert.Kernel11Ideal.τ).loc Cert.Kernel11Ideal.main_arg2))
      (m ((c.tc : Thread _ Cert.Kernel11Ideal.τ).loc Cert.Kernel11Ideal.main_arg3)),
    (θ_run Cert.Kernel11Ideal.defs _ _).mono
      (fun r h c => ⟨(h c).1.trans (final m c), (h c).2.1.trans (final_resid m c), (h c).2.2⟩)
      (Cert.Kernel11Ideal.Value.run_blocks m ρ), ?_⟩
  refine (θ_run Cert.Reference11Ideal.defs _ _).mono
    (fun r h c => ⟨(h c).1.trans ((value _ _).trans ?_),
      (h c).2.1.trans ((value_resid _ _ _ _ _ (value _ _)).trans ?_), (h c).2.2⟩)
    (Cert.Reference11Ideal.Value.run (F := Ideal) m' ρ')
  · obtain ⟨e0, e1, e2, e3⟩ := hagree c
    exact congrArg₂ res e0 e1
  · obtain ⟨e0, e1, e2, e3⟩ := hagree c
    rw [e0, e1, e2, e3]

end Cert.Proof.MixerOut

end
-- ==== Proof.Adam.lean ====
/-
  One AdamW step on arrays of any shape.

  The step works entry by entry, so that it commutes with every reshape. The three functions below are
  its results.
-/

module

public import Idealize.ShloMosaic.Lib.Pipeline.ValueKit
public import Idealize.ShloMosaic.Lib.Pointwise

@[expose] public section

noncomputable section

namespace Cert.Proof.Adam
open Idealize.ShloMosaic Idealize.ShloMosaic.TcCoe Idealize.ShloMosaic.Tactic Idealize.SL.Sem
open Idealize.ShloMosaic.StableHlo

variable {s : Shape}

/-- The single-precision number with the given bits. -/
abbrev num (b : BitVec 32) : Ideal .f32 := Scalar.ofBits .f32 b

/-- The new first moment: `0.9` of the old one and `0.1` of the gradient. -/
def first (g m : Vec Ideal s .f32) : Vec Ideal s .f32 :=
  fun i => num 0x3F666666#32 * m i + num 0x3DCCCCCD#32 * g i

/-- The new second moment: `0.999` of the old one and `0.001` of the gradient's square. -/
def second (g v : Vec Ideal s .f32) : Vec Ideal s .f32 :=
  fun i => num 0x3F7FBE77#32 * v i + num 0x3A83126F#32 * (g i * g i)

/-- The weights' change: minus the learning rate times the corrected first moment over the root of
    the corrected second moment, plus the decay of the weights. -/
def delta (w g m v : Vec Ideal s .f32) : Vec Ideal s .f32 :=
  mulf (broadcast s (num 0xBA83126F#32))
    (addf (divf (divf (first g m) (broadcast s (num 0x3F26BD02#32)))
        (addf (sqrt (divf (second g v) (broadcast s (num 0x3C231ACC#32)))) (broadcast s (num 0x322BCC77#32))))
      (mulf (broadcast s (num 0x3C23D70A#32)) w))

end Cert.Proof.Adam

end
-- ==== Proof.AdamPlain.lean ====
/-
  The AdamW steps of the weights that are vectors or stacks of vectors: each is one block, taken as it is.
-/

module

public import proofs.«01_k».proof.Defs
public import proofs.«01_k».proof.Proof.Adam
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Value
public import proofs.«01_k».proof.Proof.Gen.Reference23Ideal.Run
public import Idealize.ShloMosaic.Lib.Quiescent

@[expose] public section

set_option maxRecDepth 16384

noncomputable section

open Idealize.ShloMosaic Idealize.ShloMosaic.TcCoe Idealize.SL.Sem Cert.Proof.Adam

/-! ## The scales of the layers' norms, `4 × 2048` -/

namespace Cert.Proof.AdamNorm

/-- The kernel runs to the end and keeps its operands. -/
theorem frame_kernel : Cert.quiescent_Kernel12 := fun m ρ _ => Cert.Kernel12.Gen.frame m ρ

/-- So does the kernel over the extended reals. -/
theorem frame_ideal : Cert.quiescent_Kernel12Ideal := fun m ρ _ => Cert.Kernel12Ideal.Gen.frame m ρ

/-- So does the reference. -/
theorem frame_reference : Cert.quiescent_Reference12Ideal := fun m ρ _ =>
  (θ_run Cert.Reference12Ideal.defs _ _).mono
    (fun r h => ⟨fun c => (h c).2.2.2, sem_eq_zero_of_no_sems (by decide) r.2⟩)
    (Cert.Reference12Ideal.Value.run (F := Ideal) m ρ)

/-- No operation of the kernel was replaced. -/
theorem preserves : Cert.preserves_Kernel12_Kernel12Ideal := trivial

/-- Kernel and reference, started on the same operands, end with the same three arrays. -/
theorem algebraic : Cert.algebraic_Kernel12Ideal_Reference12Ideal := by
  intro m ρ m' ρ' _ hagree
  refine ⟨fun c => delta (m (c.tc.loc Cert.Kernel12Ideal.main_arg0)) (m (c.tc.loc Cert.Kernel12Ideal.main_arg1))
      (m (c.tc.loc Cert.Kernel12Ideal.main_arg2)) (m (c.tc.loc Cert.Kernel12Ideal.main_arg3)),
    fun c => first (m (c.tc.loc Cert.Kernel12Ideal.main_arg1)) (m (c.tc.loc Cert.Kernel12Ideal.main_arg2)),
    fun c => second (m (c.tc.loc Cert.Kernel12Ideal.main_arg1)) (m (c.tc.loc Cert.Kernel12Ideal.main_arg3)),
    (θ_run Cert.Kernel12Ideal.defs _ _).mono
      (fun r h c => ⟨(h c).1.trans rfl, (h c).2.1.trans rfl, (h c).2.2.1.trans rfl, (h c).2.2.2⟩)
      (Cert.Kernel12Ideal.Value.run (F := Ideal) m ρ), ?_⟩
  refine (θ_run Cert.Reference12Ideal.defs _ _).mono
    (fun r h c => ?_) (Cert.Reference12Ideal.Value.run (F := Ideal) m' ρ')
  obtain ⟨e0, e1, e2, e3⟩ := hagree c
  refine ⟨(h c).1.trans ?_, (h c).2.1.trans ?_, (h c).2.2.1.trans ?_, (h c).2.2.2⟩
  · rw [e0, e1, e2, e3]
    rfl
  · rw [e1, e2]
    rfl
  · rw [e1, e3]
    rfl

end Cert.Proof.AdamNorm

/-! ## The modulation's bias, `4 × 6144` -/

namespace Cert.Proof.AdamModBias

/-- The kernel runs to the end and keeps its operands. -/
theorem frame_kernel : Cert.quiescent_Kernel13 := fun m ρ _ => Cert.Kernel13.Gen.frame m ρ

/-- So does the kernel over the extended reals. -/
theorem frame_ideal : Cert.quiescent_Kernel13Ideal := fun m ρ _ => Cert.Kernel13Ideal.Gen.frame m ρ

/-- So does the reference. -/
theorem frame_reference : Cert.quiescent_Reference13Ideal := fun m ρ _ =>
  (θ_run Cert.Reference13Ideal.defs _ _).mono
    (fun r h => ⟨fun c => (h c).2.2.2, sem_eq_zero_of_no_sems (by decide) r.2⟩)
    (Cert.Reference13Ideal.Value.run (F := Ideal) m ρ)

/-- No operation of the kernel was replaced. -/
theorem preserves : Cert.preserves_Kernel13_Kernel13Ideal := trivial

/-- Kernel and reference, started on the same operands, end with the same three arrays. -/
theorem algebraic : Cert.algebraic_Kernel13Ideal_Reference13Ideal := by
  intro m ρ m' ρ' _ hagree
  refine ⟨fun c => delta (m (c.tc.loc Cert.Kernel13Ideal.main_arg0)) (m (c.tc.loc Cert.Kernel13Ideal.main_arg1))
      (m (c.tc.loc Cert.Kernel13Ideal.main_arg2)) (m (c.tc.loc Cert.Kernel13Ideal.main_arg3)),
    fun c => first (m (c.tc.loc Cert.Kernel13Ideal.main_arg1)) (m (c.tc.loc Cert.Kernel13Ideal.main_arg2)),
    fun c => second (m (c.tc.loc Cert.Kernel13Ideal.main_arg1)) (m (c.tc.loc Cert.Kernel13Ideal.main_arg3)),
    (θ_run Cert.Kernel13Ideal.defs _ _).mono
      (fun r h c => ⟨(h c).1.trans rfl, (h c).2.1.trans rfl, (h c).2.2.1.trans rfl, (h c).2.2.2⟩)
      (Cert.Kernel13Ideal.Value.run (F := Ideal) m ρ), ?_⟩
  refine (θ_run Cert.Reference13Ideal.defs _ _).mono
    (fun r h c => ?_) (Cert.Reference13Ideal.Value.run (F := Ideal) m' ρ')
  obtain ⟨e0, e1, e2, e3⟩ := hagree c
  refine ⟨(h c).1.trans ?_, (h c).2.1.trans ?_, (h c).2.2.1.trans ?_, (h c).2.2.2⟩
  · rw [e0, e1, e2, e3]
    rfl
  · rw [e1, e2]
    rfl
  · rw [e1, e3]
    rfl

end Cert.Proof.AdamModBias

/-! ## The gating layer norm's scale or shift, `2 × 512` -/

namespace Cert.Proof.AdamLayerNorm

/-- The kernel runs to the end and keeps its operands. -/
theorem frame_kernel : Cert.quiescent_Kernel16 := fun m ρ _ => Cert.Kernel16.Gen.frame m ρ

/-- So does the kernel over the extended reals. -/
theorem frame_ideal : Cert.quiescent_Kernel16Ideal := fun m ρ _ => Cert.Kernel16Ideal.Gen.frame m ρ

/-- So does the reference. -/
theorem frame_reference : Cert.quiescent_Reference16Ideal := fun m ρ _ =>
  (θ_run Cert.Reference16Ideal.defs _ _).mono
    (fun r h => ⟨fun c => (h c).2.2.2, sem_eq_zero_of_no_sems (by decide) r.2⟩)
    (Cert.Reference16Ideal.Value.run (F := Ideal) m ρ)

/-- No operation of the kernel was replaced. -/
theorem preserves : Cert.preserves_Kernel16_Kernel16Ideal := trivial

/-- Kernel and reference, started on the same operands, end with the same three arrays. -/
theorem algebraic : Cert.algebraic_Kernel16Ideal_Reference16Ideal := by
  intro m ρ m' ρ' _ hagree
  refine ⟨fun c => delta (m (c.tc.loc Cert.Kernel16Ideal.main_arg0)) (m (c.tc.loc Cert.Kernel16Ideal.main_arg1))
      (m (c.tc.loc Cert.Kernel16Ideal.main_arg2)) (m (c.tc.loc Cert.Kernel16Ideal.main_arg3)),
    fun c => first (m (c.tc.loc Cert.Kernel16Ideal.main_arg1)) (m (c.tc.loc Cert.Kernel16Ideal.main_arg2)),
    fun c => second (m (c.tc.loc Cert.Kernel16Ideal.main_arg1)) (m (c.tc.loc Cert.Kernel16Ideal.main_arg3)),
    (θ_run Cert.Kernel16Ideal.defs _ _).mono
      (fun r h c => ⟨(h c).1.trans rfl, (h c).2.1.trans rfl, (h c).2.2.1.trans rfl, (h c).2.2.2⟩)
      (Cert.Kernel16Ideal.Value.run (F := Ideal) m ρ), ?_⟩
  refine (θ_run Cert.Reference16Ideal.defs _ _).mono
    (fun r h c => ?_) (Cert.Reference16Ideal.Value.run (F := Ideal) m' ρ')
  obtain ⟨e0, e1, e2, e3⟩ := hagree c
  refine ⟨(h c).1.trans ?_, (h c).2.1.trans ?_, (h c).2.2.1.trans ?_, (h c).2.2.2⟩
  · rw [e0, e1, e2, e3]
    rfl
  · rw [e1, e2]
    rfl
  · rw [e1, e3]
    rfl

end Cert.Proof.AdamLayerNorm

/-! ## The attention's sinks, `1 × 32` -/

namespace Cert.Proof.AdamSinks

/-- The kernel runs to the end and keeps its operands. -/
theorem frame_kernel : Cert.quiescent_Kernel21 := fun m ρ _ => Cert.Kernel21.Gen.frame m ρ

/-- So does the kernel over the extended reals. -/
theorem frame_ideal : Cert.quiescent_Kernel21Ideal := fun m ρ _ => Cert.Kernel21Ideal.Gen.frame m ρ

/-- So does the reference. -/
theorem frame_reference : Cert.quiescent_Reference21Ideal := fun m ρ _ =>
  (θ_run Cert.Reference21Ideal.defs _ _).mono
    (fun r h => ⟨fun c => (h c).2.2.2, sem_eq_zero_of_no_sems (by decide) r.2⟩)
    (Cert.Reference21Ideal.Value.run (F := Ideal) m ρ)

/-- No operation of the kernel was replaced. -/
theorem preserves : Cert.preserves_Kernel21_Kernel21Ideal := trivial

/-- Kernel and reference, started on the same operands, end with the same three arrays. -/
theorem algebraic : Cert.algebraic_Kernel21Ideal_Reference21Ideal := by
  intro m ρ m' ρ' _ hagree
  refine ⟨fun c => delta (m (c.tc.loc Cert.Kernel21Ideal.main_arg0)) (m (c.tc.loc Cert.Kernel21Ideal.main_arg1))
      (m (c.tc.loc Cert.Kernel21Ideal.main_arg2)) (m (c.tc.loc Cert.Kernel21Ideal.main_arg3)),
    fun c => first (m (c.tc.loc Cert.Kernel21Ideal.main_arg1)) (m (c.tc.loc Cert.Kernel21Ideal.main_arg2)),
    fun c => second (m (c.tc.loc Cert.Kernel21Ideal.main_arg1)) (m (c.tc.loc Cert.Kernel21Ideal.main_arg3)),
    (θ_run Cert.Kernel21Ideal.defs _ _).mono
      (fun r h c => ⟨(h c).1.trans rfl, (h c).2.1.trans rfl, (h c).2.2.1.trans rfl, (h c).2.2.2⟩)
      (Cert.Kernel21Ideal.Value.run (F := Ideal) m ρ), ?_⟩
  refine (θ_run Cert.Reference21Ideal.defs _ _).mono
    (fun r h c => ?_) (Cert.Reference21Ideal.Value.run (F := Ideal) m' ρ')
  obtain ⟨e0, e1, e2, e3⟩ := hagree c
  refine ⟨(h c).1.trans ?_, (h c).2.1.trans ?_, (h c).2.2.1.trans ?_, (h c).2.2.2⟩
  · rw [e0, e1, e2, e3]
    rfl
  · rw [e1, e2]
    rfl
  · rw [e1, e3]
    rfl

end Cert.Proof.AdamSinks

/-! ## The token shift's weights, `1 × 2096` -/

namespace Cert.Proof.AdamShift

/-- The kernel runs to the end and keeps its operands. -/
theorem frame_kernel : Cert.quiescent_Kernel22 := fun m ρ _ => Cert.Kernel22.Gen.frame m ρ

/-- So does the kernel over the extended reals. -/
theorem frame_ideal : Cert.quiescent_Kernel22Ideal := fun m ρ _ => Cert.Kernel22Ideal.Gen.frame m ρ

/-- So does the reference. -/
theorem frame_reference : Cert.quiescent_Reference22Ideal := fun m ρ _ =>
  (θ_run Cert.Reference22Ideal.defs _ _).mono
    (fun r h => ⟨fun c => (h c).2.2.2, sem_eq_zero_of_no_sems (by decide) r.2⟩)
    (Cert.Reference22Ideal.Value.run (F := Ideal) m ρ)

/-- No operation of the kernel was replaced. -/
theorem preserves : Cert.preserves_Kernel22_Kernel22Ideal := trivial

/-- Kernel and reference, started on the same operands, end with the same three arrays. -/
theorem algebraic : Cert.algebraic_Kernel22Ideal_Reference22Ideal := by
  intro m ρ m' ρ' _ hagree
  refine ⟨fun c => delta (m (c.tc.loc Cert.Kernel22Ideal.main_arg0)) (m (c.tc.loc Cert.Kernel22Ideal.main_arg1))
      (m (c.tc.loc Cert.Kernel22Ideal.main_arg2)) (m (c.tc.loc Cert.Kernel22Ideal.main_arg3)),
    fun c => first (m (c.tc.loc Cert.Kernel22Ideal.main_arg1)) (m (c.tc.loc Cert.Kernel22Ideal.main_arg2)),
    fun c => second (m (c.tc.loc Cert.Kernel22Ideal.main_arg1)) (m (c.tc.loc Cert.Kernel22Ideal.main_arg3)),
    (θ_run Cert.Kernel22Ideal.defs _ _).mono
      (fun r h c => ⟨(h c).1.trans rfl, (h c).2.1.trans rfl, (h c).2.2.1.trans rfl, (h c).2.2.2⟩)
      (Cert.Kernel22Ideal.Value.run (F := Ideal) m ρ), ?_⟩
  refine (θ_run Cert.Reference22Ideal.defs _ _).mono
    (fun r h c => ?_) (Cert.Reference22Ideal.Value.run (F := Ideal) m' ρ')
  obtain ⟨e0, e1, e2, e3⟩ := hagree c
  refine ⟨(h c).1.trans ?_, (h c).2.1.trans ?_, (h c).2.2.1.trans ?_, (h c).2.2.2⟩
  · rw [e0, e1, e2, e3]
    rfl
  · rw [e1, e2]
    rfl
  · rw [e1, e3]
    rfl

end Cert.Proof.AdamShift

/-! ## One vector of the RWKV mixer, `1 × 512` -/

namespace Cert.Proof.AdamVector

/-- The kernel runs to the end and keeps its operands. -/
theorem frame_kernel : Cert.quiescent_Kernel23 := fun m ρ _ => Cert.Kernel23.Gen.frame m ρ

/-- So does the kernel over the extended reals. -/
theorem frame_ideal : Cert.quiescent_Kernel23Ideal := fun m ρ _ => Cert.Kernel23Ideal.Gen.frame m ρ

/-- So does the reference. -/
theorem frame_reference : Cert.quiescent_Reference23Ideal := fun m ρ _ =>
  (θ_run Cert.Reference23Ideal.defs _ _).mono
    (fun r h => ⟨fun c => (h c).2.2.2, sem_eq_zero_of_no_sems (by decide) r.2⟩)
    (Cert.Reference23Ideal.Value.run (F := Ideal) m ρ)

/-- No operation of the kernel was replaced. -/
theorem preserves : Cert.preserves_Kernel23_Kernel23Ideal := trivial

/-- Kernel and reference, started on the same operands, end with the same three arrays. -/
theorem algebraic : Cert.algebraic_Kernel23Ideal_Reference23Ideal := by
  intro m ρ m' ρ' _ hagree
  refine ⟨fun c => delta (m (c.tc.loc Cert.Kernel23Ideal.main_arg0)) (m (c.tc.loc Cert.Kernel23Ideal.main_arg1))
      (m (c.tc.loc Cert.Kernel23Ideal.main_arg2)) (m (c.tc.loc Cert.Kernel23Ideal.main_arg3)),
    fun c => first (m (c.tc.loc Cert.Kernel23Ideal.main_arg1)) (m (c.tc.loc Cert.Kernel23Ideal.main_arg2)),
    fun c => second (m (c.tc.loc Cert.Kernel23Ideal.main_arg1)) (m (c.tc.loc Cert.Kernel23Ideal.main_arg3)),
    (θ_run Cert.Kernel23Ideal.defs _ _).mono
      (fun r h c => ⟨(h c).1.trans rfl, (h c).2.1.trans rfl, (h c).2.2.1.trans rfl, (h c).2.2.2⟩)
      (Cert.Kernel23Ideal.Value.run (F := Ideal) m ρ), ?_⟩
  refine (θ_run Cert.Reference23Ideal.defs _ _).mono
    (fun r h c => ?_) (Cert.Reference23Ideal.Value.run (F := Ideal) m' ρ')
  obtain ⟨e0, e1, e2, e3⟩ := hagree c
  refine ⟨(h c).1.trans ?_, (h c).2.1.trans ?_, (h c).2.2.1.trans ?_, (h c).2.2.2⟩
  · rw [e0, e1, e2, e3]
    rfl
  · rw [e1, e2]
    rfl
  · rw [e1, e3]
    rfl

end Cert.Proof.AdamVector

end
-- ==== Proof.AdamHeads.lean ====
/-
  The AdamW steps of the last norm's scale and of the heads' bonus.

  The kernel takes an array as a matrix with the same last axis, in blocks of rows.
-/

module

public import proofs.«01_k».proof.Defs
public import proofs.«01_k».proof.Proof.Adam
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel25.Frame
public import proofs.«01_k».proof.Proof.Gen.Kernel25Ideal.Value
public import proofs.«01_k».proof.Proof.Gen.Reference25Ideal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.ShloMosaic.Tactic Idealize.SL.Sem Cert.Proof.Adam

/-! ## The last norm's scale, `2048`, in one block -/

namespace Cert.Kernel14Ideal.Step
open Cert.Kernel14Ideal Cert.Kernel14Ideal.Gen

/-- At every step each window's block is the step's block of rows. -/
theorem index : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The kernel leaves the weights' change, the new first moment and the new second moment. -/
theorem final : (dats m 0 c).arrAt 4 cfg0.N = delta (V m c main_v0) (V m c main_v1) (V m c main_v2) (V m c main_v3)
    ∧ (dats m 0 c).arrAt 5 cfg0.N = first (V m c main_v1) (V m c main_v2)
    ∧ (dats m 0 c).arrAt 6 cfg0.N = second (V m c main_v1) (V m c main_v3) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
    obtain ⟨i0, i1, i2, i3, i4, i5, i6⟩ := index t <;> blk_simp
  · rw [after0_4]
    frame_out
    pointwise [k0_pay1, k0_pay2, k0_pay3, k0_pay4, first, second, delta]
    blk_point [iblk, i0, i1, i2, i3, i4]
  · rw [after0_5]
    frame_out
    pointwise [k0_pay1, k0_pay2, first]
    blk_point [iblk, i1, i2, i5]
  · rw [after0_6]
    frame_out
    pointwise [k0_pay1, k0_pay3, second]
    blk_point [iblk, i1, i3, i6]

end Cert.Kernel14Ideal.Step

namespace Cert.Proof.AdamLastNorm
open Cert.Kernel14Ideal.Step

/-- The kernel runs to the end and keeps its operands. -/
theorem frame_kernel : Cert.quiescent_Kernel14 := fun m ρ _ => Cert.Kernel14.Gen.frame m ρ

/-- So does the kernel over the extended reals. -/
theorem frame_ideal : Cert.quiescent_Kernel14Ideal := fun m ρ _ => Cert.Kernel14Ideal.Gen.frame m ρ

/-- So does the reference. -/
theorem frame_reference : Cert.quiescent_Reference14Ideal := fun m ρ _ =>
  (θ_run Cert.Reference14Ideal.defs _ _).mono
    (fun r h => ⟨fun c => (h c).2.2.2, sem_eq_zero_of_no_sems (by decide) r.2⟩)
    (Cert.Reference14Ideal.Value.run (F := Ideal) m ρ)

/-- No operation of the kernel was replaced. -/
theorem preserves : Cert.preserves_Kernel14_Kernel14Ideal := trivial

/-- Kernel and reference, started on the same operands, end with the same three arrays. -/
theorem algebraic : Cert.algebraic_Kernel14Ideal_Reference14Ideal := by
  intro m ρ m' ρ' _ hagree
  refine ⟨_, _, _, (θ_run Cert.Kernel14Ideal.defs _ _).mono
      (fun r h c => ⟨(h c).1.trans (final m c).1, (h c).2.1.trans (final m c).2.1,
        (h c).2.2.1.trans (final m c).2.2, (h c).2.2.2⟩)
      (Cert.Kernel14Ideal.Value.run_blocks m ρ), ?_⟩
  refine (θ_run Cert.Reference14Ideal.defs _ _).mono
    (fun r h c => ?_) (Cert.Reference14Ideal.Value.run (F := Ideal) m' ρ')
  obtain ⟨e0, e1, e2, e3⟩ := hagree c
  refine ⟨(h c).1.trans ?_, (h c).2.1.trans ?_, (h c).2.2.1.trans ?_, (h c).2.2.2⟩
  · rw [e0, e1, e2, e3]
    rfl
  · rw [e1, e2]
    rfl
  · rw [e1, e3]
    rfl

end Cert.Proof.AdamLastNorm

/-! ## The bonus of the heads, `1 × 32 × 64`, in one block -/

namespace Cert.Kernel25Ideal.Step
open Cert.Kernel25Ideal Cert.Kernel25Ideal.Gen

/-- At every step each window's block is the step's block of rows. -/
theorem index : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The kernel leaves the weights' change, the new first moment and the new second moment. -/
theorem final : (dats m 0 c).arrAt 4 cfg0.N = delta (V m c main_v0) (V m c main_v1) (V m c main_v2) (V m c main_v3)
    ∧ (dats m 0 c).arrAt 5 cfg0.N = first (V m c main_v1) (V m c main_v2)
    ∧ (dats m 0 c).arrAt 6 cfg0.N = second (V m c main_v1) (V m c main_v3) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
    obtain ⟨i0, i1, i2, i3, i4, i5, i6⟩ := index t <;> blk_simp
  · rw [after0_4]
    frame_out
    pointwise [k0_pay1, k0_pay2, k0_pay3, k0_pay4, first, second, delta]
    blk_point [iblk, i0, i1, i2, i3, i4]
  · rw [after0_5]
    frame_out
    pointwise [k0_pay1, k0_pay2, first]
    blk_point [iblk, i1, i2, i5]
  · rw [after0_6]
    frame_out
    pointwise [k0_pay1, k0_pay3, second]
    blk_point [iblk, i1, i3, i6]

end Cert.Kernel25Ideal.Step

namespace Cert.Proof.AdamBonus
open Cert.Kernel25Ideal.Step

/-- The kernel runs to the end and keeps its operands. -/
theorem frame_kernel : Cert.quiescent_Kernel25 := fun m ρ _ => Cert.Kernel25.Gen.frame m ρ

/-- So does the kernel over the extended reals. -/
theorem frame_ideal : Cert.quiescent_Kernel25Ideal := fun m ρ _ => Cert.Kernel25Ideal.Gen.frame m ρ

/-- So does the reference. -/
theorem frame_reference : Cert.quiescent_Reference25Ideal := fun m ρ _ =>
  (θ_run Cert.Reference25Ideal.defs _ _).mono
    (fun r h => ⟨fun c => (h c).2.2.2, sem_eq_zero_of_no_sems (by decide) r.2⟩)
    (Cert.Reference25Ideal.Value.run (F := Ideal) m ρ)

/-- No operation of the kernel was replaced. -/
theorem preserves : Cert.preserves_Kernel25_Kernel25Ideal := trivial

/-- Kernel and reference, started on the same operands, end with the same three arrays. -/
theorem algebraic : Cert.algebraic_Kernel25Ideal_Reference25Ideal := by
  intro m ρ m' ρ' _ hagree
  refine ⟨_, _, _, (θ_run Cert.Kernel25Ideal.defs _ _).mono
      (fun r h c => ⟨(h c).1.trans (final m c).1, (h c).2.1.trans (final m c).2.1,
        (h c).2.2.1.trans (final m c).2.2, (h c).2.2.2⟩)
      (Cert.Kernel25Ideal.Value.run_blocks m ρ), ?_⟩
  refine (θ_run Cert.Reference25Ideal.defs _ _).mono
    (fun r h c => ?_) (Cert.Reference25Ideal.Value.run (F := Ideal) m' ρ')
  obtain ⟨e0, e1, e2, e3⟩ := hagree c
  refine ⟨(h c).1.trans ?_, (h c).2.1.trans ?_, (h c).2.2.1.trans ?_, (h c).2.2.2⟩
  · rw [e0, e1, e2, e3]
    rfl
  · rw [e1, e2]
    rfl
  · rw [e1, e3]
    rfl

end Cert.Proof.AdamBonus

end
-- ==== Proof.AdamOut.lean ====
/-
  The AdamW steps of the mixers' output weights.

  The kernel takes an array as a matrix with the same last axis, in blocks of rows.
-/

module

public import proofs.«01_k».proof.Defs
public import proofs.«01_k».proof.Proof.Adam
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel20.Frame
public import proofs.«01_k».proof.Proof.Gen.Kernel20Ideal.Value
public import proofs.«01_k».proof.Proof.Gen.Reference20Ideal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.ShloMosaic.Tactic Idealize.SL.Sem Cert.Proof.Adam

/-! ## The gating output weights, `2 × 512 × 2048`, in 8 blocks -/

namespace Cert.Kernel15Ideal.Step
open Cert.Kernel15Ideal Cert.Kernel15Ideal.Gen

/-- At every step each window's block is the step's block of rows. -/
theorem index : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The kernel leaves the weights' change, the new first moment and the new second moment. -/
theorem final : (dats m 0 c).arrAt 4 cfg0.N = delta (V m c main_v0) (V m c main_v1) (V m c main_v2) (V m c main_v3)
    ∧ (dats m 0 c).arrAt 5 cfg0.N = first (V m c main_v1) (V m c main_v2)
    ∧ (dats m 0 c).arrAt 6 cfg0.N = second (V m c main_v1) (V m c main_v3) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
    obtain ⟨i0, i1, i2, i3, i4, i5, i6⟩ := index t <;> blk_simp
  · rw [after0_4]
    frame_out
    pointwise [k0_pay1, k0_pay2, k0_pay3, k0_pay4, first, second, delta]
    blk_point [iblk, i0, i1, i2, i3, i4]
  · rw [after0_5]
    frame_out
    pointwise [k0_pay1, k0_pay2, first]
    blk_point [iblk, i1, i2, i5]
  · rw [after0_6]
    frame_out
    pointwise [k0_pay1, k0_pay3, second]
    blk_point [iblk, i1, i3, i6]

end Cert.Kernel15Ideal.Step

namespace Cert.Proof.AdamGateOut
open Cert.Kernel15Ideal.Step

/-- The kernel runs to the end and keeps its operands. -/
theorem frame_kernel : Cert.quiescent_Kernel15 := fun m ρ _ => Cert.Kernel15.Gen.frame m ρ

/-- So does the kernel over the extended reals. -/
theorem frame_ideal : Cert.quiescent_Kernel15Ideal := fun m ρ _ => Cert.Kernel15Ideal.Gen.frame m ρ

/-- So does the reference. -/
theorem frame_reference : Cert.quiescent_Reference15Ideal := fun m ρ _ =>
  (θ_run Cert.Reference15Ideal.defs _ _).mono
    (fun r h => ⟨fun c => (h c).2.2.2, sem_eq_zero_of_no_sems (by decide) r.2⟩)
    (Cert.Reference15Ideal.Value.run (F := Ideal) m ρ)

/-- No operation of the kernel was replaced. -/
theorem preserves : Cert.preserves_Kernel15_Kernel15Ideal := trivial

/-- Kernel and reference, started on the same operands, end with the same three arrays. -/
theorem algebraic : Cert.algebraic_Kernel15Ideal_Reference15Ideal := by
  intro m ρ m' ρ' _ hagree
  refine ⟨_, _, _, (θ_run Cert.Kernel15Ideal.defs _ _).mono
      (fun r h c => ⟨(h c).1.trans (final m c).1, (h c).2.1.trans (final m c).2.1,
        (h c).2.2.1.trans (final m c).2.2, (h c).2.2.2⟩)
      (Cert.Kernel15Ideal.Value.run_blocks m ρ), ?_⟩
  refine (θ_run Cert.Reference15Ideal.defs _ _).mono
    (fun r h c => ?_) (Cert.Reference15Ideal.Value.run (F := Ideal) m' ρ')
  obtain ⟨e0, e1, e2, e3⟩ := hagree c
  refine ⟨(h c).1.trans ?_, (h c).2.1.trans ?_, (h c).2.2.1.trans ?_, (h c).2.2.2⟩
  · rw [e0, e1, e2, e3]
    rfl
  · rw [e1, e2]
    rfl
  · rw [e1, e3]
    rfl

end Cert.Proof.AdamGateOut

/-! ## The attention's or the RWKV output weights, `1 × 512 × 2048`, in 4 blocks -/

namespace Cert.Kernel20Ideal.Step
open Cert.Kernel20Ideal Cert.Kernel20Ideal.Gen

/-- At every step each window's block is the step's block of rows. -/
theorem index : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The kernel leaves the weights' change, the new first moment and the new second moment. -/
theorem final : (dats m 0 c).arrAt 4 cfg0.N = delta (V m c main_v0) (V m c main_v1) (V m c main_v2) (V m c main_v3)
    ∧ (dats m 0 c).arrAt 5 cfg0.N = first (V m c main_v1) (V m c main_v2)
    ∧ (dats m 0 c).arrAt 6 cfg0.N = second (V m c main_v1) (V m c main_v3) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
    obtain ⟨i0, i1, i2, i3, i4, i5, i6⟩ := index t <;> blk_simp
  · rw [after0_4]
    frame_out
    pointwise [k0_pay1, k0_pay2, k0_pay3, k0_pay4, first, second, delta]
    blk_point [iblk, i0, i1, i2, i3, i4]
  · rw [after0_5]
    frame_out
    pointwise [k0_pay1, k0_pay2, first]
    blk_point [iblk, i1, i2, i5]
  · rw [after0_6]
    frame_out
    pointwise [k0_pay1, k0_pay3, second]
    blk_point [iblk, i1, i3, i6]

end Cert.Kernel20Ideal.Step

namespace Cert.Proof.AdamMixerOut
open Cert.Kernel20Ideal.Step

/-- The kernel runs to the end and keeps its operands. -/
theorem frame_kernel : Cert.quiescent_Kernel20 := fun m ρ _ => Cert.Kernel20.Gen.frame m ρ

/-- So does the kernel over the extended reals. -/
theorem frame_ideal : Cert.quiescent_Kernel20Ideal := fun m ρ _ => Cert.Kernel20Ideal.Gen.frame m ρ

/-- So does the reference. -/
theorem frame_reference : Cert.quiescent_Reference20Ideal := fun m ρ _ =>
  (θ_run Cert.Reference20Ideal.defs _ _).mono
    (fun r h => ⟨fun c => (h c).2.2.2, sem_eq_zero_of_no_sems (by decide) r.2⟩)
    (Cert.Reference20Ideal.Value.run (F := Ideal) m ρ)

/-- No operation of the kernel was replaced. -/
theorem preserves : Cert.preserves_Kernel20_Kernel20Ideal := trivial

/-- Kernel and reference, started on the same operands, end with the same three arrays. -/
theorem algebraic : Cert.algebraic_Kernel20Ideal_Reference20Ideal := by
  intro m ρ m' ρ' _ hagree
  refine ⟨_, _, _, (θ_run Cert.Kernel20Ideal.defs _ _).mono
      (fun r h c => ⟨(h c).1.trans (final m c).1, (h c).2.1.trans (final m c).2.1,
        (h c).2.2.1.trans (final m c).2.2, (h c).2.2.2⟩)
      (Cert.Kernel20Ideal.Value.run_blocks m ρ), ?_⟩
  refine (θ_run Cert.Reference20Ideal.defs _ _).mono
    (fun r h c => ?_) (Cert.Reference20Ideal.Value.run (F := Ideal) m' ρ')
  obtain ⟨e0, e1, e2, e3⟩ := hagree c
  refine ⟨(h c).1.trans ?_, (h c).2.1.trans ?_, (h c).2.2.1.trans ?_, (h c).2.2.2⟩
  · rw [e0, e1, e2, e3]
    rfl
  · rw [e1, e2]
    rfl
  · rw [e1, e3]
    rfl

end Cert.Proof.AdamMixerOut

end
-- ==== Proof.AdamSpatial.lean ====
/-
  The AdamW steps of the gating mix's weights and bias.

  The kernel takes an array as a matrix with the same last axis, in blocks of rows.
-/

module

public import proofs.«01_k».proof.Defs
public import proofs.«01_k».proof.Proof.Adam
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.ShloMosaic.Tactic Idealize.SL.Sem Cert.Proof.Adam

/-! ## The weights, `2 × 16 × 128 × 128`, in 2 blocks -/

namespace Cert.Kernel17Ideal.Step
open Cert.Kernel17Ideal Cert.Kernel17Ideal.Gen

/-- At every step each window's block is the step's block of rows. -/
theorem index : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The kernel leaves the weights' change, the new first moment and the new second moment. -/
theorem final : (dats m 0 c).arrAt 4 cfg0.N = delta (V m c main_v0) (V m c main_v1) (V m c main_v2) (V m c main_v3)
    ∧ (dats m 0 c).arrAt 5 cfg0.N = first (V m c main_v1) (V m c main_v2)
    ∧ (dats m 0 c).arrAt 6 cfg0.N = second (V m c main_v1) (V m c main_v3) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
    obtain ⟨i0, i1, i2, i3, i4, i5, i6⟩ := index t <;> blk_simp
  · rw [after0_4]
    frame_out
    pointwise [k0_pay1, k0_pay2, k0_pay3, k0_pay4, first, second, delta]
    blk_point [iblk, i0, i1, i2, i3, i4]
  · rw [after0_5]
    frame_out
    pointwise [k0_pay1, k0_pay2, first]
    blk_point [iblk, i1, i2, i5]
  · rw [after0_6]
    frame_out
    pointwise [k0_pay1, k0_pay3, second]
    blk_point [iblk, i1, i3, i6]

end Cert.Kernel17Ideal.Step

namespace Cert.Proof.AdamMixWeights
open Cert.Kernel17Ideal.Step

/-- The kernel runs to the end and keeps its operands. -/
theorem frame_kernel : Cert.quiescent_Kernel17 := fun m ρ _ => Cert.Kernel17.Gen.frame m ρ

/-- So does the kernel over the extended reals. -/
theorem frame_ideal : Cert.quiescent_Kernel17Ideal := fun m ρ _ => Cert.Kernel17Ideal.Gen.frame m ρ

/-- So does the reference. -/
theorem frame_reference : Cert.quiescent_Reference17Ideal := fun m ρ _ =>
  (θ_run Cert.Reference17Ideal.defs _ _).mono
    (fun r h => ⟨fun c => (h c).2.2.2, sem_eq_zero_of_no_sems (by decide) r.2⟩)
    (Cert.Reference17Ideal.Value.run (F := Ideal) m ρ)

/-- No operation of the kernel was replaced. -/
theorem preserves : Cert.preserves_Kernel17_Kernel17Ideal := trivial

/-- Kernel and reference, started on the same operands, end with the same three arrays. -/
theorem algebraic : Cert.algebraic_Kernel17Ideal_Reference17Ideal := by
  intro m ρ m' ρ' _ hagree
  refine ⟨_, _, _, (θ_run Cert.Kernel17Ideal.defs _ _).mono
      (fun r h c => ⟨(h c).1.trans (final m c).1, (h c).2.1.trans (final m c).2.1,
        (h c).2.2.1.trans (final m c).2.2, (h c).2.2.2⟩)
      (Cert.Kernel17Ideal.Value.run_blocks m ρ), ?_⟩
  refine (θ_run Cert.Reference17Ideal.defs _ _).mono
    (fun r h c => ?_) (Cert.Reference17Ideal.Value.run (F := Ideal) m' ρ')
  obtain ⟨e0, e1, e2, e3⟩ := hagree c
  refine ⟨(h c).1.trans ?_, (h c).2.1.trans ?_, (h c).2.2.1.trans ?_, (h c).2.2.2⟩
  · rw [e0, e1, e2, e3]
    rfl
  · rw [e1, e2]
    rfl
  · rw [e1, e3]
    rfl

end Cert.Proof.AdamMixWeights

/-! ## The bias, `2 × 16 × 128`, in one block -/

namespace Cert.Kernel18Ideal.Step
open Cert.Kernel18Ideal Cert.Kernel18Ideal.Gen

/-- At every step each window's block is the step's block of rows. -/
theorem index : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The kernel leaves the weights' change, the new first moment and the new second moment. -/
theorem final : (dats m 0 c).arrAt 4 cfg0.N = delta (V m c main_v0) (V m c main_v1) (V m c main_v2) (V m c main_v3)
    ∧ (dats m 0 c).arrAt 5 cfg0.N = first (V m c main_v1) (V m c main_v2)
    ∧ (dats m 0 c).arrAt 6 cfg0.N = second (V m c main_v1) (V m c main_v3) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
    obtain ⟨i0, i1, i2, i3, i4, i5, i6⟩ := index t <;> blk_simp
  · rw [after0_4]
    frame_out
    pointwise [k0_pay1, k0_pay2, k0_pay3, k0_pay4, first, second, delta]
    blk_point [iblk, i0, i1, i2, i3, i4]
  · rw [after0_5]
    frame_out
    pointwise [k0_pay1, k0_pay2, first]
    blk_point [iblk, i1, i2, i5]
  · rw [after0_6]
    frame_out
    pointwise [k0_pay1, k0_pay3, second]
    blk_point [iblk, i1, i3, i6]

end Cert.Kernel18Ideal.Step

namespace Cert.Proof.AdamMixBias
open Cert.Kernel18Ideal.Step

/-- The kernel runs to the end and keeps its operands. -/
theorem frame_kernel : Cert.quiescent_Kernel18 := fun m ρ _ => Cert.Kernel18.Gen.frame m ρ

/-- So does the kernel over the extended reals. -/
theorem frame_ideal : Cert.quiescent_Kernel18Ideal := fun m ρ _ => Cert.Kernel18Ideal.Gen.frame m ρ

/-- So does the reference. -/
theorem frame_reference : Cert.quiescent_Reference18Ideal := fun m ρ _ =>
  (θ_run Cert.Reference18Ideal.defs _ _).mono
    (fun r h => ⟨fun c => (h c).2.2.2, sem_eq_zero_of_no_sems (by decide) r.2⟩)
    (Cert.Reference18Ideal.Value.run (F := Ideal) m ρ)

/-- No operation of the kernel was replaced. -/
theorem preserves : Cert.preserves_Kernel18_Kernel18Ideal := trivial

/-- Kernel and reference, started on the same operands, end with the same three arrays. -/
theorem algebraic : Cert.algebraic_Kernel18Ideal_Reference18Ideal := by
  intro m ρ m' ρ' _ hagree
  refine ⟨_, _, _, (θ_run Cert.Kernel18Ideal.defs _ _).mono
      (fun r h c => ⟨(h c).1.trans (final m c).1, (h c).2.1.trans (final m c).2.1,
        (h c).2.2.1.trans (final m c).2.2, (h c).2.2.2⟩)
      (Cert.Kernel18Ideal.Value.run_blocks m ρ), ?_⟩
  refine (θ_run Cert.Reference18Ideal.defs _ _).mono
    (fun r h c => ?_) (Cert.Reference18Ideal.Value.run (F := Ideal) m' ρ')
  obtain ⟨e0, e1, e2, e3⟩ := hagree c
  refine ⟨(h c).1.trans ?_, (h c).2.1.trans ?_, (h c).2.2.1.trans ?_, (h c).2.2.2⟩
  · rw [e0, e1, e2, e3]
    rfl
  · rw [e1, e2]
    rfl
  · rw [e1, e3]
    rfl

end Cert.Proof.AdamMixBias

end
-- ==== Proof.AdamIn.lean ====
/-
  The AdamW steps of the attention's input weights and of a low-rank product.

  The kernel takes an array as a matrix with the same last axis, in blocks of rows.
-/

module

public import proofs.«01_k».proof.Defs
public import proofs.«01_k».proof.Proof.Adam
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel24.Frame
public import proofs.«01_k».proof.Proof.Gen.Kernel24Ideal.Value
public import proofs.«01_k».proof.Proof.Gen.Reference24Ideal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.ShloMosaic.Tactic Idealize.SL.Sem Cert.Proof.Adam

/-! ## The attention's input weights, `1 × 2048 × 1152`, in 16 blocks -/

namespace Cert.Kernel19Ideal.Step
open Cert.Kernel19Ideal Cert.Kernel19Ideal.Gen

/-- At every step each window's block is the step's block of rows. -/
theorem index : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The kernel leaves the weights' change, the new first moment and the new second moment. -/
theorem final : (dats m 0 c).arrAt 4 cfg0.N = delta (V m c main_v0) (V m c main_v1) (V m c main_v2) (V m c main_v3)
    ∧ (dats m 0 c).arrAt 5 cfg0.N = first (V m c main_v1) (V m c main_v2)
    ∧ (dats m 0 c).arrAt 6 cfg0.N = second (V m c main_v1) (V m c main_v3) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
    obtain ⟨i0, i1, i2, i3, i4, i5, i6⟩ := index t <;> blk_simp
  · rw [after0_4]
    frame_out
    pointwise [k0_pay1, k0_pay2, k0_pay3, k0_pay4, first, second, delta]
    blk_point [iblk, i0, i1, i2, i3, i4]
  · rw [after0_5]
    frame_out
    pointwise [k0_pay1, k0_pay2, first]
    blk_point [iblk, i1, i2, i5]
  · rw [after0_6]
    frame_out
    pointwise [k0_pay1, k0_pay3, second]
    blk_point [iblk, i1, i3, i6]

end Cert.Kernel19Ideal.Step

namespace Cert.Proof.AdamAttnIn
open Cert.Kernel19Ideal.Step

/-- The kernel runs to the end and keeps its operands. -/
theorem frame_kernel : Cert.quiescent_Kernel19 := fun m ρ _ => Cert.Kernel19.Gen.frame m ρ

/-- So does the kernel over the extended reals. -/
theorem frame_ideal : Cert.quiescent_Kernel19Ideal := fun m ρ _ => Cert.Kernel19Ideal.Gen.frame m ρ

/-- So does the reference. -/
theorem frame_reference : Cert.quiescent_Reference19Ideal := fun m ρ _ =>
  (θ_run Cert.Reference19Ideal.defs _ _).mono
    (fun r h => ⟨fun c => (h c).2.2.2, sem_eq_zero_of_no_sems (by decide) r.2⟩)
    (Cert.Reference19Ideal.Value.run (F := Ideal) m ρ)

/-- No operation of the kernel was replaced. -/
theorem preserves : Cert.preserves_Kernel19_Kernel19Ideal := trivial

/-- Kernel and reference, started on the same operands, end with the same three arrays. -/
theorem algebraic : Cert.algebraic_Kernel19Ideal_Reference19Ideal := by
  intro m ρ m' ρ' _ hagree
  refine ⟨_, _, _, (θ_run Cert.Kernel19Ideal.defs _ _).mono
      (fun r h c => ⟨(h c).1.trans (final m c).1, (h c).2.1.trans (final m c).2.1,
        (h c).2.2.1.trans (final m c).2.2, (h c).2.2.2⟩)
      (Cert.Kernel19Ideal.Value.run_blocks m ρ), ?_⟩
  refine (θ_run Cert.Reference19Ideal.defs _ _).mono
    (fun r h c => ?_) (Cert.Reference19Ideal.Value.run (F := Ideal) m' ρ')
  obtain ⟨e0, e1, e2, e3⟩ := hagree c
  refine ⟨(h c).1.trans ?_, (h c).2.1.trans ?_, (h c).2.2.1.trans ?_, (h c).2.2.2⟩
  · rw [e0, e1, e2, e3]
    rfl
  · rw [e1, e2]
    rfl
  · rw [e1, e3]
    rfl

end Cert.Proof.AdamAttnIn

/-! ## A low-rank product's weights, `1 × 96 × 512`, in one block -/

namespace Cert.Kernel24Ideal.Step
open Cert.Kernel24Ideal Cert.Kernel24Ideal.Gen

/-- At every step each window's block is the step's block of rows. -/
theorem index : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The kernel leaves the weights' change, the new first moment and the new second moment. -/
theorem final : (dats m 0 c).arrAt 4 cfg0.N = delta (V m c main_v0) (V m c main_v1) (V m c main_v2) (V m c main_v3)
    ∧ (dats m 0 c).arrAt 5 cfg0.N = first (V m c main_v1) (V m c main_v2)
    ∧ (dats m 0 c).arrAt 6 cfg0.N = second (V m c main_v1) (V m c main_v3) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
    obtain ⟨i0, i1, i2, i3, i4, i5, i6⟩ := index t <;> blk_simp
  · rw [after0_4]
    frame_out
    pointwise [k0_pay1, k0_pay2, k0_pay3, k0_pay4, first, second, delta]
    blk_point [iblk, i0, i1, i2, i3, i4]
  · rw [after0_5]
    frame_out
    pointwise [k0_pay1, k0_pay2, first]
    blk_point [iblk, i1, i2, i5]
  · rw [after0_6]
    frame_out
    pointwise [k0_pay1, k0_pay3, second]
    blk_point [iblk, i1, i3, i6]

end Cert.Kernel24Ideal.Step

namespace Cert.Proof.AdamLora
open Cert.Kernel24Ideal.Step

/-- The kernel runs to the end and keeps its operands. -/
theorem frame_kernel : Cert.quiescent_Kernel24 := fun m ρ _ => Cert.Kernel24.Gen.frame m ρ

/-- So does the kernel over the extended reals. -/
theorem frame_ideal : Cert.quiescent_Kernel24Ideal := fun m ρ _ => Cert.Kernel24Ideal.Gen.frame m ρ

/-- So does the reference. -/
theorem frame_reference : Cert.quiescent_Reference24Ideal := fun m ρ _ =>
  (θ_run Cert.Reference24Ideal.defs _ _).mono
    (fun r h => ⟨fun c => (h c).2.2.2, sem_eq_zero_of_no_sems (by decide) r.2⟩)
    (Cert.Reference24Ideal.Value.run (F := Ideal) m ρ)

/-- No operation of the kernel was replaced. -/
theorem preserves : Cert.preserves_Kernel24_Kernel24Ideal := trivial

/-- Kernel and reference, started on the same operands, end with the same three arrays. -/
theorem algebraic : Cert.algebraic_Kernel24Ideal_Reference24Ideal := by
  intro m ρ m' ρ' _ hagree
  refine ⟨_, _, _, (θ_run Cert.Kernel24Ideal.defs _ _).mono
      (fun r h c => ⟨(h c).1.trans (final m c).1, (h c).2.1.trans (final m c).2.1,
        (h c).2.2.1.trans (final m c).2.2, (h c).2.2.2⟩)
      (Cert.Kernel24Ideal.Value.run_blocks m ρ), ?_⟩
  refine (θ_run Cert.Reference24Ideal.defs _ _).mono
    (fun r h c => ?_) (Cert.Reference24Ideal.Value.run (F := Ideal) m' ρ')
  obtain ⟨e0, e1, e2, e3⟩ := hagree c
  refine ⟨(h c).1.trans ?_, (h c).2.1.trans ?_, (h c).2.2.1.trans ?_, (h c).2.2.2⟩
  · rw [e0, e1, e2, e3]
    rfl
  · rw [e1, e2]
    rfl
  · rw [e1, e3]
    rfl

end Cert.Proof.AdamLora

end
-- ==== Proof.ModWeights.lean ====
/-
  The gradient of the modulation's weights, read off its program and off the reference.

  The kernel takes the conditioning vectors of the eight devices through silu and multiplies them with
  their modulations' gradients, layer by layer, in blocks of 512 rows.
-/

module

public import proofs.«01_k».proof.Defs
public import proofs.«01_k».proof.Proof.Gen.Kernel26.Frame
public import proofs.«01_k».proof.Proof.Gen.Kernel26Ideal.Value
public import proofs.«01_k».proof.Proof.Gen.Reference26Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Kernel26Ideal.Product
open Idealize.ShloMosaic Idealize.ShloMosaic.TcCoe Idealize.ShloMosaic.Tactic Idealize.SL.Sem
open Cert.Kernel26Ideal Cert.Kernel26Ideal.Gen Cert.Kernel26Ideal.Value

/-- The weights' gradient, as an array: a sum over the devices. -/
def res (a : Vec Ideal S8x2048 .f32) (d : Vec Ideal S4x8x1536 .f32) : Vec Ideal S4x2048x1536 .f32 :=
  fun i => ∑ b : Fin 8, (a (ix2 b (i 1)) * FloatOps.logistic (F := Ideal) (φ := .f32) (a (ix2 b (i 1))))
    * d (ix3 (i 0) b (i 2))

/-- The step's columns of the conditioning vectors. -/
theorem index0 : ∀ t : Fin cfg0.N, win0_0.index t = ![0, t.val % 4] :=
  (by decide +kernel : ∀ t : Fin grid0.N, _)

/-- The step's layer of the modulations' gradients. -/
theorem index1 : ∀ t : Fin cfg0.N, win0_1.index t = ![t.val / 4, 0, 0] :=
  (by decide +kernel : ∀ t : Fin grid0.N, _)

/-- The step's block of the result. -/
theorem index2 : ∀ t : Fin cfg0.N, win0_2.index t = ![t.val / 4, t.val % 4, 0] :=
  (by decide +kernel : ∀ t : Fin grid0.N, _)

variable (m : (ℓ : Loc nD τ sig) → Buf (Elt Ideal) ℓ) (c : Dev nD)

/-- The array the kernel leaves is the weights' gradient. -/
theorem final : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, res]
  blk_point [iblk, V_main_arg0, V_main_arg1, index0, index1, index2]

end Cert.Kernel26Ideal.Product

namespace Cert.Proof.ModWeights
open Idealize.ShloMosaic Idealize.ShloMosaic.TcCoe Idealize.ShloMosaic.Tactic Idealize.SL.Sem
open Idealize.ShloMosaic.StableHlo

/-- The kernel runs to the end and keeps its operands. -/
theorem frame_kernel : Cert.quiescent_Kernel26 := fun m ρ _ => Cert.Kernel26.Gen.frame m ρ

/-- So does the kernel over the extended reals. -/
theorem frame_ideal : Cert.quiescent_Kernel26Ideal := fun m ρ _ => Cert.Kernel26Ideal.Gen.frame m ρ

/-- So does the reference. -/
theorem frame_reference : Cert.quiescent_Reference26Ideal := fun m ρ _ =>
  (θ_run Cert.Reference26Ideal.defs _ _).mono
    (fun r h => ⟨fun c => (h c).2, sem_eq_zero_of_no_sems (by decide) r.2⟩)
    (Cert.Reference26Ideal.Value.run (F := Ideal) m ρ)

/-- No operation of the kernel was replaced. -/
theorem preserves : Cert.preserves_Kernel26_Kernel26Ideal := trivial

/-- A number times its logistic, as the reference writes it. -/
abbrev silu (a : Vec Ideal Cert.Reference26Ideal.S8x2048 .f32) : Vec Ideal Cert.Reference26Ideal.S8x2048 .f32 :=
  mulf (F := Ideal) (φ := .f32) a (Host.divf
    (broadcastInDim _ ![] Cert.Reference26Ideal.Gen.bcast_S_S8x2048 (constant Cert.Reference26Ideal.S_ .f32 0x3F800000#32))
    (addf (broadcastInDim _ ![] Cert.Reference26Ideal.Gen.bcast_S_S8x2048 (constant Cert.Reference26Ideal.S_ .f32 0x3F800000#32))
      (Host.exp (Host.negf a))))

open Cert.Kernel26Ideal.Product in
/-- The reference's product is the same array of sums. -/
theorem value (a : Vec Ideal Cert.Reference26Ideal.S8x2048 .f32)
    (d : Vec Ideal Cert.Reference26Ideal.S4x8x1536 .f32) :
    transpose Cert.Reference26Ideal.S4x2048x1536 [0, 2, 1]
      (Host.dotGeneral (F := Ideal) (φ₁ := .f32) (φ₂ := .f32)
        Cert.Reference26Ideal.dot_S4x1536x8_S8x2048_S4x1536x2048_2_0_01_1_n_n none
        (transpose Cert.Reference26Ideal.S4x1536x8 [0, 2, 1] d
          Cert.Reference26Ideal.Gen.transposes_S4x8x1536_S4x1536x8_0_2_1) (silu a))
      Cert.Reference26Ideal.Gen.transposes_S4x1536x2048_S4x2048x1536_0_2_1 = res a d := by
  funext i
  rw [eq_ix3 i]
  pointwise [res]
  exact Finset.sum_congr rfl fun k _ => mul_comm _ _

open Cert.Kernel26Ideal.Product in
/-- Kernel and reference, started on the same operands, end with the same gradient. -/
theorem algebraic : Cert.algebraic_Kernel26Ideal_Reference26Ideal := by
  intro m ρ m' ρ' _ hagree
  refine ⟨_, (θ_run Cert.Kernel26Ideal.defs _ _).mono (fun r h c => ⟨(h c).1.trans (final m c), (h c).2⟩)
      (Cert.Kernel26Ideal.Value.run_blocks m ρ), ?_⟩
  refine (θ_run Cert.Reference26Ideal.defs _ _).mono
    (fun r h c => ⟨(h c).1.trans ((value _ _).trans ?_), (h c).2⟩)
    (Cert.Reference26Ideal.Value.run (F := Ideal) m' ρ')
  obtain ⟨e0, e1⟩ := hagree c
  exact congrArg₂ res e0 e1

end Cert.Proof.ModWeights

end
-- ==== Proof.DeviceSums.lean ====
/-
  Two sums over the devices' arrays, read off their programs and off the references.

  The kernels add the leading slices of their operands one after another, the first in one block, the
  second in four blocks of rows; the references sum over the leading axis.
-/

module

public import proofs.«01_k».proof.Defs
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Value
public import proofs.«01_k».proof.Proof.Gen.Reference28Ideal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.ShloMosaic.Tactic Idealize.SL.Sem

/-! ## The eight devices' gradients of the modulations -/

namespace Cert.Kernel27Ideal.Sum
open Cert.Kernel27Ideal Cert.Kernel27Ideal.Gen

/-- The sum over the eight devices, as an array. -/
def res (a : Vec Ideal S8x24x1024 .f32) : Vec Ideal S24x1024 .f32 :=
  fun i => ∑ d : Fin 8, a (ix3 d (i 0) (i 1))

/-- At the one step each window's block is its whole array. -/
theorem index : ∀ t : Fin cfg0.N, win0_0.index t = ![0, 0, 0] ∧ win0_1.index t = ![0, 0] :=
  (by decide +kernel : ∀ t : Fin grid0.N, _)

variable (m : (ℓ : Loc nD τ sig) → Buf (Elt Ideal) ℓ) (c : Dev nD)

/-- The array the kernel leaves is the sum. -/
theorem final : (dats m 0 c).arrAt 1 cfg0.N = res (m ((c : Thread nD τ).loc main_arg0)) := by
  refine (dats m 0 c).arrAt_eq_of_covers 1 _ (by decide +kernel) fun t hf y => ?_
  obtain ⟨i0, i1⟩ := index t
  blk_simp
  rw [after0_1]
  frame_out
  pointwise [k0_pay1, res]
  simp only [Fin.sum_univ_eight]
  blk_point [iblk, V_main_arg0, i0, i1]

end Cert.Kernel27Ideal.Sum

namespace Cert.Proof.ModBias
open Cert.Kernel27Ideal.Sum

/-- The kernel runs to the end and keeps its operand. -/
theorem frame_kernel : Cert.quiescent_Kernel27 := fun m ρ _ => Cert.Kernel27.Gen.frame m ρ

/-- So does the kernel over the extended reals. -/
theorem frame_ideal : Cert.quiescent_Kernel27Ideal := fun m ρ _ => Cert.Kernel27Ideal.Gen.frame m ρ

/-- So does the reference. -/
theorem frame_reference : Cert.quiescent_Reference27Ideal := fun m ρ _ =>
  (θ_run Cert.Reference27Ideal.defs _ _).mono
    (fun r h => ⟨fun c => (h c).2, sem_eq_zero_of_no_sems (by decide) r.2⟩)
    (Cert.Reference27Ideal.Value.run (F := Ideal) m ρ)

/-- No operation of the kernel was replaced. -/
theorem preserves : Cert.preserves_Kernel27_Kernel27Ideal := trivial

/-- The reference's sum is the same array. -/
theorem value (a : Vec Ideal Cert.Reference27Ideal.S8x24x1024 .f32) :
    Host.reduceAdd (F := Ideal) (φ := .f32) a (constant Cert.Reference27Ideal.S_ .f32 0x00000000#32)
      Cert.Reference27Ideal.Gen.reducesTo_S8x24x1024_S24x1024_d0 Cert.Reference27Ideal.Gen.h_S_ = res a := by
  funext i
  rw [eq_ix2 i]
  pointwise [res]

/-- Kernel and reference, started on the same operand, end with the same sum. -/
theorem algebraic : Cert.algebraic_Kernel27Ideal_Reference27Ideal := by
  intro m ρ m' ρ' _ hagree
  refine ⟨_, (θ_run Cert.Kernel27Ideal.defs _ _).mono (fun r h c => ⟨(h c).1.trans (final m c), (h c).2⟩)
      (Cert.Kernel27Ideal.Value.run_blocks m ρ), ?_⟩
  refine (θ_run Cert.Reference27Ideal.defs _ _).mono
    (fun r h c => ⟨(h c).1.trans ((value _).trans ?_), (h c).2⟩)
    (Cert.Reference27Ideal.Value.run (F := Ideal) m' ρ')
  exact congrArg res (hagree c)

end Cert.Proof.ModBias

/-! ## The four chips' gradients of the replicated weights -/

namespace Cert.Kernel28Ideal.Sum
open Cert.Kernel28Ideal Cert.Kernel28Ideal.Gen

/-- The sum over the four chips, as an array. -/
def res (a : Vec Ideal S4x544x1024 .f32) : Vec Ideal S544x1024 .f32 :=
  fun i => ∑ d : Fin 4, a (ix3 d (i 0) (i 1))

/-- At every step each window's block is the step's block of rows. -/
theorem index : ∀ t : Fin cfg0.N, win0_0.index t = ![0, t.val, 0] ∧ win0_1.index t = ![t.val, 0] :=
  (by decide +kernel : ∀ t : Fin grid0.N, _)

variable (m : (ℓ : Loc nD τ sig) → Buf (Elt Ideal) ℓ) (c : Dev nD)

/-- The array the kernel leaves is the sum. -/
theorem final : (dats m 0 c).arrAt 1 cfg0.N = res (m ((c : Thread nD τ).loc main_arg0)) := by
  refine (dats m 0 c).arrAt_eq_of_covers 1 _ (by decide +kernel) fun t hf y => ?_
  obtain ⟨i0, i1⟩ := index t
  blk_simp
  rw [after0_1]
  frame_out
  pointwise [k0_pay1, res]
  simp only [Fin.sum_univ_four]
  blk_point [iblk, V_main_arg0, i0, i1]

end Cert.Kernel28Ideal.Sum

namespace Cert.Proof.Replicated
open Cert.Kernel28Ideal.Sum

/-- The kernel runs to the end and keeps its operand. -/
theorem frame_kernel : Cert.quiescent_Kernel28 := fun m ρ _ => Cert.Kernel28.Gen.frame m ρ

/-- So does the kernel over the extended reals. -/
theorem frame_ideal : Cert.quiescent_Kernel28Ideal := fun m ρ _ => Cert.Kernel28Ideal.Gen.frame m ρ

/-- So does the reference. -/
theorem frame_reference : Cert.quiescent_Reference28Ideal := fun m ρ _ =>
  (θ_run Cert.Reference28Ideal.defs _ _).mono
    (fun r h => ⟨fun c => (h c).2, sem_eq_zero_of_no_sems (by decide) r.2⟩)
    (Cert.Reference28Ideal.Value.run (F := Ideal) m ρ)

/-- No operation of the kernel was replaced. -/
theorem preserves : Cert.preserves_Kernel28_Kernel28Ideal := trivial

/-- The reference's sum is the same array. -/
theorem value (a : Vec Ideal Cert.Reference28Ideal.S4x544x1024 .f32) :
    Host.reduceAdd (F := Ideal) (φ := .f32) a (constant Cert.Reference28Ideal.S_ .f32 0x00000000#32)
      Cert.Reference28Ideal.Gen.reducesTo_S4x544x1024_S544x1024_d0 Cert.Reference28Ideal.Gen.h_S_ = res a := by
  funext i
  rw [eq_ix2 i]
  pointwise [res]

/-- Kernel and reference, started on the same operand, end with the same sum. -/
theorem algebraic : Cert.algebraic_Kernel28Ideal_Reference28Ideal := by
  intro m ρ m' ρ' _ hagree
  refine ⟨_, (θ_run Cert.Kernel28Ideal.defs _ _).mono (fun r h c => ⟨(h c).1.trans (final m c), (h c).2⟩)
      (Cert.Kernel28Ideal.Value.run_blocks m ρ), ?_⟩
  refine (θ_run Cert.Reference28Ideal.defs _ _).mono
    (fun r h c => ⟨(h c).1.trans ((value _).trans ?_), (h c).2⟩)
    (Cert.Reference28Ideal.Value.run (F := Ideal) m' ρ')
  exact congrArg res (hagree c)

end Cert.Proof.Replicated

end
-- ==== Proof.LossSpec.lean ====
/-
  The loss head and its gradients, entry by entry: the root mean square norm of a row, its distance from the target, the
  loss, and the gradients with respect to the row, the norm's gain, the last layer's output and its gate. The kernel adds
  up the rows in 16 blocks of 256.
-/
module

public import proofs.«01_k».proof.Defs
public import Idealize.ShloMosaic.Lib.Pointwise

@[expose] public section

noncomputable section

namespace Cert.LossHead

open Idealize.ShloMosaic Idealize.ShloMosaic.TcCoe

/-! ## The constants, as the words the programs hold -/

/-- 1/2, 2, 2048, the norm's 1e-6 and -1/2. -/
def kHalf : EReal := Ideal.ofBits .f32 0x3F000000#32
def kTwo : EReal := Ideal.ofBits .f32 0x40000000#32
def kCols : EReal := Ideal.ofBits .f32 0x45000000#32
def kEps : EReal := Ideal.ofBits .f32 0x358637BD#32
def kNegHalf : EReal := Ideal.ofBits .f32 0xBF000000#32
/-- The cotangent of a row's sum of squares. -/
def kCot : EReal := Ideal.div kHalf kCols

theorem kHalf_eq : kHalf = ((1 / 2 : ℝ) : EReal) := by
  simp [kHalf, Ideal.ofBits, Ideal.ieee, -EReal.coe_mul]; norm_num
theorem kTwo_eq : kTwo = ((2 : ℝ) : EReal) := by
  simp [kTwo, Ideal.ofBits, Ideal.ieee, -EReal.coe_mul]; norm_num
theorem kCols_eq : kCols = ((2048 : ℝ) : EReal) := by
  simp [kCols, Ideal.ofBits, Ideal.ieee, -EReal.coe_mul]; norm_num
theorem kCot_eq : kCot = ((1 / 4096 : ℝ) : EReal) := by
  unfold kCot
  rw [kHalf_eq, kCols_eq, Ideal.div_coe (by norm_num), ← EReal.coe_mul]
  norm_num

/-- Twice a number is its sum with itself. -/
theorem two_mul (x : EReal) : kTwo * x = x + x := by
  rw [kTwo_eq, show ((2 : ℝ) : EReal) = 1 + 1 by norm_cast,
    EReal.right_distrib_of_nonneg zero_le_one zero_le_one, one_mul]

/-- The cotangent goes over a sum. -/
theorem cot_add (x y : EReal) : kCot * (x + y) = kCot * x + kCot * y := by
  rw [kCot_eq]
  exact EReal.left_distrib_of_nonneg_of_ne_top (by exact_mod_cast (by norm_num : (0 : ℝ) ≤ 1 / 4096)) (EReal.coe_ne_top _) _ _

/-- Half of a sum is the sum of the halves. -/
theorem half_sum {n : Type} (s : Finset n) (f : n → EReal) : kHalf * ∑ i ∈ s, f i = ∑ i ∈ s, kHalf * f i := by
  classical
  induction s using Finset.induction_on with
  | empty => simp
  | insert a s h ih =>
    rw [Finset.sum_insert h, Finset.sum_insert h, ← ih, kHalf_eq]
    exact EReal.left_distrib_of_nonneg_of_ne_top (by exact_mod_cast (by norm_num : (0 : ℝ) ≤ 1 / 2)) (EReal.coe_ne_top _) _ _

/-! ## One row -/

section Row
variable (x g t : Fin 2048 → EReal)

/-- The mean square plus the small constant. -/
def ms : EReal := Ideal.div (∑ c, x c * x c) kCols + kEps
/-- Its reciprocal root. -/
def rs : EReal := Ideal.rsqrt (ms x)
/-- The normalised row. -/
def xn (c : Fin 2048) : EReal := x c * rs x
/-- The distance from the target. -/
def err (c : Fin 2048) : EReal := xn x c * g c - t c
/-- The mean of the squares of the distances. -/
def mse : EReal := Ideal.div (∑ c, err x g t c * err x g t c) kCols
/-- The cotangent of the distance. -/
def dErr (c : Fin 2048) : EReal := err x g t c * kCot + kCot * err x g t c
/-- The cotangent of the normalised row. -/
def dXn (c : Fin 2048) : EReal := dErr x g t c * g c
/-- The cotangent of the mean square, divided by the number of columns. -/
def dMs : EReal := Ideal.div ((∑ c, x c * dXn x g t c) * (kNegHalf * Ideal.div (rs x) (ms x))) kCols
/-- The gradient of the row. -/
def dx (c : Fin 2048) : EReal := (dXn x g t c * rs x + x c * dMs x g t) + dMs x g t * x c

/-- The cotangent of the distance, as the derivative of a square. -/
theorem dErr_eq (c : Fin 2048) : kCot * (kTwo * err x g t c) = dErr x g t c := by
  rw [two_mul, cot_add]; unfold dErr; rw [mul_comm (err x g t c) kCot]

end Row

/-! ## All rows -/

/-- Row `s` of block `n` among the 4096 rows. -/
def row (n : Fin 16) (s : Fin 256) : Fin 4096 := ⟨256 * n.val + s.val, by omega⟩
/-- The block a row is in, and its place there. -/
def blockNo (r : Fin 4096) : Fin 16 := ⟨r.val / 256, by omega⟩
def rowIn (r : Fin 4096) : Fin 256 := ⟨r.val % 256, by omega⟩

theorem row_block (r : Fin 4096) : row (blockNo r) (rowIn r) = r := Fin.ext (by simp only [row, blockNo, rowIn]; omega)
theorem blockNo_row (n : Fin 16) (s : Fin 256) : blockNo (row n s) = n := Fin.ext (by simp only [row, blockNo]; omega)
theorem rowIn_row (n : Fin 16) (s : Fin 256) : rowIn (row n s) = s := Fin.ext (by simp only [row, rowIn]; omega)

/-- A sum over the rows, block by block. -/
theorem sum_rows (F : Fin 4096 → EReal) : ∑ r, F r = ∑ n, ∑ s, F (row n s) := by
  rw [← Fintype.sum_prod_type']
  refine Fintype.sum_equiv ⟨fun r => (blockNo r, rowIn r), fun q => row q.1 q.2, fun r => row_block r, fun q => ?_⟩ _ _
    fun r => by simp only [Equiv.coe_fn_mk, row_block]
  exact Prod.ext (blockNo_row q.1 q.2) (rowIn_row q.1 q.2)

/-- The arguments, entry by entry. -/
structure Arrays where
  x : Fin 4096 → Fin 2048 → EReal
  g : Fin 2048 → EReal
  t : Fin 4096 → Fin 2048 → EReal
  y : Fin 4096 → Fin 2048 → EReal
  gate : Fin 2048 → EReal

namespace Arrays
variable (A : Arrays)

/-- The five results. -/
def loss : EReal := kHalf * ∑ r, mse (A.x r) A.g (A.t r)
def dRow (r : Fin 4096) (c : Fin 2048) : EReal := dx (A.x r) A.g (A.t r) c
def dGain (c : Fin 2048) : EReal := ∑ r, xn (A.x r) c * dErr (A.x r) A.g (A.t r) c
def dOut (r : Fin 4096) (c : Fin 2048) : EReal := A.dRow r c * A.gate c
def dGate (c : Fin 2048) : EReal := ∑ r, A.dRow r c * A.y r c

/-- The parts of a block of rows, for every number. -/
def at' (n : ℕ) (s : Fin 256) : Fin 4096 := row ⟨n % 16, Nat.mod_lt _ (by decide)⟩ s
def lossPart (n : ℕ) : EReal := kHalf * ∑ s, mse (A.x (at' n s)) A.g (A.t (at' n s))
def dGainPart (n : ℕ) (c : Fin 2048) : EReal := ∑ s, xn (A.x (at' n s)) c * dErr (A.x (at' n s)) A.g (A.t (at' n s)) c
def dGatePart (n : ℕ) (c : Fin 2048) : EReal := ∑ s, A.dRow (at' n s) c * A.y (at' n s) c

/-- A sum over the blocks' numbers is the sum over the rows. -/
theorem sum_parts (F : Fin 4096 → EReal) : ∑ n ∈ Finset.range 16, ∑ s, F (at' n s) = ∑ r, F r := by
  rw [sum_rows, ← Fin.sum_univ_eq_sum_range (fun n => ∑ s, F (at' n s)) 16]
  exact Finset.sum_congr rfl fun n _ => Finset.sum_congr rfl fun s _ => congrArg F
    (congrArg (row · s) (Fin.ext (Nat.mod_eq_of_lt n.isLt)))

theorem loss_parts : ∑ n ∈ Finset.range 16, A.lossPart n = A.loss := by
  unfold lossPart loss
  rw [← half_sum, sum_parts fun r => mse (A.x r) A.g (A.t r)]
theorem dGain_parts (c : Fin 2048) : ∑ n ∈ Finset.range 16, A.dGainPart n c = A.dGain c :=
  sum_parts fun r => xn (A.x r) c * dErr (A.x r) A.g (A.t r) c
theorem dGate_parts (c : Fin 2048) : ∑ n ∈ Finset.range 16, A.dGatePart n c = A.dGate c :=
  sum_parts fun r => A.dRow r c * A.y r c

end Arrays

end Cert.LossHead
-- ==== Proof.LossRow.lean ====
/-
  The loss head's kernel at one grid point, read down to scalars, and what its body leaves in its five output buffers: at
  the first point the block's own values, at every later point the block's gradients of its rows, and what was there before
  plus the block's parts of the sums.
-/
module

public import proofs.«01_k».proof.Proof.Gen.Kernel29Ideal.Value
public import proofs.«01_k».proof.Proof.LossSpec
public import Idealize.ShloMosaic.Lib.Pipeline.ValueKit

@[expose] public section

set_option maxRecDepth 16384

noncomputable section

namespace Cert.Kernel29Ideal.Block

open Idealize.ShloMosaic Idealize.ShloMosaic.TcCoe Idealize.ShloMosaic.Tactic
open Cert.Kernel29Ideal Cert.Kernel29Ideal.Gen Cert.LossHead

section Values
variable (x0 : Vec Ideal S256x2048 .f32) (x1 : Vec Ideal S1x2048 .f32) (x2 x3 : Vec Ideal S256x2048 .f32)
  (x4 : Vec Ideal S1x2048 .f32)

/-- Row `s` of the block, of the target's and of the layer's output, the gain and the gate. -/
def xRow (x : Vec Ideal S256x2048 .f32) (s : Fin 256) (c : Fin 2048) : EReal := x (ix2 s c)
def vec (x : Vec Ideal S1x2048 .f32) (c : Fin 2048) : EReal := x (ix2 0 c)

variable (s : Fin 256) (c : Fin 2048)

theorem pay4_apply : k0_pay4 x1 (ix2 0 c) = vec x1 c := by
  pointwise [k0_pay4]; first | done | rfl
theorem pay5_apply : k0_pay5 x0 (ix2 s 0) = ms (xRow x0 s) := by
  pointwise [k0_pay5]; rfl
theorem pay6_apply : k0_pay6 x0 (ix2 s 0) = rs (xRow x0 s) := by
  pointwise [k0_pay6, pay5_apply]; rfl
theorem pay7_apply : k0_pay7 x0 (ix2 s 0) = kNegHalf * Ideal.div (rs (xRow x0 s)) (ms (xRow x0 s)) := by
  pointwise [k0_pay7, pay5_apply, pay6_apply]; rfl
theorem pay8_apply : k0_pay8 x0 (ix2 s c) = xn (xRow x0 s) c := by
  pointwise [k0_pay8, pay6_apply]; rfl
theorem pay9_apply : k0_pay9 x0 x1 x2 (ix2 s c) = err (xRow x0 s) (vec x1) (xRow x2 s) c := by
  pointwise [k0_pay9, pay8_apply, pay4_apply]; rfl
theorem pay10_apply : k0_pay10 x0 x1 x2 (ix2 0 0) = kHalf * ∑ s, mse (xRow x0 s) (vec x1) (xRow x2 s) := by
  pointwise [k0_pay10, pay9_apply]; rfl
theorem pay11_apply : k0_pay11 (F := Ideal) (ix2 s 0) = kCot := by
  pointwise [k0_pay11]
  simp only [Fin.sum_univ_one]
  rfl
theorem pay12_apply : k0_pay12 (k0_pay9 x0 x1 x2) k0_pay11 (ix2 s c) = dErr (xRow x0 s) (vec x1) (xRow x2 s) c := by
  pointwise [k0_pay12, pay9_apply, pay11_apply]
  simp only [Fin.sum_univ_one, pay11_apply]
  rfl
theorem pay13_apply : k0_pay13 (k0_pay8 x0) (k0_pay9 x0 x1 x2) k0_pay11 (ix2 0 c)
    = ∑ s, xn (xRow x0 s) c * dErr (xRow x0 s) (vec x1) (xRow x2 s) c := by
  pointwise [k0_pay13, pay8_apply, pay12_apply]
/-- The gradient of the rows. -/
def dxVec : FVec Ideal S256x2048 .f32 :=
  k0_pay14 x0 (k0_pay4 x1) (k0_pay6 x0) (k0_pay7 x0) (k0_pay9 x0 x1 x2) k0_pay11
theorem dxVec_apply : dxVec x0 x1 x2 (ix2 s c) = dx (xRow x0 s) (vec x1) (xRow x2 s) c := by
  unfold dxVec
  pointwise [k0_pay14, pay4_apply, pay6_apply, pay7_apply, pay12_apply]
  simp only [Fin.sum_univ_one, pay7_apply]
  rfl
theorem pay1_apply : k0_pay1 (dxVec x0 x1 x2) x4 (ix2 s c) = dx (xRow x0 s) (vec x1) (xRow x2 s) c * vec x4 c := by
  pointwise [k0_pay1, dxVec_apply]; rfl
theorem pay2_apply : k0_pay2 (dxVec x0 x1 x2) x3 (ix2 0 c)
    = ∑ s, dx (xRow x0 s) (vec x1) (xRow x2 s) c * xRow x3 s c := by
  pointwise [k0_pay2, dxVec_apply]; rfl
theorem pay16_apply (l : Fin 128) : k0_pay16 (k0_pay10 x0 x1 x2) (ix2 0 l)
    = kHalf * ∑ s, mse (xRow x0 s) (vec x1) (xRow x2 s) := by
  pointwise [k0_pay16, pay10_apply]

end Values

/-! ## The output buffers -/

section Buffers
variable (c : Dev nD) (i : grid0.Coords)
  (a1 : Memref sig .tc .vmem S256x2048 .f32) (h1 : a1.IsWhole)
  (a2 : Memref sig .tc .vmem S1x2048 .f32) (h2 : a2.IsWhole)
  (a3 : Memref sig .tc .vmem S256x2048 .f32) (h3 : a3.IsWhole)
  (a4 : Memref sig .tc .vmem S256x2048 .f32) (h4 : a4.IsWhole)
  (a5 : Memref sig .tc .vmem S1x2048 .f32) (h5 : a5.IsWhole)
  (a6 : Memref sig .tc .vmem S1x128 .f32) (h6 : a6.IsWhole)
  (a7 : Memref sig .tc .vmem S256x2048 .f32) (h7 : a7.IsWhole)
  (a8 : Memref sig .tc .vmem S1x2048 .f32) (h8 : a8.IsWhole)
  (a9 : Memref sig .tc .vmem S256x2048 .bf16) (h9 : a9.IsWhole)
  (a10 : Memref sig .tc .vmem S1x2048 .f32) (h10 : a10.IsWhole)
variable (x0 : Vec Ideal S256x2048 .f32) (x1 : Vec Ideal S1x2048 .f32) (x2 x3 : Vec Ideal S256x2048 .f32)
  (x4 : Vec Ideal S1x2048 .f32) (xo5 : Vec Ideal S1x128 .f32) (xo7 xo9 : Vec Ideal S1x2048 .f32)

/-! ### The first grid point -/

section
variable (hc0 : cond0_0 i) (hc1 : ¬cond0_1 i) (hc2 : cond0_2 i) (hc3 : ¬cond0_3 i) (hc4 : cond0_4 i) (hc5 : ¬cond0_5 i)

theorem loss_first :
    out0_A_5 c i a1 h1 a2 h2 a3 h3 a4 h4 a5 h5 a6 h6 a7 h7 a8 h8 a9 h9 a10 h10 hc0 hc1 hc2 hc3 hc4 hc5 x0 x1 x2 x3 x4
      = k0_pay16 (k0_pay10 x0 x1 x2) := by
  frame_out

theorem dx_first :
    out0_A_6 c i a1 h1 a2 h2 a3 h3 a4 h4 a5 h5 a6 h6 a7 h7 a8 h8 a9 h9 a10 h10 hc0 hc1 hc2 hc3 hc4 hc5 x0 x1 x2 x3 x4
      = dxVec x0 x1 x2 := by
  frame_out
  rfl

theorem dg_first :
    out0_A_7 c i a1 h1 a2 h2 a3 h3 a4 h4 a5 h5 a6 h6 a7 h7 a8 h8 a9 h9 a10 h10 hc0 hc1 hc2 hc3 hc4 hc5 x0 x1 x2 x3 x4
      = k0_pay13 (k0_pay8 x0) (k0_pay9 x0 x1 x2) k0_pay11 := by
  frame_out

theorem dy_first :
    out0_A_8 c i a1 h1 a2 h2 a3 h3 a4 h4 a5 h5 a6 h6 a7 h7 a8 h8 a9 h9 a10 h10 hc0 hc1 hc2 hc3 hc4 hc5 x0 x1 x2 x3 x4
      = k0_pay1 (dxVec x0 x1 x2) x4 := by
  frame_out
  rfl

theorem dgate_first :
    out0_A_9 c i a1 h1 a2 h2 a3 h3 a4 h4 a5 h5 a6 h6 a7 h7 a8 h8 a9 h9 a10 h10 hc0 hc1 hc2 hc3 hc4 hc5 x0 x1 x2 x3 x4
      = k0_pay2 (dxVec x0 x1 x2) x3 := by
  frame_out
  rfl

end

/-! ### A later grid point -/

section
variable (hc0 : ¬cond0_0 i) (hc1 : cond0_1 i) (hc2 : ¬cond0_2 i) (hc3 : cond0_3 i) (hc4 : ¬cond0_4 i) (hc5 : cond0_5 i)

theorem loss_later :
    out0_B_5 c i a1 h1 a2 h2 a3 h3 a4 h4 a5 h5 a6 h6 a7 h7 a8 h8 a9 h9 a10 h10 hc0 hc1 hc2 hc3 hc4 hc5 x0 x1 x2 x3 x4 xo5 xo7 xo9
      = k0_pay17 (k0_pay10 x0 x1 x2) xo5 := by
  frame_out

theorem dx_later :
    out0_B_6 c i a1 h1 a2 h2 a3 h3 a4 h4 a5 h5 a6 h6 a7 h7 a8 h8 a9 h9 a10 h10 hc0 hc1 hc2 hc3 hc4 hc5 x0 x1 x2 x3 x4 xo5 xo7 xo9
      = dxVec x0 x1 x2 := by
  frame_out
  rfl

theorem dg_later :
    out0_B_7 c i a1 h1 a2 h2 a3 h3 a4 h4 a5 h5 a6 h6 a7 h7 a8 h8 a9 h9 a10 h10 hc0 hc1 hc2 hc3 hc4 hc5 x0 x1 x2 x3 x4 xo5 xo7 xo9
      = k0_pay15 (k0_pay8 x0) (k0_pay9 x0 x1 x2) k0_pay11 xo7 := by
  frame_out

theorem dy_later :
    out0_B_8 c i a1 h1 a2 h2 a3 h3 a4 h4 a5 h5 a6 h6 a7 h7 a8 h8 a9 h9 a10 h10 hc0 hc1 hc2 hc3 hc4 hc5 x0 x1 x2 x3 x4 xo5 xo7 xo9
      = k0_pay1 (dxVec x0 x1 x2) x4 := by
  frame_out
  rfl

theorem dgate_later :
    out0_B_9 c i a1 h1 a2 h2 a3 h3 a4 h4 a5 h5 a6 h6 a7 h7 a8 h8 a9 h9 a10 h10 hc0 hc1 hc2 hc3 hc4 hc5 x0 x1 x2 x3 x4 xo5 xo7 xo9
      = k0_pay3 (dxVec x0 x1 x2) x3 xo9 := by
  frame_out
  rfl

end

end Buffers

end Cert.Kernel29Ideal.Block
-- ==== Proof.LossGrid.lean ====
/-
  The loss head's kernel over its 16 grid points: what each point leaves in the output buffers, the running sums, and the
  five arrays at the end.
-/
module

public import proofs.«01_k».proof.Proof.LossRow

@[expose] public section

set_option maxRecDepth 16384

noncomputable section

namespace Cert.Kernel29Ideal.Grid

open Idealize.ShloMosaic Idealize.ShloMosaic.TcCoe Idealize.ShloMosaic.Tactic
open Cert.Kernel29Ideal Cert.Kernel29Ideal.Gen Cert.Kernel29Ideal.Block Cert.LossHead

variable (m : (ℓ : Loc nD τ sig) → Buf (Elt Ideal) ℓ) (c : Dev nD)

/-- The arguments, as arrays. -/
def arg0 : Vec Ideal S4096x2048 .f32 := m ((c : Thread nD τ).loc main_arg0)
def arg1 : Vec Ideal S2048 .f32 := m ((c : Thread nD τ).loc main_arg1)
def arg2 : Vec Ideal S4096x2048 .f32 := m ((c : Thread nD τ).loc main_arg2)
def arg3 : Vec Ideal S4096x2048 .f32 := m ((c : Thread nD τ).loc main_arg3)
def arg4 : Vec Ideal S1x2048 .f32 := m ((c : Thread nD τ).loc main_arg4)

/-- The arguments, entry by entry. -/
def arrays : Arrays where
  x r k := arg0 m c (ix2 r k)
  g k := arg1 m c (ix1 k)
  t r k := arg2 m c (ix2 r k)
  y r k := arg3 m c (ix2 r k)
  gate k := arg4 m c (ix2 0 k)

/-! ## What each grid point reads -/

theorem N_eq : cfg0.N = 16 := N_0

theorem index : ∀ t : Fin cfg0.N, win0_0.index t = ![t.val, 0] ∧ win0_1.index t = ![0, 0] ∧ win0_2.index t = ![t.val, 0]
    ∧ win0_3.index t = ![t.val, 0] ∧ win0_4.index t = ![0, 0] := (by decide +kernel : ∀ t : Fin grid0.N, _)

theorem V_main_v0 : V m c main_v0 = broadcastInDim S1x2048 ![1] bcast_S2048_S1x2048_1 (arg1 m c) := rfl

variable (t : Fin cfg0.N) (s : Fin 256)

theorem block0 : xRow (iblk m c 0 t) s = (arrays m c).x (Arrays.at' t.val s) := by
  obtain ⟨i0, -⟩ := index t
  have ht : t.val < 16 := lt_of_lt_of_eq t.isLt N_eq
  funext k
  unfold xRow arrays arg0 Arrays.at' row
  blk_point [iblk, V_main_arg0, i0]
theorem block1 : vec (iblk m c 1 t) = (arrays m c).g := by
  obtain ⟨-, i1, -⟩ := index t
  funext k
  unfold vec arrays
  blk_point [iblk, V_main_v0, i1]
theorem block2 : xRow (iblk m c 2 t) s = (arrays m c).t (Arrays.at' t.val s) := by
  obtain ⟨-, -, i2, -⟩ := index t
  have ht : t.val < 16 := lt_of_lt_of_eq t.isLt N_eq
  funext k
  unfold xRow arrays arg2 Arrays.at' row
  blk_point [iblk, V_main_arg2, i2]
theorem block3 : xRow (iblk m c 3 t) s = (arrays m c).y (Arrays.at' t.val s) := by
  obtain ⟨-, -, -, i3, -⟩ := index t
  have ht : t.val < 16 := lt_of_lt_of_eq t.isLt N_eq
  funext k
  unfold xRow arrays arg3 Arrays.at' row
  blk_point [iblk, V_main_arg3, i3]
theorem block4 : vec (iblk m c 4 t) = (arrays m c).gate := by
  obtain ⟨-, -, -, -, i4⟩ := index t
  funext k
  unfold vec arrays arg4
  blk_point [iblk, V_main_arg4, i4]

/-! ## What a point's values are -/

theorem loss_point (l : Fin 128) : k0_pay16 (k0_pay10 (iblk m c 0 t) (iblk m c 1 t) (iblk m c 2 t)) (ix2 0 l)
    = (arrays m c).lossPart t.val := by
  rw [pay16_apply]
  simp only [block0, block1, block2]
  rfl
theorem dx_point (k : Fin 2048) : dxVec (iblk m c 0 t) (iblk m c 1 t) (iblk m c 2 t) (ix2 s k)
    = (arrays m c).dRow (Arrays.at' t.val s) k := by
  rw [dxVec_apply]
  simp only [block0, block1, block2]
  rfl
theorem dg_point (k : Fin 2048) :
    k0_pay13 (k0_pay8 (iblk m c 0 t)) (k0_pay9 (iblk m c 0 t) (iblk m c 1 t) (iblk m c 2 t)) k0_pay11 (ix2 0 k)
      = (arrays m c).dGainPart t.val k := by
  rw [pay13_apply]
  simp only [block0, block1, block2]
  rfl
theorem dy_point (k : Fin 2048) :
    k0_pay1 (dxVec (iblk m c 0 t) (iblk m c 1 t) (iblk m c 2 t)) (iblk m c 4 t) (ix2 s k)
      = (arrays m c).dOut (Arrays.at' t.val s) k := by
  rw [pay1_apply]
  simp only [block0, block1, block2, block4]
  rfl
theorem dgate_point (k : Fin 2048) :
    k0_pay2 (dxVec (iblk m c 0 t) (iblk m c 1 t) (iblk m c 2 t)) (iblk m c 3 t) (ix2 0 k)
      = (arrays m c).dGatePart t.val k := by
  rw [pay2_apply]
  simp only [block0, block1, block2, block3]
  rfl

/-! ## The running sums -/

/-- After point `n` the buffers hold the block's gradients of its rows and the sums over the blocks up to `n`. -/
structure Holds (n : ℕ) (o : Vec Ideal S1x128 .f32 × Vec Ideal S256x2048 .f32 × Vec Ideal S1x2048 .f32
    × Vec Ideal S256x2048 .bf16 × Vec Ideal S1x2048 .f32) : Prop where
  loss : ∀ (a : Fin 1) l, o.1 (ix2 a l) = ∑ j ∈ Finset.range (n + 1), (arrays m c).lossPart j
  dx : ∀ s k, o.2.1 (ix2 s k) = (arrays m c).dRow (Arrays.at' n s) k
  dg : ∀ (a : Fin 1) k, o.2.2.1 (ix2 a k) = ∑ j ∈ Finset.range (n + 1), (arrays m c).dGainPart j k
  dy : ∀ s k, o.2.2.2.1 (ix2 s k) = (arrays m c).dOut (Arrays.at' n s) k
  dgate : ∀ (a : Fin 1) k, o.2.2.2.2 (ix2 a k) = ∑ j ∈ Finset.range (n + 1), (arrays m c).dGatePart j k

theorem outs_hold : ∀ (n : ℕ) (h : n < cfg0.N), Holds m c n (outsAt0 m c n h)
  | 0, h => by
    have h1 : ¬1 ≤ 0 := by decide
    have e := outsAt0_A m c ⟨0, h⟩ rfl h1 rfl h1 rfl h1
    rw [loss_first, dx_first, dg_first, dy_first, dgate_first] at e
    rw [show outsAt0 m c 0 h = _ from e]
    constructor
    · intro a l; obtain rfl : a = 0 := Subsingleton.elim _ _
      rw [Finset.sum_range_one]; exact loss_point m c ⟨0, h⟩ l
    · intro s k; exact dx_point m c ⟨0, h⟩ s k
    · intro a k; obtain rfl : a = 0 := Subsingleton.elim _ _
      rw [Finset.sum_range_one]; exact dg_point m c ⟨0, h⟩ k
    · intro s k; exact dy_point m c ⟨0, h⟩ s k
    · intro a k; obtain rfl : a = 0 := Subsingleton.elim _ _
      rw [Finset.sum_range_one]; exact dgate_point m c ⟨0, h⟩ k
  | n + 1, h => by
    have hN : n + 1 < 16 := by rw [← N_eq]; exact h
    have ih := outs_hold n (Nat.lt_of_succ_lt h)
    have hn : ¬(n + 1) % 16 = 0 := by omega
    have hp : 1 ≤ n + 1 := by omega
    have e := outsAt0_B m c ⟨n + 1, h⟩ hn hp hn hp hn hp
    rw [loss_later, dx_later, dg_later, dy_later, dgate_later] at e
    rw [show outsAt0 m c (n + 1) h = _ from e]
    constructor
    · intro a l
      obtain rfl : a = 0 := Subsingleton.elim _ _
      rw [Finset.sum_range_succ, ← ih.loss 0 l, ← loss_point m c ⟨n + 1, h⟩ l]
      pointwise [k0_pay17]
      first | done | rfl
    · intro s k; exact dx_point m c ⟨n + 1, h⟩ s k
    · intro a k
      obtain rfl : a = 0 := Subsingleton.elim _ _
      rw [Finset.sum_range_succ, ← ih.dg 0 k, ← dg_point m c ⟨n + 1, h⟩ k]
      pointwise [k0_pay15]
      first | done | rfl
    · intro s k; exact dy_point m c ⟨n + 1, h⟩ s k
    · intro a k
      obtain rfl : a = 0 := Subsingleton.elim _ _
      rw [Finset.sum_range_succ, ← ih.dgate 0 k, ← dgate_point m c ⟨n + 1, h⟩ k]
      pointwise [k0_pay3]
      first | done | rfl

/-! ## The arrays at the end -/

/-- The five results, as arrays. -/
def res0 : Vec Ideal S1x128 .f32 := fun _ => (arrays m c).loss
def res1 : Vec Ideal S4096x2048 .f32 := fun i => (arrays m c).dRow (i 0) (i 1)
def res2 : Vec Ideal S1x2048 .f32 := fun i => (arrays m c).dGain (i 1)
def res3 : Vec Ideal S4096x2048 .bf16 := fun i => (arrays m c).dOut (i 0) (i 1)
def res4 : Vec Ideal S1x2048 .f32 := fun i => (arrays m c).dGate (i 1)

theorem index' : ∀ t : Fin cfg0.N, win0_5.index t = ![0, 0] ∧ win0_6.index t = ![t.val, 0] ∧ win0_7.index t = ![0, 0]
    ∧ win0_8.index t = ![t.val, 0] ∧ win0_9.index t = ![0, 0] := (by decide +kernel : ∀ t : Fin grid0.N, _)

/-- The last point holds the sums over all blocks. -/
theorem last_holds : ∀ t : Fin cfg0.N, t.val % 16 = 15 → Holds m c 15 (outsAt0 m c t.val t.isLt)
  | ⟨n, h⟩, e => by
    obtain rfl : n = 15 := by have := lt_of_lt_of_eq h N_eq; simp only at e; omega
    exact outs_hold m c 15 h

theorem final5 : (dats m 0 c).arrAt 5 cfg0.N = res0 m c := by
  refine (dats m 0 c).arrAt_eq_of_covers 5 _ (by decide +kernel) fun t hf y => ?_
  have e := (last_holds m c t ((flush0_5 t).mp hf)).loss
  blk_simp
  rw [after0_5, eq_ix2 y]
  exact (e (y 0) (y 1)).trans (arrays m c).loss_parts

theorem final6 : (dats m 0 c).arrAt 6 cfg0.N = res1 m c := by
  refine (dats m 0 c).arrAt_eq_of_covers 6 _ (by decide +kernel) fun t hf y => ?_
  obtain ⟨-, i, -⟩ := index' t
  have ht : t.val < 16 := lt_of_lt_of_eq t.isLt N_eq
  blk_simp
  rw [after0_6, eq_ix2 y]
  refine ((outs_hold m c t.val t.isLt).dx (y 0) (y 1)).trans (congrArg₂ (arrays m c).dRow (Fin.ext ?_) (Fin.ext ?_))
  · show 256 * (t.val % 16) + (y 0).val = win0_6.index t 0 * 256 + 1 * (y 0).val
    rw [i]; simp only [Matrix.cons_val_zero]; omega
  · show (y 1).val = win0_6.index t 1 * 2048 + 1 * (y 1).val
    rw [i]; simp

theorem final7 : (dats m 0 c).arrAt 7 cfg0.N = res2 m c := by
  refine (dats m 0 c).arrAt_eq_of_covers 7 _ (by decide +kernel) fun t hf y => ?_
  obtain ⟨-, -, i, -⟩ := index' t
  have e := (last_holds m c t ((flush0_7 t).mp hf)).dg
  blk_simp
  rw [after0_7, eq_ix2 y]
  refine ((e (y 0) (y 1)).trans ((arrays m c).dGain_parts _)).trans (congrArg (arrays m c).dGain (Fin.ext ?_))
  show (y 1).val = win0_7.index t 1 * 2048 + 1 * (y 1).val
  rw [i]; simp

theorem final8 : (dats m 0 c).arrAt 8 cfg0.N = res3 m c := by
  refine (dats m 0 c).arrAt_eq_of_covers 8 _ (by decide +kernel) fun t hf y => ?_
  obtain ⟨-, -, -, i, -⟩ := index' t
  have ht : t.val < 16 := lt_of_lt_of_eq t.isLt N_eq
  blk_simp
  rw [after0_8, eq_ix2 y]
  refine ((outs_hold m c t.val t.isLt).dy (y 0) (y 1)).trans (congrArg₂ (arrays m c).dOut (Fin.ext ?_) (Fin.ext ?_))
  · show 256 * (t.val % 16) + (y 0).val = win0_8.index t 0 * 256 + 1 * (y 0).val
    rw [i]; simp only [Matrix.cons_val_zero]; omega
  · show (y 1).val = win0_8.index t 1 * 2048 + 1 * (y 1).val
    rw [i]; simp

theorem final9 : (dats m 0 c).arrAt 9 cfg0.N = res4 m c := by
  refine (dats m 0 c).arrAt_eq_of_covers 9 _ (by decide +kernel) fun t hf y => ?_
  obtain ⟨-, -, -, -, i⟩ := index' t
  have e := (last_holds m c t ((flush0_9 t).mp hf)).dgate
  blk_simp
  rw [after0_9, eq_ix2 y]
  refine ((e (y 0) (y 1)).trans ((arrays m c).dGate_parts _)).trans (congrArg (arrays m c).dGate (Fin.ext ?_))
  show (y 1).val = win0_9.index t 1 * 2048 + 1 * (y 1).val
  rw [i]; simp

end Cert.Kernel29Ideal.Grid
-- ==== Proof.LossRef.lean ====
/-
  The loss head's reference, read down to scalars: its five results, entry by entry.
-/
module

public import proofs.«01_k».proof.Proof.Gen.Reference29Ideal.Run
public import proofs.«01_k».proof.Proof.LossSpec

@[expose] public section

set_option maxRecDepth 16384

noncomputable section

namespace Cert.Reference29Ideal.Rows

open Idealize.ShloMosaic Idealize.ShloMosaic.TcCoe
open Cert.Reference29Ideal Cert.Reference29Ideal.Gen Cert.Reference29Ideal.Value Cert.LossHead

variable (x : FVec Ideal S4096x2048 .f32) (g : FVec Ideal S2048 .f32) (t y : FVec Ideal S4096x2048 .f32)
  (gate : FVec Ideal S1x2048 .f32)

/-- The arguments, entry by entry. -/
def arrays : Arrays where
  x r k := x (ix2 r k)
  g k := g (ix1 k)
  t r k := t (ix2 r k)
  y r k := y (ix2 r k)
  gate k := gate (ix2 0 k)

/-! ## The reference's arrays, one step at a time -/

def zero : FVec Ideal S_ .f32 := constant S_ .f32 0x00000000#32
def cols : FVec Ideal S4096x1 .f32 := broadcastInDim S4096x1 ![] bcast_S_S4096x1 (constant S_ .f32 0x45000000#32)
def gVec : FVec Ideal S4096x2048 .f32 :=
  broadcastInDim S4096x2048 ![0, 1] bcast_S1x2048_S4096x2048_0_1 (broadcastInDim S1x2048 ![1] bcast_S2048_S1x2048_1 g)
def msVec : FVec Ideal S4096x1 .f32 :=
  addf (Host.divf (broadcastInDim S4096x1 ![0] bcast_S4096_S4096x1_0
      (Host.reduceAdd (mulf x x) zero reducesTo_S4096x2048_S4096_d1 h_S_)) cols)
    (broadcastInDim S4096x1 ![] bcast_S_S4096x1 (constant S_ .f32 0x358637BD#32))
def rsVec : FVec Ideal S4096x1 .f32 := Host.rsqrt (msVec x)
def rsWide : FVec Ideal S4096x2048 .f32 := broadcastInDim S4096x2048 ![0, 1] bcast_S4096x1_S4096x2048_0_1 (rsVec x)
def xnVec : FVec Ideal S4096x2048 .f32 := mulf x (rsWide x)
def errVec : FVec Ideal S4096x2048 .f32 := subf (mulf (xnVec x) (gVec g)) t
def cotVec : FVec Ideal S4096x2048 .f32 :=
  broadcastInDim S4096x2048 ![0] bcast_S4096_S4096x2048_0
    (Host.divf (broadcastInDim S4096 ![] bcast_S_S4096 (mulf (constant S_ .f32 0x3F000000#32) (constant S_ .f32 0x3F800000#32)))
      (broadcastInDim S4096 ![] bcast_S_S4096 (constant S_ .f32 0x45000000#32)))
def dErrVec : FVec Ideal S4096x2048 .f32 :=
  mulf cotVec (mulf (broadcastInDim S4096x2048 ![] bcast_S_S4096x2048 (constant S_ .f32 0x40000000#32)) (errVec x g t))
def dXnVec : FVec Ideal S4096x2048 .f32 := mulf (dErrVec x g t) (gVec g)
def dMsVec : FVec Ideal S4096x2048 .f32 :=
  broadcastInDim S4096x2048 ![0] bcast_S4096_S4096x2048_0 (Host.reduceAdd
    (Host.divf (mulf
        (shapeCast _ (Host.reduceAdd (mulf x (dXnVec x g t)) zero reducesTo_S4096x2048_S4096_d1 h_S_) shapeCasts_S4096_S4096x1)
        (mulf (broadcastInDim S4096x1 ![] bcast_S_S4096x1 (constant S_ .f32 0xBF000000#32)) (Host.divf (rsVec x) (msVec x))))
      cols) zero reducesTo_S4096x1_S4096_d1 h_S_)
def dxVec : FVec Ideal S4096x2048 .f32 :=
  addf (addf (mulf (dXnVec x g t) (rsWide x)) (mulf x (dMsVec x g t))) (mulf (dMsVec x g t) x)

variable (r : Fin 4096) (c : Fin 2048)

theorem ms_apply : msVec x (ix2 r 0) = ms fun c => x (ix2 r c) := by
  pointwise [msVec, zero, cols]; rfl
theorem rs_apply : rsVec x (ix2 r 0) = rs fun c => x (ix2 r c) := by
  pointwise [rsVec, ms_apply]; rfl
theorem xn_apply : xnVec x (ix2 r c) = xn (fun c => x (ix2 r c)) c := by
  pointwise [xnVec, rsWide, rs_apply]; rfl
theorem err_apply : errVec x g t (ix2 r c) = err (fun c => x (ix2 r c)) (fun c => g (ix1 c)) (fun c => t (ix2 r c)) c := by
  pointwise [errVec, xn_apply, gVec]; rfl
theorem cot_apply : cotVec (ix2 r c) = kCot := by
  pointwise [cotVec]; rfl
theorem dErr_apply : dErrVec x g t (ix2 r c)
    = dErr (fun c => x (ix2 r c)) (fun c => g (ix1 c)) (fun c => t (ix2 r c)) c := by
  rw [← dErr_eq]
  pointwise [dErrVec, err_apply, cot_apply]; rfl
theorem dXn_apply : dXnVec x g t (ix2 r c)
    = dXn (fun c => x (ix2 r c)) (fun c => g (ix1 c)) (fun c => t (ix2 r c)) c := by
  pointwise [dXnVec, dErr_apply, gVec]; rfl
theorem dMs_apply : dMsVec x g t (ix2 r c)
    = dMs (fun c => x (ix2 r c)) (fun c => g (ix1 c)) (fun c => t (ix2 r c)) := by
  pointwise [dMsVec, dXn_apply, rs_apply, ms_apply, zero, cols]
  simp only [Fin.sum_univ_one, rs_apply, ms_apply]
  rfl
theorem dx_apply : dxVec x g t (ix2 r c) = (arrays x g t y gate).dRow r c := by
  pointwise [dxVec, dXn_apply, rsWide, rs_apply, dMs_apply]; rfl

/-! ## The five results -/

theorem out0_eq : broadcastInDim S1x128 ![] bcast_S_S1x128 (mulf (constant S_ .f32 0x3F000000#32) (Host.reduceAdd
      (Host.divf (Host.reduceAdd (mulf (errVec x g t) (errVec x g t)) zero reducesTo_S4096x2048_S4096_d1 h_S_)
        (broadcastInDim S4096 ![] bcast_S_S4096 (constant S_ .f32 0x45000000#32))) zero reducesTo_S4096_S_d0 h_S_))
    = fun _ => (arrays x g t y gate).loss := by
  funext i
  rw [eq_ix2 i]
  pointwise [err_apply, zero]
  rfl
theorem out1_eq : dxVec x g t = fun i => (arrays x g t y gate).dRow (i 0) (i 1) := by
  funext i
  rw [eq_ix2 i]
  exact dx_apply ..
theorem out2_eq : broadcastInDim S1x2048 ![1] bcast_S2048_S1x2048_1 (Host.reduceAdd (shapeCast _ (Host.reduceAdd
      (mulf (xnVec x) (dErrVec x g t)) zero reducesTo_S4096x2048_S2048_d0 h_S_) shapeCasts_S2048_S1x2048)
      zero reducesTo_S1x2048_S2048_d0 h_S_) = fun i => (arrays x g t y gate).dGain (i 1) := by
  funext i
  rw [eq_ix2 i]
  pointwise [xn_apply, dErr_apply, zero]
  rw [Fin.sum_univ_one]
  rfl
theorem out3_eq : truncf .bf16 (mulf (broadcastInDim S4096x2048 ![0, 1] bcast_S1x2048_S4096x2048_0_1 gate) (dxVec x g t))
      bitsLt_bf16_f32 = fun i => (arrays x g t y gate).dOut (i 0) (i 1) := by
  funext i
  rw [eq_ix2 i]
  pointwise []
  exact (congrArg (gate (ix2 0 (i 1)) * ·) ((congrArg (dxVec x g t) (eq_ix2 i)).trans (dx_apply x g t y gate (i 0) (i 1)))).trans
    (mul_comm _ _)
theorem out4_eq : shapeCast _ (Host.reduceAdd (mulf (dxVec x g t) y) zero reducesTo_S4096x2048_S2048_d0 h_S_)
      shapeCasts_S2048_S1x2048 = fun i => (arrays x g t y gate).dGate (i 1) := by
  funext i
  rw [eq_ix2 i]
  pointwise [dx_apply x g t y gate, zero]
  rfl

end Cert.Reference29Ideal.Rows
-- ==== Proof.LossClaims.lean ====
/-
  The loss head's five claims: kernel and reference end with the same loss and the same four gradients.
-/
module

public import proofs.«01_k».proof.Proof.Gen.Kernel29.Frame
public import proofs.«01_k».proof.Proof.LossGrid
public import proofs.«01_k».proof.Proof.LossRef
public import Idealize.ShloMosaic.Lib.Quiescent

@[expose] public section

set_option maxRecDepth 16384

noncomputable section

namespace Cert.Proof.Loss

open Idealize.ShloMosaic Idealize.ShloMosaic.TcCoe Idealize.SL.Sem
open Cert.Kernel29Ideal.Grid

/-- The kernel runs to the end and keeps its operands. -/
theorem frame_kernel : Cert.quiescent_Kernel29 := fun m ρ _ => Cert.Kernel29.Gen.frame m ρ

/-- So does the kernel over the extended reals. -/
theorem frame_ideal : Cert.quiescent_Kernel29Ideal := fun m ρ _ => Cert.Kernel29Ideal.Gen.frame m ρ

/-- So does the reference. -/
theorem frame_reference : Cert.quiescent_Reference29Ideal := fun m ρ _ =>
  (θ_run Cert.Reference29Ideal.defs _ _).mono
    (fun r h => ⟨fun c => (h c).2.2.2.2.2, sem_eq_zero_of_no_sems (by decide) r.2⟩)
    (Cert.Reference29Ideal.Value.run (F := Ideal) m ρ)

/-- No operation of the kernel was replaced. -/
theorem preserves : Cert.preserves_Kernel29_Kernel29Ideal := trivial

/-- Kernel and reference, started on the same operands, end with the same five arrays. -/
theorem algebraic : Cert.algebraic_Kernel29Ideal_Reference29Ideal := by
  intro m ρ m' ρ' _ hagree
  refine ⟨fun c => res0 m c, fun c => res1 m c, fun c => res2 m c, fun c => res3 m c, fun c => res4 m c,
    (θ_run Cert.Kernel29Ideal.defs _ _).mono (fun r h c => ?_) (Cert.Kernel29Ideal.Value.run_blocks m ρ),
    (θ_run Cert.Reference29Ideal.defs _ _).mono (fun r h c => ?_) (Cert.Reference29Ideal.Value.run (F := Ideal) m' ρ')⟩
  · obtain ⟨e0, e1, e2, e3, e4, ha⟩ := h c
    exact ⟨e0.trans (final5 m c), e1.trans (final6 m c), e2.trans (final7 m c), e3.trans (final8 m c),
      e4.trans (final9 m c), ha⟩
  · obtain ⟨a0, a1, a2, a3, a4⟩ := hagree c
    have hA : Cert.Reference29Ideal.Rows.arrays
        (m' ((c.tc : Thread _ Cert.Reference29Ideal.τ).loc Cert.Reference29Ideal.main_arg0))
        (m' ((c.tc : Thread _ Cert.Reference29Ideal.τ).loc Cert.Reference29Ideal.main_arg1))
        (m' ((c.tc : Thread _ Cert.Reference29Ideal.τ).loc Cert.Reference29Ideal.main_arg2))
        (m' ((c.tc : Thread _ Cert.Reference29Ideal.τ).loc Cert.Reference29Ideal.main_arg3))
        (m' ((c.tc : Thread _ Cert.Reference29Ideal.τ).loc Cert.Reference29Ideal.main_arg4)) = arrays m c := by
      rw [a0, a1, a2, a3, a4]
      rfl
    obtain ⟨e0, e1, e2, e3, e4, ha⟩ := h c
    refine ⟨e0.trans ?_, e1.trans ?_, e2.trans ?_, e3.trans ?_, e4.trans ?_, ha⟩
    · exact (Cert.Reference29Ideal.Rows.out0_eq ..).trans (congrArg (fun (A : Cert.LossHead.Arrays) _ => A.loss) hA)
    · exact (Cert.Reference29Ideal.Rows.out1_eq ..).trans
        (congrArg (fun (A : Cert.LossHead.Arrays) (i : Cert.Kernel29Ideal.S4096x2048.Idx) => A.dRow (i 0) (i 1)) hA)
    · exact (Cert.Reference29Ideal.Rows.out2_eq ..).trans
        (congrArg (fun (A : Cert.LossHead.Arrays) (i : Cert.Kernel29Ideal.S1x2048.Idx) => A.dGain (i 1)) hA)
    · exact (Cert.Reference29Ideal.Rows.out3_eq ..).trans
        (congrArg (fun (A : Cert.LossHead.Arrays) (i : Cert.Kernel29Ideal.S4096x2048.Idx) => A.dOut (i 0) (i 1)) hA)
    · exact (Cert.Reference29Ideal.Rows.out4_eq ..).trans
        (congrArg (fun (A : Cert.LossHead.Arrays) (i : Cert.Kernel29Ideal.S1x2048.Idx) => A.dGate (i 1)) hA)

end Cert.Proof.Loss
-- ==== Proof.RwkvNarrow.lean ====
/-
  The products of a recurrent layer's narrow columns (the inputs of the two low-rank products, 256 columns with their
  padding), read off their programs and off the references: the gradient of the weights, the gradient of the input, and
  the forward product. Each is written in tiles of 1024 rows, all summands of an entry at once.
-/

module

public import proofs.«01_k».proof.Defs
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Kernel30.Frame
public import proofs.«01_k».proof.Proof.Gen.Kernel30Ideal.Value
public import proofs.«01_k».proof.Proof.Gen.Reference30Ideal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.ShloMosaic.Tactic Idealize.SL.Sem
open Idealize.ShloMosaic.StableHlo

/-! ## The gradient of the weights -/

namespace Cert.Kernel33Ideal.Product
open Cert.Kernel33Ideal Cert.Kernel33Ideal.Gen Cert.Kernel33Ideal.Value

/-- The gradient of the weights, as an array. -/
def res (h : Vec Ideal S4096x2048 .bf16) (d : Vec Ideal S4096x256 .bf16) : Vec Ideal S2048x256 .f32 :=
  fun i => ∑ k : Fin 4096, h (ix2 k (i 0)) * d (ix2 k (i 1))

/-- The blocks of a step: of the two operands, and of the result. -/
theorem index : ∀ t : Fin cfg0.N, win0_0.index t = ![0, t.val] ∧ win0_1.index t = ![0, 0]
    ∧ win0_2.index t = ![t.val, 0] := (by decide +kernel : ∀ t : Fin grid0.N, _)

variable (m : (ℓ : Loc nD τ sig) → Buf (Elt Ideal) ℓ) (c : Dev nD)

/-- The array the kernel leaves. -/
theorem final : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  obtain ⟨i0, i1, i2⟩ := index t
  blk_simp
  rw [after0_2]
  unfold outsAt0
  frame_out
  pointwise [k0_pay1, res]
  blk_point [iblk, V_main_arg0, V_main_arg1, i0, i1, i2]

end Cert.Kernel33Ideal.Product

namespace Cert.Proof.RwkvNarrowWeights

/-- The kernel runs to the end and keeps its operands. -/
theorem frame_kernel : Cert.quiescent_Kernel33 := fun m ρ _ => Cert.Kernel33.Gen.frame m ρ

/-- So does the kernel over the extended reals. -/
theorem frame_ideal : Cert.quiescent_Kernel33Ideal := fun m ρ _ => Cert.Kernel33Ideal.Gen.frame m ρ

/-- So does the reference. -/
theorem frame_reference : Cert.quiescent_Reference33Ideal := fun m ρ _ =>
  (θ_run Cert.Reference33Ideal.defs _ _).mono
    (fun r h => ⟨fun c => (h c).2, sem_eq_zero_of_no_sems (by decide) r.2⟩)
    (Cert.Reference33Ideal.Value.run (F := Ideal) m ρ)

/-- No operation of the kernel was replaced. -/
theorem preserves : Cert.preserves_Kernel33_Kernel33Ideal := trivial

open Cert.Kernel33Ideal.Product

/-- The reference's product is the same array of sums. -/
theorem value (h : Vec Ideal Cert.Reference33Ideal.S4096x2048 .bf16) (d : Vec Ideal Cert.Reference33Ideal.S4096x256 .bf16) :
    transpose Cert.Reference33Ideal.S2048x256 [1, 0]
      (Host.dotGeneral (F := Ideal) (φ₁ := .f32) (φ₂ := .f32)
        Cert.Reference33Ideal.dot_S4096x256_S4096x2048_S256x2048_0_0_1_1_n_n none
        (extf .f32 d Cert.Reference33Ideal.Gen.bitsLt_bf16_f32)
        (extf .f32 h Cert.Reference33Ideal.Gen.bitsLt_bf16_f32))
      Cert.Reference33Ideal.Gen.transposes_S256x2048_S2048x256_1_0 = res h d := by
  funext i
  rw [eq_ix2 i]
  pointwise [res]
  exact Finset.sum_congr rfl fun k _ => mul_comm _ _

/-- Kernel and reference, started on the same operands, end with the same array. -/
theorem algebraic : Cert.algebraic_Kernel33Ideal_Reference33Ideal := by
  intro m ρ m' ρ' _ hagree
  refine ⟨fun c => res (m ((c.tc : Thread _ Cert.Kernel33Ideal.τ).loc Cert.Kernel33Ideal.main_arg0))
      (m ((c.tc : Thread _ Cert.Kernel33Ideal.τ).loc Cert.Kernel33Ideal.main_arg1)),
    (θ_run Cert.Kernel33Ideal.defs _ _).mono (fun r h c => ⟨(h c).1.trans (final m c), (h c).2⟩)
      (Cert.Kernel33Ideal.Value.run_blocks m ρ), ?_⟩
  refine (θ_run Cert.Reference33Ideal.defs _ _).mono
    (fun r h c => ⟨(h c).1.trans ((value _ _).trans ?_), (h c).2⟩)
    (Cert.Reference33Ideal.Value.run (F := Ideal) m' ρ')
  obtain ⟨e0, e1⟩ := hagree c
  exact congrArg₂ res e0 e1

end Cert.Proof.RwkvNarrowWeights

/-! ## The gradient of the input -/

namespace Cert.Kernel31Ideal.Product
open Cert.Kernel31Ideal Cert.Kernel31Ideal.Gen Cert.Kernel31Ideal.Value

/-- The gradient of the input, as an array. -/
def res (w : Vec Ideal S2048x256 .bf16) (d : Vec Ideal S4096x256 .bf16) : Vec Ideal S4096x2048 .f32 :=
  fun i => ∑ k : Fin 256, d (ix2 (i 0) k) * w (ix2 (i 1) k)

/-- The blocks of a step: of the two operands, and of the result. -/
theorem index : ∀ t : Fin cfg0.N, win0_0.index t = ![t.val / 2, 0] ∧ win0_1.index t = ![t.val % 2, 0]
    ∧ win0_2.index t = ![t.val / 2, t.val % 2] := (by decide +kernel : ∀ t : Fin grid0.N, _)

variable (m : (ℓ : Loc nD τ sig) → Buf (Elt Ideal) ℓ) (c : Dev nD)

/-- The array the kernel leaves. -/
theorem final : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  obtain ⟨i0, i1, i2⟩ := index t
  blk_simp
  rw [after0_2]
  unfold outsAt0
  frame_out
  pointwise [k0_pay1, res]
  blk_point [iblk, V_main_arg0, V_main_arg1, i0, i1, i2]

end Cert.Kernel31Ideal.Product

namespace Cert.Proof.RwkvNarrowInput

/-- The kernel runs to the end and keeps its operands. -/
theorem frame_kernel : Cert.quiescent_Kernel31 := fun m ρ _ => Cert.Kernel31.Gen.frame m ρ

/-- So does the kernel over the extended reals. -/
theorem frame_ideal : Cert.quiescent_Kernel31Ideal := fun m ρ _ => Cert.Kernel31Ideal.Gen.frame m ρ

/-- So does the reference. -/
theorem frame_reference : Cert.quiescent_Reference31Ideal := fun m ρ _ =>
  (θ_run Cert.Reference31Ideal.defs _ _).mono
    (fun r h => ⟨fun c => (h c).2, sem_eq_zero_of_no_sems (by decide) r.2⟩)
    (Cert.Reference31Ideal.Value.run (F := Ideal) m ρ)

/-- No operation of the kernel was replaced. -/
theorem preserves : Cert.preserves_Kernel31_Kernel31Ideal := trivial

open Cert.Kernel31Ideal.Product

/-- The reference's product is the same array of sums. -/
theorem value (w : Vec Ideal Cert.Reference31Ideal.S2048x256 .bf16) (d : Vec Ideal Cert.Reference31Ideal.S4096x256 .bf16) :
    Host.dotGeneral (F := Ideal) (φ₁ := .f32) (φ₂ := .f32)
        Cert.Reference31Ideal.dot_S4096x256_S2048x256_S4096x2048_1_1_0_0_n_n none
        (extf .f32 d Cert.Reference31Ideal.Gen.bitsLt_bf16_f32)
        (extf .f32 w Cert.Reference31Ideal.Gen.bitsLt_bf16_f32) = res w d := by
  funext i
  rw [eq_ix2 i]
  pointwise [res]

/-- Kernel and reference, started on the same operands, end with the same array. -/
theorem algebraic : Cert.algebraic_Kernel31Ideal_Reference31Ideal := by
  intro m ρ m' ρ' _ hagree
  refine ⟨fun c => res (m ((c.tc : Thread _ Cert.Kernel31Ideal.τ).loc Cert.Kernel31Ideal.main_arg0))
      (m ((c.tc : Thread _ Cert.Kernel31Ideal.τ).loc Cert.Kernel31Ideal.main_arg1)),
    (θ_run Cert.Kernel31Ideal.defs _ _).mono (fun r h c => ⟨(h c).1.trans (final m c), (h c).2⟩)
      (Cert.Kernel31Ideal.Value.run_blocks m ρ), ?_⟩
  refine (θ_run Cert.Reference31Ideal.defs _ _).mono
    (fun r h c => ⟨(h c).1.trans ((value _ _).trans ?_), (h c).2⟩)
    (Cert.Reference31Ideal.Value.run (F := Ideal) m' ρ')
  obtain ⟨e0, e1⟩ := hagree c
  exact congrArg₂ res e0 e1

end Cert.Proof.RwkvNarrowInput

/-! ## The product of the narrow columns -/

namespace Cert.Kernel30Ideal.Product
open Cert.Kernel30Ideal Cert.Kernel30Ideal.Gen Cert.Kernel30Ideal.Value

/-- The product of the narrow columns, as an array. -/
def res (h : Vec Ideal S4096x2048 .bf16) (w : Vec Ideal S2048x256 .bf16) : Vec Ideal S4096x256 .f32 :=
  fun i => ∑ k : Fin 2048, h (ix2 (i 0) k) * w (ix2 k (i 1))

/-- The blocks of a step: of the two operands, and of the result. -/
theorem index : ∀ t : Fin cfg0.N, win0_0.index t = ![t.val, 0] ∧ win0_1.index t = ![0, 0]
    ∧ win0_2.index t = ![t.val, 0] := (by decide +kernel : ∀ t : Fin grid0.N, _)

variable (m : (ℓ : Loc nD τ sig) → Buf (Elt Ideal) ℓ) (c : Dev nD)

/-- The array the kernel leaves. -/
theorem final : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  obtain ⟨i0, i1, i2⟩ := index t
  blk_simp
  rw [after0_2]
  unfold outsAt0
  frame_out
  pointwise [k0_pay1, res]
  blk_point [iblk, V_main_arg0, V_main_arg1, i0, i1, i2]

end Cert.Kernel30Ideal.Product

namespace Cert.Proof.RwkvNarrow

/-- The kernel runs to the end and keeps its operands. -/
theorem frame_kernel : Cert.quiescent_Kernel30 := fun m ρ _ => Cert.Kernel30.Gen.frame m ρ

/-- So does the kernel over the extended reals. -/
theorem frame_ideal : Cert.quiescent_Kernel30Ideal := fun m ρ _ => Cert.Kernel30Ideal.Gen.frame m ρ

/-- So does the reference. -/
theorem frame_reference : Cert.quiescent_Reference30Ideal := fun m ρ _ =>
  (θ_run Cert.Reference30Ideal.defs _ _).mono
    (fun r h => ⟨fun c => (h c).2, sem_eq_zero_of_no_sems (by decide) r.2⟩)
    (Cert.Reference30Ideal.Value.run (F := Ideal) m ρ)

/-- No operation of the kernel was replaced. -/
theorem preserves : Cert.preserves_Kernel30_Kernel30Ideal := trivial

open Cert.Kernel30Ideal.Product

/-- The reference's product is the same array of sums. -/
theorem value (h : Vec Ideal Cert.Reference30Ideal.S4096x2048 .bf16) (w : Vec Ideal Cert.Reference30Ideal.S2048x256 .bf16) :
    Host.dotGeneral (F := Ideal) (φ₁ := .f32) (φ₂ := .f32)
        Cert.Reference30Ideal.dot_S4096x2048_S2048x256_S4096x256_1_0_0_1_n_n none
        (extf .f32 h Cert.Reference30Ideal.Gen.bitsLt_bf16_f32)
        (extf .f32 w Cert.Reference30Ideal.Gen.bitsLt_bf16_f32) = res h w := by
  funext i
  rw [eq_ix2 i]
  pointwise [res]

/-- Kernel and reference, started on the same operands, end with the same array. -/
theorem algebraic : Cert.algebraic_Kernel30Ideal_Reference30Ideal := by
  intro m ρ m' ρ' _ hagree
  refine ⟨fun c => res (m ((c.tc : Thread _ Cert.Kernel30Ideal.τ).loc Cert.Kernel30Ideal.main_arg0))
      (m ((c.tc : Thread _ Cert.Kernel30Ideal.τ).loc Cert.Kernel30Ideal.main_arg1)),
    (θ_run Cert.Kernel30Ideal.defs _ _).mono (fun r h c => ⟨(h c).1.trans (final m c), (h c).2⟩)
      (Cert.Kernel30Ideal.Value.run_blocks m ρ), ?_⟩
  refine (θ_run Cert.Reference30Ideal.defs _ _).mono
    (fun r h c => ⟨(h c).1.trans ((value _ _).trans ?_), (h c).2⟩)
    (Cert.Reference30Ideal.Value.run (F := Ideal) m' ρ')
  obtain ⟨e0, e1⟩ := hagree c
  exact congrArg₂ res e0 e1

end Cert.Proof.RwkvNarrow

end
-- ==== Proof.AdaNorm.lean ====
/-
  The normalisation in front of the last layer: every row over the root of its mean square, times the gain, scaled and
  shifted by the conditioning's two vectors and rounded. The kernel writes it in blocks of 256 rows. Claims and proofs.
-/
module

public import proofs.«01_k».proof.Defs
public import proofs.«01_k».proof.Proof.Gen.Kernel32.Frame
public import proofs.«01_k».proof.Proof.Gen.Kernel32Ideal.Value
public import proofs.«01_k».proof.Proof.Gen.Reference32Ideal.Run
public import proofs.«01_k».proof.Proof.LossSpec
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.ShloMosaic.Tactic Idealize.SL.Sem
open Idealize.ShloMosaic.StableHlo

namespace Cert.Kernel32Ideal.Norm
open Cert.Kernel32Ideal Cert.Kernel32Ideal.Gen Cert.Kernel32Ideal.Value

/-- An entry of the normalised, scaled and shifted row `x`: `g` the gain's, `s` the shift's and `e` the scale's entry. -/
def entry (x : Fin 2048 → EReal) (g s e : EReal) (k : Fin 2048) : EReal :=
  Cert.LossHead.xn x k * g * (1 + e) + s

/-- The normalised rows, as an array. -/
def res (x : Vec Ideal S4096x2048 .f32) (g s e : Vec Ideal S1x2048 .f32) : Vec Ideal S4096x2048 .bf16 :=
  fun i => entry (fun k => x (ix2 (i 0) k)) (g (ix2 0 (i 1))) (s (ix2 0 (i 1))) (e (ix2 0 (i 1))) (i 1)

/-- The stored block, entry by entry. -/
theorem pay_apply (x : Vec Ideal S256x2048 .f32) (g s e : Vec Ideal S1x2048 .f32) (r : Fin 256) (k : Fin 2048) :
    k0_pay1 x g s e (ix2 r k) = entry (fun j => x (ix2 r j)) (g (ix2 0 k)) (s (ix2 0 k)) (e (ix2 0 k)) k := by
  pointwise [k0_pay1]
  rfl

theorem N_eq : cfg0.N = 16 := N_0

/-- The blocks of a step: of the operands, and of the result. -/
theorem index : ∀ t : Fin cfg0.N, win0_0.index t = ![t.val, 0] ∧ win0_1.index t = ![0, 0] ∧ win0_2.index t = ![0, 0]
    ∧ win0_3.index t = ![0, 0] ∧ win0_4.index t = ![t.val, 0] := (by decide +kernel : ∀ t : Fin grid0.N, _)

variable (m : (ℓ : Loc nD τ sig) → Buf (Elt Ideal) ℓ) (c : Dev nD)

/-- The array the kernel leaves. -/
def out : Vec Ideal S4096x2048 .bf16 := res (m ((c : Thread nD τ).loc main_arg0)) (m ((c : Thread nD τ).loc main_arg1))
  (m ((c : Thread nD τ).loc main_arg2)) (m ((c : Thread nD τ).loc main_arg3))

theorem final : (dats m 0 c).arrAt 4 cfg0.N = out m c := by
  refine (dats m 0 c).arrAt_eq_of_covers 4 _ (by decide +kernel) fun t hf y => ?_
  obtain ⟨i0, i1, i2, i3, i4⟩ := index t
  have ht : t.val < 16 := lt_of_lt_of_eq t.isLt N_eq
  blk_simp
  rw [after0_4]
  frame_out
  rw [eq_ix2 y]
  refine (pay_apply _ _ _ _ (y 0) (y 1)).trans ?_
  unfold out res
  blk_point [iblk, V_main_arg0, V_main_arg1, V_main_arg2, V_main_arg3, i0, i1, i2, i3, i4]

end Cert.Kernel32Ideal.Norm

namespace Cert.Proof.AdaNorm
open Cert.Kernel32Ideal.Norm

/-- The kernel runs to the end and keeps its operands. -/
theorem frame_kernel : Cert.quiescent_Kernel32 := fun m ρ _ => Cert.Kernel32.Gen.frame m ρ

/-- So does the kernel over the extended reals. -/
theorem frame_ideal : Cert.quiescent_Kernel32Ideal := fun m ρ _ => Cert.Kernel32Ideal.Gen.frame m ρ

/-- So does the reference. -/
theorem frame_reference : Cert.quiescent_Reference32Ideal := fun m ρ _ =>
  (θ_run Cert.Reference32Ideal.defs _ _).mono
    (fun r h => ⟨fun c => (h c).2, sem_eq_zero_of_no_sems (by decide) r.2⟩)
    (Cert.Reference32Ideal.Value.run (F := Ideal) m ρ)

/-- No operation of the kernel was replaced. -/
theorem preserves : Cert.preserves_Kernel32_Kernel32Ideal := trivial

section
open Cert.Reference32Ideal Cert.Reference32Ideal.Gen

/-- The reference's array is the same, entry by entry. -/
theorem value (x : FVec Ideal S4096x2048 .f32) (g s e : FVec Ideal S1x2048 .f32) :
    truncf .bf16 (addf (mulf (mulf (mulf x
      (broadcastInDim S4096x2048 ![0, 1] bcast_S4096x1_S4096x2048_0_1 (Host.rsqrt (addf (Host.divf
        (broadcastInDim S4096x1 ![0] bcast_S4096_S4096x1_0
          (Host.reduceAdd (mulf x x) (constant S_ .f32 0x00000000#32) reducesTo_S4096x2048_S4096_d1 h_S_))
        (broadcastInDim S4096x1 ![] bcast_S_S4096x1 (constant S_ .f32 0x45000000#32)))
        (broadcastInDim S4096x1 ![] bcast_S_S4096x1 (constant S_ .f32 0x358637BD#32))))))
      (broadcastInDim S4096x2048 ![0, 1] bcast_S1x2048_S4096x2048_0_1 g))
      (broadcastInDim S4096x2048 ![0, 1] bcast_S1x2048_S4096x2048_0_1
        (addf (broadcastInDim S1x2048 ![] bcast_S_S1x2048 (constant S_ .f32 0x3F800000#32)) e)))
      (broadcastInDim S4096x2048 ![0, 1] bcast_S1x2048_S4096x2048_0_1 s)) bitsLt_bf16_f32 = res x g s e := by
  funext i
  obtain ⟨r, k, rfl⟩ : ∃ r k, i = ix2 r k := ⟨_, _, eq_ix2 i⟩
  pointwise []
  rfl

end

/-- Kernel and reference, started on the same operands, end with the same rows. -/
theorem algebraic : Cert.algebraic_Kernel32Ideal_Reference32Ideal := by
  intro m ρ m' ρ' _ hagree
  refine ⟨fun c => out m c,
    (θ_run Cert.Kernel32Ideal.defs _ _).mono (fun r h c => ⟨(h c).1.trans (final m c), (h c).2⟩)
      (Cert.Kernel32Ideal.Value.run_blocks m ρ),
    (θ_run Cert.Reference32Ideal.defs _ _).mono (fun r h c => ⟨(h c).1.trans ?_, (h c).2⟩)
      (Cert.Reference32Ideal.Value.run (F := Ideal) m' ρ')⟩
  obtain ⟨a0, a1, a2, a3⟩ := hagree c
  refine (value ..).trans ?_
  rw [a0, a1, a2, a3]
  rfl

end Cert.Proof.AdaNorm
-- ==== Proof.SgForwardKernel.lean ====
/-
  The forward pass of the chunked spatial gating, from the kernel's side: grid point `n` writes chunk `n` of the result,
  `gelu u * f * silu z` with the mix `f` of the normalised values. The sixteen groups' products are put side by side, and
  a product with a selector adds the bias of each column's group.
-/
module

public import proofs.«01_k».proof.Proof.Gen.Kernel34Ideal.Value
public import proofs.«01_k».proof.Proof.KMix
public import proofs.«01_k».proof.Proof.Whole
public import Idealize.ShloMosaic.Lib.Pipeline.ValueKit

@[expose] public section

set_option maxRecDepth 16384

noncomputable section

open Idealize.ShloMosaic Idealize.ShloMosaic.TcCoe Idealize.ShloMosaic.Tactic

namespace Cert.Gating

/-- The forward pass. -/
def Chunk.out (K : Chunk) (t : Fin 128) (c : Fin 2048) : EReal := (gelu (K.u t c) * K.f t c) * silu (K.z t c)

/-- The forward pass over all rows, as an array of the arguments. -/
def forward (p : (⟨2, ![4096, 6144]⟩ : Shape).Idx → EReal) (lg lb : (⟨2, ![1, 2048]⟩ : Shape).Idx → EReal)
    (w : (⟨3, ![16, 128, 128]⟩ : Shape).Idx → EReal) (b : (⟨2, ![16, 128]⟩ : Shape).Idx → EReal) (n : Fin 32) : Chunk :=
  chunkOf (fun r k => p (ix2 r k)) (fun k => lg (ix2 0 k)) (fun k => lb (ix2 0 k)) (fun g t s => w (ix3 g t s))
    (fun g t => b (ix2 g t)) (fun _ _ => 0) n

end Cert.Gating

namespace Cert.Kernel34Ideal.Mix

open Cert.Kernel34Ideal Cert.Kernel34Ideal.Gen Cert.Kernel34Ideal.Value Cert.Gating

variable (x0 : Vec Ideal S128x6144 .f32) (x1 x2 : Vec Ideal S1x2048 .f32) (x3 : Vec Ideal S16x128x128 .f32)
  (x4 : Vec Ideal S128x128 .f32)

/-- The chunk a grid point's blocks hold. -/
def chunk : Chunk := Cert.KernelIdeal.Block.chunk x0 x1 x2 x3 x4 fun _ => 0

/-! ## The normalised values -/

/-- The normalised values. -/
def vnVec : FVec Ideal S128x2048 .f32 := k0_pay9 x1 x2 (k0_pay6 x0) (k0_pay7 x0) k0_pay8

theorem gelu_v (s : Fin 128) (c : Fin 2048) : k0_pay6 x0 (ix2 s c) = gelu (x0 (ix2 s (vCol c))) := by
  pointwise [k0_pay6]; rfl

theorem vn_apply (s : Fin 128) (c : Fin 2048) : vnVec x0 x1 x2 (ix2 s c) = (chunk x0 x1 x2 x3 x4).vn s c := by
  unfold vnVec
  pointwise [k0_pay9, k0_pay7, k0_pay8, gelu_v]; rfl

/-! ## The mix -/

theorem select_mask (t s : Fin 128) (a b : EReal) :
    Scalar.select (k0_pay10 (ix2 t s)) a b = if s ≤ t then a else b := Cert.KernelIdeal.Block.select_mask t s a b

/-- The products of the sixteen groups. -/
def piece (vn : FVec Ideal S128x2048 .f32) : Fin 16 → FVec Ideal S128x128 .f32 :=
  ![k0_pay11 x1 x2 x3 (k0_pay6 x0) (k0_pay7 x0) k0_pay8, k0_pay12 x1 x2 x3 (k0_pay6 x0) (k0_pay7 x0) k0_pay8,
    k0_pay13 x1 x2 x3 (k0_pay6 x0) (k0_pay7 x0) k0_pay8, k0_pay15 vn (k0_pay14 x3), k0_pay16 x3 vn k0_pay10,
    k0_pay17 x3 vn k0_pay10, k0_pay18 x3 vn k0_pay10, k0_pay19 x3 vn k0_pay10, k0_pay20 x3 vn k0_pay10,
    k0_pay22 vn (k0_pay21 x3 k0_pay10), k0_pay23 x3 vn k0_pay10, k0_pay24 x3 vn k0_pay10, k0_pay25 x3 vn k0_pay10,
    k0_pay26 x3 vn k0_pay10, k0_pay27 x3 vn k0_pay10, k0_pay1 vn (k0_pay28 x3 k0_pay10)]

/-- Each is the group's causal weights times its columns. -/
theorem piece_apply (g : Fin 16) (t l : Fin 128) : piece x0 x1 x2 x3 (vnVec x0 x1 x2) g (ix2 t l)
    = ∑ s, Cert.KernelIdeal.Block.wCausal x3 g t s * vnVec x0 x1 x2 (ix2 s (col g l)) := by
  fin_cases g
  · show k0_pay11 x1 x2 x3 (k0_pay6 x0) (k0_pay7 x0) k0_pay8 (ix2 t l)
      = ∑ s, Cert.KernelIdeal.Block.wCausal x3 0 t s * vnVec x0 x1 x2 (ix2 s (col 0 l))
    rw [show col 0 l = (⟨l.val, by omega⟩ : Fin 2048) from Fin.ext (by simp only [col]; simp)]
    pointwise [k0_pay11, select_mask]; rfl
  · show k0_pay12 _ _ _ _ _ _ _ = _
    pointwise [k0_pay12, select_mask]; rfl
  · show k0_pay13 _ _ _ _ _ _ _ = _
    pointwise [k0_pay13, select_mask]; rfl
  · show k0_pay15 _ _ _ = _
    pointwise [k0_pay15, k0_pay14, select_mask]; rfl
  · show k0_pay16 _ _ _ _ = _
    pointwise [k0_pay16, select_mask]; rfl
  · show k0_pay17 _ _ _ _ = _
    pointwise [k0_pay17, select_mask]; rfl
  · show k0_pay18 _ _ _ _ = _
    pointwise [k0_pay18, select_mask]; rfl
  · show k0_pay19 _ _ _ _ = _
    pointwise [k0_pay19, select_mask]; rfl
  · show k0_pay20 _ _ _ _ = _
    pointwise [k0_pay20, select_mask]; rfl
  · show k0_pay22 _ _ _ = _
    pointwise [k0_pay22, k0_pay21, select_mask]; rfl
  · show k0_pay23 _ _ _ _ = _
    pointwise [k0_pay23, select_mask]; rfl
  · show k0_pay24 _ _ _ _ = _
    pointwise [k0_pay24, select_mask]; rfl
  · show k0_pay25 _ _ _ _ = _
    pointwise [k0_pay25, select_mask]; rfl
  · show k0_pay26 _ _ _ _ = _
    pointwise [k0_pay26, select_mask]; rfl
  · show k0_pay27 _ _ _ _ = _
    pointwise [k0_pay27, select_mask]; rfl
  · show k0_pay1 _ _ _ = _
    pointwise [k0_pay1, k0_pay28, select_mask]; rfl

/-- The products side by side. -/
def mixVec : FVec Ideal S128x2048 .f32 :=
  concatenate S128x2048 1
    (List.ofFn fun n : Fin 16 => (⟨S128x128, piece x0 x1 x2 x3 (vnVec x0 x1 x2) n⟩ : (s : Shape) × (s.Idx → Ideal .f32)))
    concatenates_S128x128_S128x128_S128x128_S128x128_S128x128_S128x128_S128x128_S128x128_S128x128_S128x128_S128x128_S128x128_S128x128_S128x128_S128x128_S128x128_S128x2048_d1

theorem mix_apply (t : Fin 128) (c : Fin 2048) : mixVec x0 x1 x2 x3 (ix2 t c)
    = ∑ s, (chunk x0 x1 x2 x3 x4).wm (grp c) t s * (chunk x0 x1 x2 x3 x4).vn s c := by
  have e : mixVec x0 x1 x2 x3 (ix2 t c) = piece x0 x1 x2 x3 (vnVec x0 x1 x2) (grp c) (ix2 t (lane c)) :=
    Cert.KernelIdeal.Block.side_by_side (piece x0 x1 x2 x3 (vnVec x0 x1 x2)) _ t c
  rw [e, piece_apply, col_grp_lane]
  exact Finset.sum_congr rfl fun s _ => congrArg _ (vn_apply x0 x1 x2 x3 x4 s c)

/-! ## The block -/

/-- The kernel's selector: 1 in the row of the column's group, and 0 elsewhere. -/
def selector : FVec Ideal S128x2048 .f32 :=
  Cert.KernelIdeal.Gen.k0_pay84 Cert.KernelIdeal.Block.rowNumbers Cert.KernelIdeal.Gen.k0_pay81
    Cert.KernelIdeal.Gen.k0_pay82 Cert.KernelIdeal.Gen.k0_pay83

/-- The stored block: gelu of `u`, times the mix with its bias, times the gate. -/
theorem stored_eq (b : FVec Ideal S128x128 .f32) (z u f : FVec Ideal S128x2048 .f32) :
    k0_pay2 b z u f = truncf .bf16 (mulf (mulf u (addf f
        (matmul dot_S128x128_S128x2048_S128x2048_1_0_0_1_n_n (some .fp32) b selector (constant S128x2048 .f32 0x00000000#32))))
      (mulf z (logistic z))) bitsLt_bf16_f32 := rfl

theorem selector_apply (l : Fin 128) (c : Fin 2048) : selector (ix2 l c) = if l.val = (grp c).val then 1 else 0 :=
  Cert.KernelIdeal.Block.selector_apply l c

/-- The product with the selector picks the bias of the column's group. -/
theorem pick (b : Fin 128 → EReal) (c : Fin 2048) (h : (grp c).val < 128) :
    ∑ l : Fin 128, b l * (if l.val = (grp c).val then 1 else 0) = b ⟨(grp c).val, h⟩ := by
  rw [Finset.sum_eq_single (⟨(grp c).val, h⟩ : Fin 128)]
  · simp
  · intro l _ hl
    rw [if_neg fun e => hl (Fin.ext e), mul_zero]
  · intro h; exact absurd (Finset.mem_univ _) h

/-- The block a grid point stores. -/
def stored : FVec Ideal S128x2048 .bf16 := k0_pay2 (k0_pay3 x4) (k0_pay4 x0) (k0_pay5 x0) (mixVec x0 x1 x2 x3)

theorem stored_apply (t : Fin 128) (c : Fin 2048) : stored x0 x1 x2 x3 x4 (ix2 t c) = (chunk x0 x1 x2 x3 x4).out t c := by
  unfold stored
  rw [stored_eq]
  pointwise [k0_pay3, k0_pay4, k0_pay5, mix_apply x0 x1 x2 x3 x4, selector_apply]
  rw [pick (fun l => x4 (ix2 t l)) c (by have := (grp c).isLt; omega)]
  rfl

end Cert.Kernel34Ideal.Mix
-- ==== Proof.SgForwardRef.lean ====
/-
  The forward pass of the chunked spatial gating, from the reference's side, stage by stage: gelu, the layer norm, the
  masked weights, the mix with its bias and the gate.
-/
module

public import proofs.«01_k».proof.Proof.Gen.Reference34Ideal.Run
public import proofs.«01_k».proof.Proof.RMix
public import proofs.«01_k».proof.Proof.SgForwardKernel

@[expose] public section

set_option maxRecDepth 16384

noncomputable section

open Idealize.ShloMosaic Idealize.ShloMosaic.TcCoe Idealize.ShloMosaic.Tactic

namespace Cert.Reference34Ideal.Mix

open Cert.Reference34Ideal Cert.Reference34Ideal.Gen Cert.Reference34Ideal.Value Cert.Gating

/-! ## The stages -/

/-- gelu of every entry. -/
def geluVec (x : FVec Ideal S4096x2048 .f32) : FVec Ideal S4096x2048 .f32 :=
  mulf x (mulf (broadcastInDim S4096x2048 ![] bcast_S_S4096x2048 (constant S_ .f32 0x3F000000#32))
    (addf (broadcastInDim S4096x2048 ![] bcast_S_S4096x2048 (constant S_ .f32 0x3F800000#32))
      (Host.tanh (mulf (broadcastInDim S4096x2048 ![] bcast_S_S4096x2048 (constant S_ .f32 0x3F4C422A#32))
        (addf x (mulf (broadcastInDim S4096x2048 ![] bcast_S_S4096x2048 (constant S_ .f32 0x3D372713#32)) (mulf (mulf x x) x)))))))

/-- Every row's mean, as a column. -/
def meanVec (y : FVec Ideal S4096x2048 .f32) : FVec Ideal S4096x1 .f32 :=
  Host.divf (broadcastInDim S4096x1 ![0] bcast_S4096_S4096x1_0
    (Host.reduceAdd y (constant S_ .f32 0x00000000#32) reducesTo_S4096x2048_S4096_d1 h_S_))
    (broadcastInDim S4096x1 ![] bcast_S_S4096x1 (constant S_ .f32 0x45000000#32))

/-- The distances from the row's mean. -/
def difVec (y : FVec Ideal S4096x2048 .f32) : FVec Ideal S4096x2048 .f32 :=
  subf y (broadcastInDim S4096x2048 ![0, 1] bcast_S4096x1_S4096x2048_0_1 (meanVec y))

/-- The layer norm of every row. -/
def normVec (y : FVec Ideal S4096x2048 .f32) (lg lb : FVec Ideal S1x2048 .f32) : FVec Ideal S4096x2048 .f32 :=
  addf (mulf (mulf (difVec y)
      (broadcastInDim S4096x2048 ![0, 1] bcast_S4096x1_S4096x2048_0_1
        (Host.rsqrt (addf (meanVec (mulf (difVec y) (difVec y)))
          (broadcastInDim S4096x1 ![] bcast_S_S4096x1 (constant S_ .f32 0x3727C5AC#32))))))
      (broadcastInDim S4096x2048 ![0, 1] bcast_S1x2048_S4096x2048_0_1 lg))
    (broadcastInDim S4096x2048 ![0, 1] bcast_S1x2048_S4096x2048_0_1 lb)

/-- The causal mask, for every group. -/
def maskVec : IVec S16x128x128 1 :=
  broadcastInDim S16x128x128 ![0, 1, 2] bcast_S1x128x128_S16x128x128_0_1_2
    (broadcastInDim S1x128x128 ![1, 2] bcast_S128x128_S1x128x128_1_2
      (select (cmpi .sge (addi (iotaInDim S128x128 32 0) (broadcastInDim S128x128 ![] bcast_S_S128x128 (constantI S_ 32 0#32)))
          (iotaInDim S128x128 32 1))
        (broadcastInDim S128x128 ![] bcast_S_S128x128 (constantI S_ 1 1#1))
        (broadcastInDim S128x128 ![] bcast_S_S128x128 (constantI S_ 1 0#1))))

/-- The causal weights. -/
def weightVec (w : FVec Ideal S16x128x128 .f32) : FVec Ideal S16x128x128 .f32 :=
  select maskVec w (broadcastInDim S16x128x128 ![] bcast_S_S16x128x128 (constant S_ .f32 0x00000000#32))

/-- The mix with its bias. -/
def mixVec (vn : FVec Ideal S4096x2048 .f32) (w : FVec Ideal S16x128x128 .f32) (b : FVec Ideal S16x128 .f32) :
    FVec Ideal S4096x2048 .f32 :=
  shapeCast _ (addf (transpose S32x128x16x128 [1, 3, 0, 2]
      (Host.dotGeneral dot_S32x128x16x128_S16x128x128_S16x32x128x128_1_2_03_1_2_0 none
        (shapeCast _ vn shapeCasts_S4096x2048_S32x128x16x128) (weightVec w))
      transposes_S16x32x128x128_S32x128x16x128_1_3_0_2)
    (broadcastInDim S32x128x16x128 ![0, 1, 2, 3] bcast_S1x128x16x1_S32x128x16x128_0_1_2_3
      (broadcastInDim S1x128x16x1 ![1, 2, 3] bcast_S128x16x1_S1x128x16x1_1_2_3
        (broadcastInDim S128x16x1 ![0, 1] bcast_S128x16_S128x16x1_0_1
          (transpose S128x16 [1, 0] b transposes_S16x128_S128x16_1_0)))))
    shapeCasts_S32x128x16x128_S4096x2048

/-- `z` times its logistic. -/
def gateVec (z : FVec Ideal S4096x2048 .f32) : FVec Ideal S4096x2048 .f32 :=
  mulf z (Host.divf (broadcastInDim S4096x2048 ![] bcast_S_S4096x2048 (constant S_ .f32 0x3F800000#32))
    (addf (broadcastInDim S4096x2048 ![] bcast_S_S4096x2048 (constant S_ .f32 0x3F800000#32)) (Host.exp (Host.negf z))))

/-- The result, of the arguments. -/
def outVec (p : FVec Ideal S4096x6144 .f32) (lg lb : FVec Ideal S1x2048 .f32) (w : FVec Ideal S16x128x128 .f32)
    (b : FVec Ideal S16x128 .f32) : FVec Ideal S4096x2048 .bf16 :=
  truncf .bf16 (mulf (mulf (geluVec (extractStridedSlice S4096x2048 ![0, 0] p slices_S4096x6144_S4096x2048_0_0))
      (mixVec (normVec (geluVec (extractStridedSlice S4096x2048 ![0, 2048] p slices_S4096x6144_S4096x2048_0_2048)) lg lb) w b))
    (gateVec (extractStridedSlice S4096x2048 ![0, 4096] p slices_S4096x6144_S4096x2048_0_4096))) bitsLt_bf16_f32

theorem result_eq (m : (ℓ : Loc nD τ sig) → Buf (Elt Ideal) ℓ) (c : Dev nD) :
    res_main_v68 m c = outVec (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := rfl

/-! ## Entry by entry -/

variable (r : Fin 4096) (k : Fin 2048)

theorem gelu_apply (x : FVec Ideal S4096x2048 .f32) : geluVec x (ix2 r k) = gelu (x (ix2 r k)) := by
  unfold geluVec
  pointwise [Cert.ReferenceIdeal.Rows.cube]; rfl

theorem mean_apply (y : FVec Ideal S4096x2048 .f32) : meanVec y (ix2 r 0) = Ideal.div (∑ j, y (ix2 r j)) kCols := by
  unfold meanVec
  pointwise []; rfl

theorem dif_apply (y : FVec Ideal S4096x2048 .f32) :
    difVec y (ix2 r k) = y (ix2 r k) - Ideal.div (∑ j, y (ix2 r j)) kCols := by
  unfold difVec
  pointwise [mean_apply]

/-- The layer norm of gelu of a row. -/
theorem norm_apply (x : FVec Ideal S4096x2048 .f32) (lg lb : FVec Ideal S1x2048 .f32) :
    normVec (geluVec x) lg lb (ix2 r k)
      = norm (fun j => x (ix2 r j)) (fun j => lg (ix2 0 j)) (fun j => lb (ix2 0 j)) k := by
  unfold normVec
  pointwise [mean_apply, dif_apply, gelu_apply]; rfl

theorem gate_apply (z : FVec Ideal S4096x2048 .f32) : gateVec z (ix2 r k) = silu (z (ix2 r k)) := by
  unfold gateVec
  pointwise []; rfl

/-- The mask is the one of the gradient's reference. -/
theorem mask_apply (g : Fin 16) (t s : Fin 128) : maskVec (ix3 g t s) = if s ≤ t then 1#1 else 0#1 :=
  Cert.ReferenceIdeal.Rows.v77_1_apply (fun _ => default) t s g

theorem weight_apply (w : FVec Ideal S16x128x128 .f32) (g : Fin 16) (t s : Fin 128) :
    weightVec w (ix3 g t s) = if s ≤ t then w (ix3 g t s) else 0 := by
  unfold weightVec
  pointwise [mask_apply]
  by_cases h : s ≤ t
  · rw [if_pos h, if_pos h]; rfl
  · rw [if_neg h, if_neg h]; rfl

open Cert.ReferenceIdeal.Rows in
theorem mix_apply (vn : FVec Ideal S4096x2048 .f32) (w : FVec Ideal S16x128x128 .f32) (b : FVec Ideal S16x128 .f32)
    (n : Fin 32) (t : Fin 128) : mixVec vn w b (ix2 (row n t) k)
      = (∑ s, (if s ≤ t then w (ix3 (grp k) t s) else 0) * vn (ix2 (row n s) k)) + b (ix2 (grp k) t) := by
  unfold mixVec
  pointwise [weight_apply]
  simp only [chunk_place, in_place, grp_place, lane_place, row_place, col_place, col_grp_lane]
  refine congrArg (· + b (ix2 (grp k) t)) (Finset.sum_congr rfl fun s _ => (mul_comm _ _).trans ?_)
  have e : ∀ h, (⟨(row n t).val / 128 * 128 + s.val, h⟩ : Fin 4096) = row n s := fun h =>
    Fin.ext (by simp only [row]; omega)
  rw [e]

/-- The result is the forward pass of the row's chunk. -/
theorem out_apply (p : FVec Ideal S4096x6144 .f32) (lg lb : FVec Ideal S1x2048 .f32) (w : FVec Ideal S16x128x128 .f32)
    (b : FVec Ideal S16x128 .f32) (n : Fin 32) (t : Fin 128) :
    outVec p lg lb w b (ix2 (row n t) k) = (forward p lg lb w b n).out t k := by
  unfold outVec
  pointwise [gelu_apply, mix_apply, norm_apply, gate_apply]
  rfl

end Cert.Reference34Ideal.Mix
-- ==== Proof.SgForward.lean ====
/-
  The forward pass of the chunked spatial gating: grid point `n` of the kernel works on chunk `n` of 128 rows. Claims and
  proofs.
-/
module

public import proofs.«01_k».proof.Defs
public import proofs.«01_k».proof.Proof.Gen.Kernel34.Frame
public import proofs.«01_k».proof.Proof.SgForwardRef
public import Idealize.ShloMosaic.Lib.Quiescent

@[expose] public section

set_option maxRecDepth 16384

noncomputable section

open Idealize.ShloMosaic Idealize.ShloMosaic.TcCoe Idealize.ShloMosaic.Tactic Idealize.SL.Sem
open Idealize.ShloMosaic.StableHlo

namespace Cert.Kernel34Ideal.Mix

open Cert.Kernel34Ideal Cert.Kernel34Ideal.Gen Cert.Kernel34Ideal.Value Cert.Gating

/-- The forward pass, as an array. -/
def res (p : Vec Ideal S4096x6144 .f32) (lg lb : Vec Ideal S1x2048 .f32) (w : Vec Ideal S16x128x128 .f32)
    (b : Vec Ideal S16x128 .f32) : Vec Ideal S4096x2048 .bf16 :=
  fun i => (forward p lg lb w b (chunkNo (i 0))).out (rowIn (i 0)) (i 1)

variable (m : (ℓ : Loc nD τ sig) → Buf (Elt Ideal) ℓ) (c : Dev nD)

/-- The arguments, as arrays. -/
def arg0 : Vec Ideal S4096x6144 .f32 := m ((c : Thread nD τ).loc main_arg0)
def arg1 : Vec Ideal S1x2048 .f32 := m ((c : Thread nD τ).loc main_arg1)
def arg2 : Vec Ideal S1x2048 .f32 := m ((c : Thread nD τ).loc main_arg2)
def arg3 : Vec Ideal S16x128x128 .f32 := m ((c : Thread nD τ).loc main_arg3)
def arg4 : Vec Ideal S16x128 .f32 := m ((c : Thread nD τ).loc main_arg4)

/-- The array the kernel leaves. -/
def out : Vec Ideal S4096x2048 .bf16 := res (arg0 m c) (arg1 m c) (arg2 m c) (arg3 m c) (arg4 m c)

/-! ## What each grid point reads -/

theorem N_eq : cfg0.N = 32 := N_0

/-- The chunk a grid point works on. -/
def pt (t : Fin cfg0.N) : Fin 32 := ⟨t.val, lt_of_lt_of_eq t.isLt N_eq⟩

theorem index : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![t.val, 0] :=
  (by decide +kernel : ∀ t : Fin grid0.N, _)

theorem block0 (t : Fin cfg0.N) (s : Fin 128) (k : Fin 6144) :
    (iblk m c 0 t : Vec Ideal S128x6144 .f32) (ix2 s k) = arg0 m c (ix2 (row (pt t) s) k) := by
  obtain ⟨i0, i1, i2, i3, i4, i5⟩ := index t
  unfold iblk
  rw [View.read_apply]
  show V m c main_arg0 _ = arg0 m c _
  rw [V_main_arg0]
  unfold arg0
  congr 1
  funext a
  apply Fin.ext
  match a with
  | ⟨0, _⟩ => show win0_0.index t 0 * 128 + 1 * s.val = 128 * t.val + s.val; rw [i0]; show t.val * 128 + _ = _; omega
  | ⟨1, _⟩ => show win0_0.index t 1 * 6144 + 1 * k.val = k.val; rw [i0]; show 0 * 6144 + _ = _; omega

theorem block1 (t : Fin cfg0.N) (k : Fin 2048) :
    (iblk m c 1 t : Vec Ideal S1x2048 .f32) (ix2 0 k) = arg1 m c (ix2 0 k) := by
  obtain ⟨i0, i1, i2, i3, i4, i5⟩ := index t
  unfold iblk
  rw [View.read_apply]
  show V m c main_arg1 _ = arg1 m c _
  rw [V_main_arg1]
  unfold arg1
  congr 1
  funext a
  apply Fin.ext
  match a with
  | ⟨0, _⟩ => show win0_1.index t 0 * 1 + 1 * 0 = 0; rw [i1]; rfl
  | ⟨1, _⟩ => show win0_1.index t 1 * 2048 + 1 * k.val = k.val; rw [i1]; show 0 * 2048 + _ = _; omega

theorem block2 (t : Fin cfg0.N) (k : Fin 2048) :
    (iblk m c 2 t : Vec Ideal S1x2048 .f32) (ix2 0 k) = arg2 m c (ix2 0 k) := by
  obtain ⟨i0, i1, i2, i3, i4, i5⟩ := index t
  unfold iblk
  rw [View.read_apply]
  show V m c main_arg2 _ = arg2 m c _
  rw [V_main_arg2]
  unfold arg2
  congr 1
  funext a
  apply Fin.ext
  match a with
  | ⟨0, _⟩ => show win0_2.index t 0 * 1 + 1 * 0 = 0; rw [i2]; rfl
  | ⟨1, _⟩ => show win0_2.index t 1 * 2048 + 1 * k.val = k.val; rw [i2]; show 0 * 2048 + _ = _; omega

theorem block3 (t : Fin cfg0.N) (g : Fin 16) (i j : Fin 128) :
    (iblk m c 3 t : Vec Ideal S16x128x128 .f32) (ix3 g i j) = arg3 m c (ix3 g i j) := by
  obtain ⟨i0, i1, i2, i3, i4, i5⟩ := index t
  unfold iblk
  rw [View.read_apply]
  show V m c main_arg3 _ = arg3 m c _
  rw [V_main_arg3]
  unfold arg3
  congr 1
  funext a
  apply Fin.ext
  match a with
  | ⟨0, _⟩ => show win0_3.index t 0 * 16 + 1 * g.val = g.val; rw [i3]; show 0 * 16 + _ = _; omega
  | ⟨1, _⟩ => show win0_3.index t 1 * 128 + 1 * i.val = i.val; rw [i3]; show 0 * 128 + _ = _; omega
  | ⟨2, _⟩ => show win0_3.index t 2 * 128 + 1 * j.val = j.val; rw [i3]; show 0 * 128 + _ = _; omega

/-- The bias the kernel is handed: transposed, with zeros in the lanes past the groups. -/
def bias : Vec Ideal S128x128 .f32 :=
  pad S128x128 ![0, 0] ![0, 112] ![0, 0] (transpose S128x16 [1, 0] (arg4 m c) transposes_S16x128_S128x16_1_0)
    (sitofp (F := Ideal) .f32 (constantI S_ 32 0#32)) pads_S128x16_S128x128_000_01120 h_S_

theorem V_bias : V m c main_v1 = bias m c := rfl

theorem bias_apply (t : Fin 128) (g : Fin 16) : bias m c (ix2 t ⟨g.val, by omega⟩) = arg4 m c (ix2 g t) := by
  have h := g.isLt
  unfold bias
  pointwise []
  first | done | rfl | rw [dif_pos h]

theorem block4 (t : Fin cfg0.N) (i l : Fin 128) :
    (iblk m c 4 t : Vec Ideal S128x128 .f32) (ix2 i l) = bias m c (ix2 i l) := by
  obtain ⟨i0, i1, i2, i3, i4, i5⟩ := index t
  unfold iblk
  rw [View.read_apply]
  show V m c main_v1 _ = bias m c _
  rw [V_bias]
  congr 1
  funext a
  apply Fin.ext
  match a with
  | ⟨0, _⟩ => show win0_4.index t 0 * 128 + 1 * i.val = i.val; rw [i4]; show 0 * 128 + _ = _; omega
  | ⟨1, _⟩ => show win0_4.index t 1 * 128 + 1 * l.val = l.val; rw [i4]; show 0 * 128 + _ = _; omega

/-- The blocks a grid point reads hold its chunk. -/
theorem chunk_eq (t : Fin cfg0.N) :
    chunk (iblk m c 0 t) (iblk m c 1 t) (iblk m c 2 t) (iblk m c 3 t) (iblk m c 4 t)
      = forward (arg0 m c) (arg1 m c) (arg2 m c) (arg3 m c) (arg4 m c) (pt t) := by
  unfold chunk Cert.KernelIdeal.Block.chunk forward chunkOf
  congr 1
  · exact funext fun s => funext fun k => block0 m c t s (uCol k)
  · exact funext fun s => funext fun k => block0 m c t s (vCol k)
  · exact funext fun s => funext fun k => block0 m c t s (zCol k)
  · exact funext fun k => block1 m c t k
  · exact funext fun k => block2 m c t k
  · exact funext fun g => funext fun i => funext fun j => block3 m c t g i j
  · exact funext fun i => funext fun g => (block4 m c t i _).trans (bias_apply m c i g)

/-! ## What the grid leaves -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- What a grid point leaves in the result's buffer: the block it stores. -/
theorem buffer_eq (x0 : Vec Ideal S128x6144 .f32) (x1 x2 : Vec Ideal S1x2048 .f32) (x3 : Vec Ideal S16x128x128 .f32)
    (x4 : Vec Ideal S128x128 .f32) : out0_5 x0 x1 x2 x3 x4 = stored x0 x1 x2 x3 x4 := by
  have l0 : View.ld x0 r0_0 = x0 := View.ld_unit_zero (S := S128x6144) zeros2 _ _
  have l1 : View.ld x1 r0_1 = x1 := View.ld_unit_zero (S := S1x2048) zeros2 _ _
  have l2 : View.ld x2 r0_1 = x2 := View.ld_unit_zero (S := S1x2048) zeros2 _ _
  have l3 : View.ld x3 r0_2 = x3 := View.ld_unit_zero (S := S16x128x128) zeros3 _ _
  have l4 : View.ld x4 r0_3 = x4 := View.ld_unit_zero (S := S128x128) zeros2 _ _
  unfold out0_5 k0_pay33 k0_pay32 k0_pay31 k0_pay30 k0_pay29
  rw [View.canon_unit_zero (S := S128x2048) zeros2, l0, l1, l2, l3, l4]
  exact congrArg (k0_pay2 (k0_pay3 x4) (k0_pay4 x0) (k0_pay5 x0)) rfl

theorem written (t : Fin cfg0.N) : (dats m 0 c).after 5 t
    = stored (iblk m c 0 t) (iblk m c 1 t) (iblk m c 2 t) (iblk m c 3 t) (iblk m c 4 t) :=
  (after0_5 m c t).trans (buffer_eq ..)

/-- Entry by entry. -/
theorem entry (t : Fin cfg0.N) (s : Fin 128) (k : Fin 2048) :
    stored (iblk m c 0 t) (iblk m c 1 t) (iblk m c 2 t) (iblk m c 3 t) (iblk m c 4 t) (ix2 s k)
      = out m c (ix2 (row (pt t) s) k) := by
  rw [stored_apply, chunk_eq]
  show _ = (forward (arg0 m c) (arg1 m c) (arg2 m c) (arg3 m c) (arg4 m c) (chunkNo (row (pt t) s))).out
    (rowIn (row (pt t) s)) k
  rw [chunkNo_row, rowIn_row]

theorem final : (dats m 0 c).arrAt 5 cfg0.N = out m c := by
  refine (dats m 0 c).arrAt_eq_of_covers 5 _ (by decide +kernel) fun t hf y => ?_
  obtain ⟨i0, i1, i2, i3, i4, i5⟩ := index t
  have ht : t.val < 32 := lt_of_lt_of_eq t.isLt N_eq
  blk_simp
  rw [written]
  have e : (win0_5.blk t).view.emb y = (ix2 (row (pt t) (y 0)) (y 1) : S4096x2048.Idx) := funext fun a => Fin.ext (by
    match a with
    | ⟨0, _⟩ =>
      show win0_5.index t 0 * 128 + 1 * (y 0).val = 128 * t.val + (y 0).val
      rw [i5]; show t.val * 128 + _ = _; omega
    | ⟨1, _⟩ =>
      show win0_5.index t 1 * 2048 + 1 * (y 1).val = (y 1).val
      rw [i5]; show 0 * 2048 + _ = _; omega)
  exact (congrArg _ (eq_ix2 y)).trans ((entry m c t (y 0) (y 1)).trans (congrArg (out m c) e.symm))

end Cert.Kernel34Ideal.Mix

namespace Cert.Proof.SgForward
open Cert.Kernel34Ideal.Mix Cert.Gating

/-- The kernel runs to the end and keeps its operands. -/
theorem frame_kernel : Cert.quiescent_Kernel34 := fun m ρ _ => Cert.Kernel34.Gen.frame m ρ

/-- So does the kernel over the extended reals. -/
theorem frame_ideal : Cert.quiescent_Kernel34Ideal := fun m ρ _ => Cert.Kernel34Ideal.Gen.frame m ρ

/-- So does the reference. -/
theorem frame_reference : Cert.quiescent_Reference34Ideal := fun m ρ _ =>
  (θ_run Cert.Reference34Ideal.defs _ _).mono
    (fun r h => ⟨fun c => (h c).2, sem_eq_zero_of_no_sems (by decide) r.2⟩)
    (Cert.Reference34Ideal.Value.run (F := Ideal) m ρ)

/-- No operation of the kernel was replaced. -/
theorem preserves : Cert.preserves_Kernel34_Kernel34Ideal := trivial

/-- The reference's array is the same, entry by entry. -/
theorem value (p : Vec Ideal Cert.Reference34Ideal.S4096x6144 .f32) (lg lb : Vec Ideal Cert.Reference34Ideal.S1x2048 .f32)
    (w : Vec Ideal Cert.Reference34Ideal.S16x128x128 .f32) (b : Vec Ideal Cert.Reference34Ideal.S16x128 .f32) :
    Cert.Reference34Ideal.Mix.outVec p lg lb w b = res p lg lb w b := by
  refine ext2 fun r k => ?_
  have h := Cert.Reference34Ideal.Mix.out_apply k p lg lb w b (chunkNo r) (rowIn r)
  rw [row_chunk] at h
  exact h

/-- Kernel and reference, started on the same operands, end with the same rows. -/
theorem algebraic : Cert.algebraic_Kernel34Ideal_Reference34Ideal := by
  intro m ρ m' ρ' _ hagree
  refine ⟨fun c => out m c,
    (θ_run Cert.Kernel34Ideal.defs _ _).mono (fun r h c => ⟨(h c).1.trans (final m c), (h c).2⟩)
      (Cert.Kernel34Ideal.Value.run_blocks m ρ),
    (θ_run Cert.Reference34Ideal.defs _ _).mono (fun r h c => ⟨(h c).1.trans ?_, (h c).2⟩)
      (Cert.Reference34Ideal.Value.run (F := Ideal) m' ρ')⟩
  obtain ⟨a0, a1, a2, a3, a4⟩ := hagree c
  refine (Cert.Reference34Ideal.Mix.result_eq m' c).trans ((value ..).trans ?_)
  rw [a0, a1, a2, a3, a4]
  rfl

end Cert.Proof.SgForward
-- ==== Proof.lean ====
/-
  The certificate: every claim of the test, from the modules that prove it.
-/
module

public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Value
public import proofs.«01_k».proof.Proof.Gen.Reference29Ideal
public import proofs.«01_k».proof.Proof.Gen.Reference29Ideal.Run
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Value
public import proofs.«01_k».proof.Proof.Gen.Reference30Ideal
public import proofs.«01_k».proof.Proof.Gen.Reference30Ideal.Run
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Value
public import proofs.«01_k».proof.Proof.Gen.Reference31Ideal
public import proofs.«01_k».proof.Proof.Gen.Reference31Ideal.Run
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Value
public import proofs.«01_k».proof.Proof.Gen.Reference32Ideal
public import proofs.«01_k».proof.Proof.Gen.Reference32Ideal.Run
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Value
public import proofs.«01_k».proof.Proof.Gen.Reference33Ideal
public import proofs.«01_k».proof.Proof.Gen.Reference33Ideal.Run
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Value
public import proofs.«01_k».proof.Proof.Gen.Reference34Ideal
public import proofs.«01_k».proof.Proof.Gen.Reference34Ideal.Run
public import proofs.«01_k».proof.Proof.GateClaims
public import proofs.«01_k».proof.Proof.MixerOutInput
public import proofs.«01_k».proof.Proof.MixerOutWeights
public import proofs.«01_k».proof.Proof.GateInWeights
public import proofs.«01_k».proof.Proof.GateInInput
public import proofs.«01_k».proof.Proof.AttnInWeights
public import proofs.«01_k».proof.Proof.AttnInInput
public import proofs.«01_k».proof.Proof.RwkvInWeights
public import proofs.«01_k».proof.Proof.RwkvInInput
public import proofs.«01_k».proof.Proof.GateIn
public import proofs.«01_k».proof.Proof.MixerOut
public import proofs.«01_k».proof.Proof.AdamPlain
public import proofs.«01_k».proof.Proof.AdamHeads
public import proofs.«01_k».proof.Proof.AdamOut
public import proofs.«01_k».proof.Proof.AdamSpatial
public import proofs.«01_k».proof.Proof.AdamIn
public import proofs.«01_k».proof.Proof.ModWeights
public import proofs.«01_k».proof.Proof.DeviceSums
public import proofs.«01_k».proof.Proof.LossClaims
public import proofs.«01_k».proof.Proof.RwkvNarrow
public import proofs.«01_k».proof.Proof.AdaNorm
public import proofs.«01_k».proof.Proof.SgForward

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    GateClaims.frame_kernel, GateClaims.frame_ideal, GateClaims.frame_reference,
    MixerOutInput.frame_kernel, MixerOutInput.frame_ideal, MixerOutInput.frame_reference,
    MixerOutWeights.frame_kernel, MixerOutWeights.frame_ideal, MixerOutWeights.frame_reference,
    GateInWeights.frame_kernel, GateInWeights.frame_ideal, GateInWeights.frame_reference,
    GateInInput.frame_kernel, GateInInput.frame_ideal, GateInInput.frame_reference,
    AttnInWeights.frame_kernel, AttnInWeights.frame_ideal, AttnInWeights.frame_reference,
    AttnInInput.frame_kernel, AttnInInput.frame_ideal, AttnInInput.frame_reference,
    RwkvInWeights.frame_kernel, RwkvInWeights.frame_ideal, RwkvInWeights.frame_reference,
    RwkvInInput.frame_kernel, RwkvInInput.frame_ideal, RwkvInInput.frame_reference,
    GateIn.frame_kernel, GateIn.frame_ideal, GateIn.frame_reference,
    MixerOut.frame_kernel, MixerOut.frame_ideal, MixerOut.frame_reference,
    AdamNorm.frame_kernel, AdamNorm.frame_ideal, AdamNorm.frame_reference,
    AdamModBias.frame_kernel, AdamModBias.frame_ideal, AdamModBias.frame_reference,
    AdamLastNorm.frame_kernel, AdamLastNorm.frame_ideal, AdamLastNorm.frame_reference,
    AdamGateOut.frame_kernel, AdamGateOut.frame_ideal, AdamGateOut.frame_reference,
    AdamLayerNorm.frame_kernel, AdamLayerNorm.frame_ideal, AdamLayerNorm.frame_reference,
    AdamMixWeights.frame_kernel, AdamMixWeights.frame_ideal, AdamMixWeights.frame_reference,
    AdamMixBias.frame_kernel, AdamMixBias.frame_ideal, AdamMixBias.frame_reference,
    AdamAttnIn.frame_kernel, AdamAttnIn.frame_ideal, AdamAttnIn.frame_reference,
    AdamMixerOut.frame_kernel, AdamMixerOut.frame_ideal, AdamMixerOut.frame_reference,
    AdamSinks.frame_kernel, AdamSinks.frame_ideal, AdamSinks.frame_reference,
    AdamShift.frame_kernel, AdamShift.frame_ideal, AdamShift.frame_reference,
    AdamVector.frame_kernel, AdamVector.frame_ideal, AdamVector.frame_reference,
    AdamLora.frame_kernel, AdamLora.frame_ideal, AdamLora.frame_reference,
    AdamBonus.frame_kernel, AdamBonus.frame_ideal, AdamBonus.frame_reference,
    ModWeights.frame_kernel, ModWeights.frame_ideal, ModWeights.frame_reference,
    ModBias.frame_kernel, ModBias.frame_ideal, ModBias.frame_reference,
    Replicated.frame_kernel, Replicated.frame_ideal, Replicated.frame_reference,
    Loss.frame_kernel, Loss.frame_ideal, Loss.frame_reference,
    RwkvNarrow.frame_kernel, RwkvNarrow.frame_ideal, RwkvNarrow.frame_reference,
    RwkvNarrowInput.frame_kernel, RwkvNarrowInput.frame_ideal, RwkvNarrowInput.frame_reference,
    AdaNorm.frame_kernel, AdaNorm.frame_ideal, AdaNorm.frame_reference,
    RwkvNarrowWeights.frame_kernel, RwkvNarrowWeights.frame_ideal, RwkvNarrowWeights.frame_reference,
    SgForward.frame_kernel, SgForward.frame_ideal, SgForward.frame_reference,
    GateClaims.preserves, GateClaims.algebraic,
    MixerOutInput.preserves, MixerOutInput.algebraic,
    MixerOutWeights.preserves, MixerOutWeights.algebraic,
    GateInWeights.preserves, GateInWeights.algebraic,
    GateInInput.preserves, GateInInput.algebraic,
    AttnInWeights.preserves, AttnInWeights.algebraic,
    AttnInInput.preserves, AttnInInput.algebraic,
    RwkvInWeights.preserves, RwkvInWeights.algebraic,
    RwkvInInput.preserves, RwkvInInput.algebraic,
    GateIn.preserves, GateIn.algebraic,
    MixerOut.preserves, MixerOut.algebraic,
    AdamNorm.preserves, AdamNorm.algebraic,
    AdamModBias.preserves, AdamModBias.algebraic,
    AdamLastNorm.preserves, AdamLastNorm.algebraic,
    AdamGateOut.preserves, AdamGateOut.algebraic,
    AdamLayerNorm.preserves, AdamLayerNorm.algebraic,
    AdamMixWeights.preserves, AdamMixWeights.algebraic,
    AdamMixBias.preserves, AdamMixBias.algebraic,
    AdamAttnIn.preserves, AdamAttnIn.algebraic,
    AdamMixerOut.preserves, AdamMixerOut.algebraic,
    AdamSinks.preserves, AdamSinks.algebraic,
    AdamShift.preserves, AdamShift.algebraic,
    AdamVector.preserves, AdamVector.algebraic,
    AdamLora.preserves, AdamLora.algebraic,
    AdamBonus.preserves, AdamBonus.algebraic,
    ModWeights.preserves, ModWeights.algebraic,
    ModBias.preserves, ModBias.algebraic,
    Replicated.preserves, Replicated.algebraic,
    Loss.preserves, Loss.algebraic,
    RwkvNarrow.preserves, RwkvNarrow.algebraic,
    RwkvNarrowInput.preserves, RwkvNarrowInput.algebraic,
    AdaNorm.preserves, AdaNorm.algebraic,
    RwkvNarrowWeights.preserves, RwkvNarrowWeights.algebraic,
    SgForward.preserves, SgForward.algebraic⟩

end Cert.Proof

end
